-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v452) = v0 c
          ∧ r.2.mem ((c.tc : Thread Cert.ReferenceIdeal.nD Cert.ReferenceIdeal.τ).loc Cert.ReferenceIdeal.main_v453) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_pool : Cert.Pre_in_pool.Facts) (hPre_fits : Cert.Pre_fits.Facts),
    quiescent_Kernel (hKernel := hKernel) (hPre_in_pool := hPre_in_pool)
    ∧ quiescent_KernelIdeal (hKernelIdeal := hKernelIdeal) (hPre_in_pool := hPre_in_pool)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal_pre_fits (hKernelIdeal := hKernelIdeal) (hReferenceIdeal := hReferenceIdeal) (hPre_fits := hPre_fits)
-- ==== Pre_fits.lean ====
abbrev S6x1152x6144 : Shape := ⟨3, ![6, 1152, 6144]⟩
abbrev S768x16384 : Shape := ⟨2, ![768, 16384]⟩
abbrev S48x16384 : Shape := ⟨2, ![48, 16384]⟩
abbrev S3x600x6144 : Shape := ⟨3, ![3, 600, 6144]⟩
abbrev S600x16384 : Shape := ⟨2, ![600, 16384]⟩
abbrev S7 : Shape := ⟨1, ![7]⟩
abbrev S7x3 : Shape := ⟨2, ![7, 3]⟩
abbrev S6 : Shape := ⟨1, ![6]⟩
abbrev S5 : Shape := ⟨1, ![5]⟩
abbrev S9 : Shape := ⟨1, ![9]⟩
abbrev S_ : Shape := ⟨0, ![]⟩
abbrev S1 : Shape := ⟨1, ![1]⟩

class Facts : Prop where
  bcast_S_S9 : S_.BroadcastsInDim S9 (![] : Fin 0 → Fin S9.rank)
  slices_S6_S1_0 : S6.Slices ![0] S1
  shapeCasts_S1_S_ : S1.ShapeCasts S_
  slices_S6_S1_1 : S6.Slices ![1] S1
  natLt_1_32 : 1 < 32
  slices_S6_S1_2 : S6.Slices ![2] S1
  slices_S6_S1_3 : S6.Slices ![3] S1
  slices_S6_S1_4 : S6.Slices ![4] S1
  slices_S6_S1_5 : S6.Slices ![5] S1
  bcast_S_S5 : S_.BroadcastsInDim S5 (![] : Fin 0 → Fin S5.rank)
  reducesTo_S5_S_d0 : S5.ReducesTo [0] S_
  h_S_ : 0 < S_.numel
  bcast_S_S7 : S_.BroadcastsInDim S7 (![] : Fin 0 → Fin S7.rank)
  reducesTo_S7_S_d0 : S7.ReducesTo [0] S_
  reducesTo_S9_S_d0 : S9.ReducesTo [0] S_

variable [Facts]

def fn_part5 {F : FTy → Type} [FloatOps F] (main_v83 : IVec S9 32) (main_v101 : IVec S_ 1) (main_v102 : IVec S7 32) (main_c_15 : IVec S_ 32) : IVec S_ 1 :=
  let main_v103 : IVec S7 32 := broadcastInDim S7 ![] bcast_S_S7 main_c_15
  let main_v104 : IVec S7 1 := cmpi .sle main_v102 main_v103
  let main_c_16 : IVec S_ 1 := constantI S_ 1 1#1
  let main_v105 : IVec S_ 1 := (fun x v => Host.reduce IntOp.andi x v reducesTo_S7_S_d0 h_S_) main_v104 main_c_16
  let main_v106 : IVec S_ 1 := andi main_v101 main_v105
  let main_c_17 : IVec S_ 32 := constantI S_ 32 3#32
  let main_v107 : IVec S9 32 := broadcastInDim S9 ![] bcast_S_S9 main_c_17
  let main_v108 : IVec S9 1 := cmpi .sle main_v83 main_v107
  let main_c_18 : IVec S_ 1 := constantI S_ 1 1#1
  let main_v109 : IVec S_ 1 := (fun x v => Host.reduce IntOp.andi x v reducesTo_S9_S_d0 h_S_) main_v108 main_c_18
  let main_v110 : IVec S_ 1 := andi main_v106 main_v109
  main_v110

def fn_part4 {F : FTy → Type} [FloatOps F] (main_arg5 : IVec S7 32) (main_arg6 : IVec S7 32) (main_arg9 : IVec S5 32) (main_v83 : IVec S9 32) (main_v85 : IVec S5 1) (main_v86 : IVec S5 32) : IVec S_ 1 :=
  let main_v87 : IVec S5 1 := cmpi .slt main_arg9 main_v86
  let main_v88 : IVec S5 1 := andi main_v85 main_v87
  let main_c_8 : IVec S_ 1 := constantI S_ 1 1#1
  let main_v89 : IVec S_ 1 := (fun x v => Host.reduce IntOp.andi x v reducesTo_S5_S_d0 h_S_) main_v88 main_c_8
  let main_c_9 : IVec S_ 32 := constantI S_ 32 0#32
  let main_v90 : IVec S7 32 := broadcastInDim S7 ![] bcast_S_S7 main_c_9
  let main_v91 : IVec S7 1 := cmpi .sge main_arg5 main_v90
  let main_c_10 : IVec S_ 1 := constantI S_ 1 1#1
  let main_v92 : IVec S_ 1 := (fun x v => Host.reduce IntOp.andi x v reducesTo_S7_S_d0 h_S_) main_v91 main_c_10
  let main_v93 : IVec S_ 1 := andi main_v89 main_v92
  let main_c_11 : IVec S_ 32 := constantI S_ 32 536#32
  let main_v94 : IVec S7 32 := broadcastInDim S7 ![] bcast_S_S7 main_c_11
  let main_v95 : IVec S7 1 := cmpi .sle main_arg5 main_v94
  let main_c_12 : IVec S_ 1 := constantI S_ 1 1#1
  let main_v96 : IVec S_ 1 := (fun x v => Host.reduce IntOp.andi x v reducesTo_S7_S_d0 h_S_) main_v95 main_c_12
  let main_v97 : IVec S_ 1 := andi main_v93 main_v96
  let main_c_13 : IVec S_ 32 := constantI S_ 32 64#32
  let main_v98 : IVec S7 32 := broadcastInDim S7 ![] bcast_S_S7 main_c_13
  let main_v99 : IVec S7 1 := cmpi .sle main_arg6 main_v98
  let main_c_14 : IVec S_ 1 := constantI S_ 1 1#1
  let main_v100 : IVec S_ 1 := (fun x v => Host.reduce IntOp.andi x v reducesTo_S7_S_d0 h_S_) main_v99 main_c_14
  let main_v101 : IVec S_ 1 := andi main_v97 main_v100
  let main_v102 : IVec S7 32 := addi main_arg5 main_arg6
  let main_c_15 : IVec S_ 32 := constantI S_ 32 592#32
  fn_part5 (F := F) main_v83 main_v101 main_v102 main_c_15

def fn_part3 {F : FTy → Type} [FloatOps F] (main_arg5 : IVec S7 32) (main_arg6 : IVec S7 32) (main_arg8 : IVec S6 32) (main_arg9 : IVec S5 32) (main_v2 : IVec S9 32) (main_v51 : IVec S9 32) (main_v65 : IVec S9 1) : IVec S_ 1 :=
  let main_v66 : IVec S9 32 := (extui 32 · natLt_1_32) main_v65
  let main_v67 : IVec S9 32 := addi main_v51 main_v66
  let main_v68 : IVec S1 32 := (extractStridedSlice S1 ![4] · slices_S6_S1_4) main_arg8
  let main_v69 : IVec S_ 32 := shapeCast S_ main_v68 shapeCasts_S1_S_
  let main_v70 : IVec S1 32 := (extractStridedSlice S1 ![5] · slices_S6_S1_5) main_arg8
  let main_v71 : IVec S_ 32 := shapeCast S_ main_v70 shapeCasts_S1_S_
  let main_c_5 : IVec S_ 32 := constantI S_ 32 768#32
  let main_v72 : IVec S9 32 := broadcastInDim S9 ![] bcast_S_S9 main_c_5
  let main_v73 : IVec S9 32 := addi main_v2 main_v72
  let main_v74 : IVec S9 32 := broadcastInDim S9 ![] bcast_S_S9 main_v69
  let main_v75 : IVec S9 1 := cmpi .slt main_v74 main_v73
  let main_v76 : IVec S9 32 := broadcastInDim S9 ![] bcast_S_S9 main_v71
  let main_v77 : IVec S9 1 := cmpi .sgt main_v76 main_v2
  let main_v78 : IVec S9 1 := andi main_v75 main_v77
  let main_v79 : IVec S_ 1 := cmpi .sgt main_v71 main_v69
  let main_v80 : IVec S9 1 := broadcastInDim S9 ![] bcast_S_S9 main_v79
  let main_v81 : IVec S9 1 := andi main_v78 main_v80
  let main_v82 : IVec S9 32 := (extui 32 · natLt_1_32) main_v81
  let main_v83 : IVec S9 32 := addi main_v67 main_v82
  let main_c_6 : IVec S_ 32 := constantI S_ 32 0#32
  let main_v84 : IVec S5 32 := broadcastInDim S5 ![] bcast_S_S5 main_c_6
  let main_v85 : IVec S5 1 := cmpi .sge main_arg9 main_v84
  let main_c_7 : IVec S_ 32 := constantI S_ 32 7#32
  let main_v86 : IVec S5 32 := broadcastInDim S5 ![] bcast_S_S5 main_c_7
  fn_part4 (F := F) main_arg5 main_arg6 main_arg9 main_v83 main_v85 main_v86

def fn_part2 {F : FTy → Type} [FloatOps F] (main_arg5 : IVec S7 32) (main_arg6 : IVec S7 32) (main_arg8 : IVec S6 32) (main_arg9 : IVec S5 32) (main_v2 : IVec S9 32) (main_v35 : IVec S9 32) (main_v37 : IVec S_ 32) (main_v39 : IVec S_ 32) (main_v41 : IVec S9 32) (main_v42 : IVec S9 32) : IVec S_ 1 :=
  let main_v43 : IVec S9 1 := cmpi .slt main_v42 main_v41
  let main_v44 : IVec S9 32 := broadcastInDim S9 ![] bcast_S_S9 main_v39
  let main_v45 : IVec S9 1 := cmpi .sgt main_v44 main_v2
  let main_v46 : IVec S9 1 := andi main_v43 main_v45
  let main_v47 : IVec S_ 1 := cmpi .sgt main_v39 main_v37
  let main_v48 : IVec S9 1 := broadcastInDim S9 ![] bcast_S_S9 main_v47
  let main_v49 : IVec S9 1 := andi main_v46 main_v48
  let main_v50 : IVec S9 32 := (extui 32 · natLt_1_32) main_v49
  let main_v51 : IVec S9 32 := addi main_v35 main_v50
  let main_v52 : IVec S1 32 := (extractStridedSlice S1 ![3] · slices_S6_S1_3) main_arg8
  let main_v53 : IVec S_ 32 := shapeCast S_ main_v52 shapeCasts_S1_S_
  let main_v54 : IVec S1 32 := (extractStridedSlice S1 ![4] · slices_S6_S1_4) main_arg8
  let main_v55 : IVec S_ 32 := shapeCast S_ main_v54 shapeCasts_S1_S_
  let main_c_4 : IVec S_ 32 := constantI S_ 32 768#32
  let main_v56 : IVec S9 32 := broadcastInDim S9 ![] bcast_S_S9 main_c_4
  let main_v57 : IVec S9 32 := addi main_v2 main_v56
  let main_v58 : IVec S9 32 := broadcastInDim S9 ![] bcast_S_S9 main_v53
  let main_v59 : IVec S9 1 := cmpi .slt main_v58 main_v57
  let main_v60 : IVec S9 32 := broadcastInDim S9 ![] bcast_S_S9 main_v55
  let main_v61 : IVec S9 1 := cmpi .sgt main_v60 main_v2
  let main_v62 : IVec S9 1 := andi main_v59 main_v61
  let main_v63 : IVec S_ 1 := cmpi .sgt main_v55 main_v53
  let main_v64 : IVec S9 1 := broadcastInDim S9 ![] bcast_S_S9 main_v63
  let main_v65 : IVec S9 1 := andi main_v62 main_v64
  fn_part3 (F := F) main_arg5 main_arg6 main_arg8 main_arg9 main_v2 main_v51 main_v65

def fn_part1 {F : FTy → Type} [FloatOps F] (main_arg5 : IVec S7 32) (main_arg6 : IVec S7 32) (main_arg8 : IVec S6 32) (main_arg9 : IVec S5 32) (main_v2 : IVec S9 32) (main_v19 : IVec S9 32) (main_v20 : IVec S1 32) : IVec S_ 1 :=
  let main_v21 : IVec S_ 32 := shapeCast S_ main_v20 shapeCasts_S1_S_
  let main_v22 : IVec S1 32 := (extractStridedSlice S1 ![2] · slices_S6_S1_2) main_arg8
  let main_v23 : IVec S_ 32 := shapeCast S_ main_v22 shapeCasts_S1_S_
  let main_c_2 : IVec S_ 32 := constantI S_ 32 768#32
  let main_v24 : IVec S9 32 := broadcastInDim S9 ![] bcast_S_S9 main_c_2
  let main_v25 : IVec S9 32 := addi main_v2 main_v24
  let main_v26 : IVec S9 32 := broadcastInDim S9 ![] bcast_S_S9 main_v21
  let main_v27 : IVec S9 1 := cmpi .slt main_v26 main_v25
  let main_v28 : IVec S9 32 := broadcastInDim S9 ![] bcast_S_S9 main_v23
  let main_v29 : IVec S9 1 := cmpi .sgt main_v28 main_v2
  let main_v30 : IVec S9 1 := andi main_v27 main_v29
  let main_v31 : IVec S_ 1 := cmpi .sgt main_v23 main_v21
  let main_v32 : IVec S9 1 := broadcastInDim S9 ![] bcast_S_S9 main_v31
  let main_v33 : IVec S9 1 := andi main_v30 main_v32
  let main_v34 : IVec S9 32 := (extui 32 · natLt_1_32) main_v33
  let main_v35 : IVec S9 32 := addi main_v19 main_v34
  let main_v36 : IVec S1 32 := (extractStridedSlice S1 ![2] · slices_S6_S1_2) main_arg8
  let main_v37 : IVec S_ 32 := shapeCast S_ main_v36 shapeCasts_S1_S_
  let main_v38 : IVec S1 32 := (extractStridedSlice S1 ![3] · slices_S6_S1_3) main_arg8
  let main_v39 : IVec S_ 32 := shapeCast S_ main_v38 shapeCasts_S1_S_
  let main_c_3 : IVec S_ 32 := constantI S_ 32 768#32
  let main_v40 : IVec S9 32 := broadcastInDim S9 ![] bcast_S_S9 main_c_3
  let main_v41 : IVec S9 32 := addi main_v2 main_v40
  let main_v42 : IVec S9 32 := broadcastInDim S9 ![] bcast_S_S9 main_v37
  fn_part2 (F := F) main_arg5 main_arg6 main_arg8 main_arg9 main_v2 main_v35 main_v37 main_v39 main_v41 main_v42

def fn {F : FTy → Type} [FloatOps F] (main_arg0 : FVec F S6x1152x6144 .bf16) (main_arg1 : IVec S768x16384 32) (main_arg2 : FVec F S48x16384 .bf16) (main_arg3 : FVec F S3x600x6144 .bf16) (main_arg4 : FVec F S600x16384 .bf16) (main_arg5 : IVec S7 32) (main_arg6 : IVec S7 32) (main_arg7 : FVec F S7x3 .f32) (main_arg8 : IVec S6 32) (main_arg9 : IVec S5 32) : IVec S_ 1 :=
  let main_v0 : IVec S9 32 := iotaInDim S9 32 0
  let main_c : IVec S_ 32 := constantI S_ 32 768#32
  let main_v1 : IVec S9 32 := broadcastInDim S9 ![] bcast_S_S9 main_c
  let main_v2 : IVec S9 32 := muli main_v1 main_v0
  let main_c_0 : IVec S_ 32 := constantI S_ 32 0#32
  let main_v3 : IVec S9 32 := broadcastInDim S9 ![] bcast_S_S9 main_c_0
  let main_v4 : IVec S1 32 := (extractStridedSlice S1 ![0] · slices_S6_S1_0) main_arg8
  let main_v5 : IVec S_ 32 := shapeCast S_ main_v4 shapeCasts_S1_S_
  let main_v6 : IVec S1 32 := (extractStridedSlice S1 ![1] · slices_S6_S1_1) main_arg8
  let main_v7 : IVec S_ 32 := shapeCast S_ main_v6 shapeCasts_S1_S_
  let main_c_1 : IVec S_ 32 := constantI S_ 32 768#32
  let main_v8 : IVec S9 32 := broadcastInDim S9 ![] bcast_S_S9 main_c_1
  let main_v9 : IVec S9 32 := addi main_v2 main_v8
  let main_v10 : IVec S9 32 := broadcastInDim S9 ![] bcast_S_S9 main_v5
  let main_v11 : IVec S9 1 := cmpi .slt main_v10 main_v9
  let main_v12 : IVec S9 32 := broadcastInDim S9 ![] bcast_S_S9 main_v7
  let main_v13 : IVec S9 1 := cmpi .sgt main_v12 main_v2
  let main_v14 : IVec S9 1 := andi main_v11 main_v13
  let main_v15 : IVec S_ 1 := cmpi .sgt main_v7 main_v5
  let main_v16 : IVec S9 1 := broadcastInDim S9 ![] bcast_S_S9 main_v15
  let main_v17 : IVec S9 1 := andi main_v14 main_v16
  let main_v18 : IVec S9 32 := (extui 32 · natLt_1_32) main_v17
  let main_v19 : IVec S9 32 := addi main_v3 main_v18
  let main_v20 : IVec S1 32 := (extractStridedSlice S1 ![1] · slices_S6_S1_1) main_arg8
  fn_part1 (F := F) main_arg5 main_arg6 main_arg8 main_arg9 main_v2 main_v19 main_v20
-- ==== Pre_in_pool.lean ====
abbrev S6x1152x6144 : Shape := ⟨3, ![6, 1152, 6144]⟩
abbrev S768x16384 : Shape := ⟨2, ![768, 16384]⟩
abbrev S48x16384 : Shape := ⟨2, ![48, 16384]⟩
abbrev S3x600x6144 : Shape := ⟨3, ![3, 600, 6144]⟩
abbrev S600x16384 : Shape := ⟨2, ![600, 16384]⟩
abbrev S7 : Shape := ⟨1, ![7]⟩
abbrev S7x3 : Shape := ⟨2, ![7, 3]⟩
abbrev S6 : Shape := ⟨1, ![6]⟩
abbrev S5 : Shape := ⟨1, ![5]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel
  bcast_S_S7 : S_.BroadcastsInDim S7 (![] : Fin 0 → Fin S7.rank)
  reducesTo_S7_S_d0 : S7.ReducesTo [0] S_

variable [Facts]

def fn {F : FTy → Type} [FloatOps F] (main_arg0 : FVec F S6x1152x6144 .bf16) (main_arg1 : IVec S768x16384 32) (main_arg2 : FVec F S48x16384 .bf16) (main_arg3 : FVec F S3x600x6144 .bf16) (main_arg4 : FVec F S600x16384 .bf16) (main_arg5 : IVec S7 32) (main_arg6 : IVec S7 32) (main_arg7 : FVec F S7x3 .f32) (main_arg8 : IVec S6 32) (main_arg9 : IVec S5 32) : IVec S_ 1 :=
  let main_c : IVec S_ 32 := constantI S_ 32 0#32
  let main_v0 : IVec S5 32 := broadcastInDim S5 ![] bcast_S_S5 main_c
  let main_v1 : IVec S5 1 := cmpi .sge main_arg9 main_v0
  let main_c_0 : IVec S_ 32 := constantI S_ 32 7#32
  let main_v2 : IVec S5 32 := broadcastInDim S5 ![] bcast_S_S5 main_c_0
  let main_v3 : IVec S5 1 := cmpi .slt main_arg9 main_v2
  let main_v4 : IVec S5 1 := andi main_v1 main_v3
  let main_c_1 : IVec S_ 1 := constantI S_ 1 1#1
  let main_v5 : IVec S_ 1 := (fun x v => Host.reduce IntOp.andi x v reducesTo_S5_S_d0 h_S_) main_v4 main_c_1
  let main_c_2 : IVec S_ 32 := constantI S_ 32 0#32
  let main_v6 : IVec S7 32 := broadcastInDim S7 ![] bcast_S_S7 main_c_2
  let main_v7 : IVec S7 1 := cmpi .sge main_arg5 main_v6
  let main_c_3 : IVec S_ 1 := constantI S_ 1 1#1
  let main_v8 : IVec S_ 1 := (fun x v => Host.reduce IntOp.andi x v reducesTo_S7_S_d0 h_S_) main_v7 main_c_3
  let main_v9 : IVec S_ 1 := andi main_v5 main_v8
  main_v9
-- ==== Kernel.lean ====
abbrev S6x1152x6144 : Shape := ⟨3, ![6, 1152, 6144]⟩
abbrev S768x16384 : Shape := ⟨2, ![768, 16384]⟩
abbrev S48x16384 : Shape := ⟨2, ![48, 16384]⟩
abbrev S3x600x6144 : Shape := ⟨3, ![3, 600, 6144]⟩
abbrev S600x16384 : Shape := ⟨2, ![600, 16384]⟩
abbrev S7 : Shape := ⟨1, ![7]⟩
abbrev S7x3 : Shape := ⟨2, ![7, 3]⟩
abbrev S6 : Shape := ⟨1, ![6]⟩
abbrev S5 : Shape := ⟨1, ![5]⟩
abbrev S6912x6144 : Shape := ⟨2, ![6912, 6144]⟩
abbrev S6912x16384 : Shape := ⟨2, ![6912, 16384]⟩
abbrev S6912x192 : Shape := ⟨2, ![6912, 192]⟩
abbrev S768x6144 : Shape := ⟨2, ![768, 6144]⟩
abbrev S768x512 : Shape := ⟨2, ![768, 512]⟩
abbrev S48x512 : Shape := ⟨2, ![48, 512]⟩
abbrev S768x192 : Shape := ⟨2, ![768, 192]⟩
abbrev S256x6144 : Shape := ⟨2, ![256, 6144]⟩
abbrev S5x80x16384 : Shape := ⟨3, ![5, 80, 16384]⟩
abbrev S3x768x256 : Shape := ⟨3, ![3, 768, 256]⟩
abbrev S1 : Shape := ⟨1, ![1]⟩
abbrev S_ : Shape := ⟨0, ![]⟩
abbrev S1x80x16384 : Shape := ⟨3, ![1, 80, 16384]⟩
abbrev S80x16384 : Shape := ⟨2, ![80, 16384]⟩
abbrev S80x6144 : Shape := ⟨2, ![80, 6144]⟩
abbrev S1x80x6144 : Shape := ⟨3, ![1, 80, 6144]⟩
abbrev S768x256 : Shape := ⟨2, ![768, 256]⟩
abbrev S1x256 : Shape := ⟨2, ![1, 256]⟩
abbrev S1x1 : Shape := ⟨2, ![1, 1]⟩
abbrev S768x1 : Shape := ⟨2, ![768, 1]⟩
abbrev S1x768x256 : Shape := ⟨3, ![1, 768, 256]⟩
abbrev S768x1x512 : Shape := ⟨3, ![768, 1, 512]⟩
abbrev S768x8x512 : Shape := ⟨3, ![768, 8, 512]⟩
abbrev S6144x512 : Shape := ⟨2, ![6144, 512]⟩
abbrev S48x128x512 : Shape := ⟨3, ![48, 128, 512]⟩
abbrev S48x1x512 : Shape := ⟨3, ![48, 1, 512]⟩
abbrev S1x80x512 : Shape := ⟨3, ![1, 80, 512]⟩
abbrev S80x512 : Shape := ⟨2, ![80, 512]⟩
abbrev S16x512 : Shape := ⟨2, ![16, 512]⟩
abbrev S256x512 : Shape := ⟨2, ![256, 512]⟩

abbrev nBuf : Space → Nat
  | .hbm => 13
  | .vmem => 13
  | .smem => 5
  | _ => 0

abbrev bufTy : (tb : Table) → Fin (tcTables nBuf tb) → BufTy
  | .hbm, ⟨0, _⟩ => ⟨S6x1152x6144, .bf16⟩
  | .hbm, ⟨1, _⟩ => ⟨S768x16384, .i32⟩
  | .hbm, ⟨2, _⟩ => ⟨S48x16384, .bf16⟩
  | .hbm, ⟨3, _⟩ => ⟨S3x600x6144, .bf16⟩
  | .hbm, ⟨4, _⟩ => ⟨S600x16384, .bf16⟩
  | .hbm, ⟨5, _⟩ => ⟨S7, .i32⟩
  | .hbm, ⟨6, _⟩ => ⟨S7, .i32⟩
  | .hbm, ⟨7, _⟩ => ⟨S7x3, .f32⟩
  | .hbm, ⟨8, _⟩ => ⟨S6, .i32⟩
  | .hbm, ⟨9, _⟩ => ⟨S5, .i32⟩
  | .hbm, ⟨10, _⟩ => ⟨S6912x6144, .bf16⟩
  | .hbm, ⟨11, _⟩ => ⟨S6912x16384, .bf16⟩
  | .hbm, ⟨12, _⟩ => ⟨S6912x192, .bf16⟩
  | .local _ .vmem, ⟨0, _⟩ => ⟨S768x6144, .bf16⟩
  | .local _ .vmem, ⟨1, _⟩ => ⟨S768x6144, .bf16⟩
  | .local _ .vmem, ⟨2, _⟩ => ⟨S768x512, .i32⟩
  | .local _ .vmem, ⟨3, _⟩ => ⟨S768x512, .i32⟩
  | .local _ .vmem, ⟨4, _⟩ => ⟨S48x512, .bf16⟩
  | .local _ .vmem, ⟨5, _⟩ => ⟨S48x512, .bf16⟩
  | .local _ .vmem, ⟨6, _⟩ => ⟨S768x512, .bf16⟩
  | .local _ .vmem, ⟨7, _⟩ => ⟨S768x512, .bf16⟩
  | .local _ .vmem, ⟨8, _⟩ => ⟨S768x192, .bf16⟩
  | .local _ .vmem, ⟨9, _⟩ => ⟨S768x192, .bf16⟩
  | .local _ .vmem, ⟨10, _⟩ => ⟨S256x6144, .bf16⟩
  | .local _ .vmem, ⟨11, _⟩ => ⟨S5x80x16384, .bf16⟩
  | .local _ .vmem, ⟨12, _⟩ => ⟨S3x768x256, .bf16⟩
  | .local _ .smem, ⟨0, _⟩ => ⟨S6, .i32⟩
  | .local _ .smem, ⟨1, _⟩ => ⟨S5, .i32⟩
  | .local _ .smem, ⟨2, _⟩ => ⟨S7, .i32⟩
  | .local _ .smem, ⟨3, _⟩ => ⟨S7, .i32⟩
  | .local _ .smem, ⟨4, _⟩ => ⟨S7x3, .f32⟩
  | _, _ => ⟨S6x1152x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![9, 32], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_off1 (v170 : BitVec 32) : Fin 1 → Nat :=
  let v171 : Index := Scalar.indexCast v170
  ![v171.toNat]

def k0_chk1 (i : grid0.Coords) (v170 : BitVec 32) : Prop :=
  (∀ (k0_h1 : k0_cond1 i = 1#1), ∀ a, (k0_off1 v170) a + S1.size a ≤ S7.size a)
theorem k0_off1_inb : ∀ (i : grid0.Coords) (v170 : BitVec 32) (k0_hw1 : k0_chk1 i v170), ∀ (k0_h1 : k0_cond1 i = 1#1), ∀ a, (k0_off1 v170) a + S1.size a ≤ S7.size a := fun i v170 k0_hw1 k0_h1 => k0_hw1 k0_h1

def k0_mult1 (v172 : BitVec 32) : BitVec 32 :=
  let c_m16_i32 : BitVec 32 := 4294967280#32
  let v173 : BitVec 32 := Scalar.andi v172 c_m16_i32
  let c512_i32_80 : BitVec 32 := 512#32
  let v174 : BitVec 32 := Scalar.minsi v173 c512_i32_80
  v174

def k0_off2 (v172 : BitVec 32) : Fin 2 → Nat :=
  let c_m16_i32 : BitVec 32 := 4294967280#32
  let v173 : BitVec 32 := Scalar.andi v172 c_m16_i32
  let c512_i32_80 : BitVec 32 := 512#32
  let v174 : BitVec 32 := Scalar.minsi v173 c512_i32_80
  let v175 : BitVec 32 := v174
  let c0_i32_85 : BitVec 32 := 0#32
  ![v175.toNat, 0]

def k0_chk2 (i : grid0.Coords) (v172 : BitVec 32) : Prop :=
  (∀ (k0_h1 : k0_cond1 i = 1#1), 16 ∣ (k0_mult1 v172).toNat) ∧
  (∀ (k0_h1 : k0_cond1 i = 1#1), ∀ a, (k0_off2 v172) a + S80x16384.size a ≤ S600x16384.size a) ∧
  (∀ (k0_h1 : k0_cond1 i = 1#1), ∀ (hinb : ∀ a, (k0_off2 v172) a + S80x16384.size a ≤ S600x16384.size a), (Rect.unit (s := S600x16384) (k0_off2 v172) S80x16384.size hinb).WholeWords (EltTy.packing .bf16))
theorem k0_mult1_dvd : ∀ (i : grid0.Coords) (v172 : BitVec 32) (k0_hw2 : k0_chk2 i v172), ∀ (k0_h1 : k0_cond1 i = 1#1), 16 ∣ (k0_mult1 v172).toNat := fun i v172 k0_hw2 k0_h1 => k0_hw2.1 k0_h1
theorem k0_off2_inb : ∀ (i : grid0.Coords) (v172 : BitVec 32) (k0_hw2 : k0_chk2 i v172), ∀ (k0_h1 : k0_cond1 i = 1#1), ∀ a, (k0_off2 v172) a + S80x16384.size a ≤ S600x16384.size a := fun i v172 k0_hw2 k0_h1 => k0_hw2.2.1 k0_h1
theorem k0_off2_wordsbf16 : ∀ (i : grid0.Coords) (v172 : BitVec 32) (k0_hw2 : k0_chk2 i v172), ∀ (k0_h1 : k0_cond1 i = 1#1), (Rect.unit (s := S600x16384) (k0_off2 v172) S80x16384.size (k0_off2_inb i v172 k0_hw2 k0_h1)).WholeWords (EltTy.packing .bf16) := fun i v172 k0_hw2 k0_h1 => k0_hw2.2.2 k0_h1 (k0_off2_inb i v172 k0_hw2 k0_h1)

def k0_off3 (v181 : BitVec 32) : Fin 1 → Nat :=
  let v182 : Index := Scalar.indexCast v181
  ![v182.toNat]

def k0_chk3 (i : grid0.Coords) (v181 : BitVec 32) : Prop :=
  (∀ (k0_h1 : k0_cond1 i = 1#1), ∀ a, (k0_off3 v181) a + S1.size a ≤ S7.size a)
theorem k0_off3_inb : ∀ (i : grid0.Coords) (v181 : BitVec 32) (k0_hw3 : k0_chk3 i v181), ∀ (k0_h1 : k0_cond1 i = 1#1), ∀ a, (k0_off3 v181) a + S1.size a ≤ S7.size a := fun i v181 k0_hw3 k0_h1 => k0_hw3 k0_h1

def k0_mult2 (v183 : BitVec 32) : BitVec 32 :=
  let c_m16_i32_87 : BitVec 32 := 4294967280#32
  let v184 : BitVec 32 := Scalar.andi v183 c_m16_i32_87
  let c512_i32_88 : BitVec 32 := 512#32
  let v185 : BitVec 32 := Scalar.minsi v184 c512_i32_88
  v185

def k0_off4 (v183 : BitVec 32) : Fin 2 → Nat :=
  let c_m16_i32_87 : BitVec 32 := 4294967280#32
  let v184 : BitVec 32 := Scalar.andi v183 c_m16_i32_87
  let c512_i32_88 : BitVec 32 := 512#32
  let v185 : BitVec 32 := Scalar.minsi v184 c512_i32_88
  let v186 : BitVec 32 := v185
  let c0_i32_93 : BitVec 32 := 0#32
  ![v186.toNat, 0]

def k0_chk4 (i : grid0.Coords) (v183 : BitVec 32) : Prop :=
  (∀ (k0_h1 : k0_cond1 i = 1#1), 16 ∣ (k0_mult2 v183).toNat) ∧
  (∀ (k0_h1 : k0_cond1 i = 1#1), ∀ a, (k0_off4 v183) a + S80x16384.size a ≤ S600x16384.size a) ∧
  (∀ (k0_h1 : k0_cond1 i = 1#1), ∀ (hinb : ∀ a, (k0_off4 v183) a + S80x16384.size a ≤ S600x16384.size a), (Rect.unit (s := S600x16384) (k0_off4 v183) S80x16384.size hinb).WholeWords (EltTy.packing .bf16))
theorem k0_mult2_dvd : ∀ (i : grid0.Coords) (v183 : BitVec 32) (k0_hw4 : k0_chk4 i v183), ∀ (k0_h1 : k0_cond1 i = 1#1), 16 ∣ (k0_mult2 v183).toNat := fun i v183 k0_hw4 k0_h1 => k0_hw4.1 k0_h1
theorem k0_off4_inb : ∀ (i : grid0.Coords) (v183 : BitVec 32) (k0_hw4 : k0_chk4 i v183), ∀ (k0_h1 : k0_cond1 i = 1#1), ∀ a, (k0_off4 v183) a + S80x16384.size a ≤ S600x16384.size a := fun i v183 k0_hw4 k0_h1 => k0_hw4.2.1 k0_h1
theorem k0_off4_wordsbf16 : ∀ (i : grid0.Coords) (v183 : BitVec 32) (k0_hw4 : k0_chk4 i v183), ∀ (k0_h1 : k0_cond1 i = 1#1), (Rect.unit (s := S600x16384) (k0_off4 v183) S80x16384.size (k0_off4_inb i v183 k0_hw4 k0_h1)).WholeWords (EltTy.packing .bf16) := fun i v183 k0_hw4 k0_h1 => k0_hw4.2.2 k0_h1 (k0_off4_inb i v183 k0_hw4 k0_h1)

def k0_off5 (v192 : BitVec 32) : Fin 1 → Nat :=
  let v193 : Index := Scalar.indexCast v192
  ![v193.toNat]

def k0_chk5 (i : grid0.Coords) (v192 : BitVec 32) : Prop :=
  (∀ (k0_h1 : k0_cond1 i = 1#1), ∀ a, (k0_off5 v192) a + S1.size a ≤ S7.size a)
theorem k0_off5_inb : ∀ (i : grid0.Coords) (v192 : BitVec 32) (k0_hw5 : k0_chk5 i v192), ∀ (k0_h1 : k0_cond1 i = 1#1), ∀ a, (k0_off5 v192) a + S1.size a ≤ S7.size a := fun i v192 k0_hw5 k0_h1 => k0_hw5 k0_h1

def k0_mult3 (v194 : BitVec 32) : BitVec 32 :=
  let c_m16_i32_95 : BitVec 32 := 4294967280#32
  let v195 : BitVec 32 := Scalar.andi v194 c_m16_i32_95
  let c512_i32_96 : BitVec 32 := 512#32
  let v196 : BitVec 32 := Scalar.minsi v195 c512_i32_96
  v196

def k0_off6 (v194 : BitVec 32) : Fin 2 → Nat :=
  let c_m16_i32_95 : BitVec 32 := 4294967280#32
  let v195 : BitVec 32 := Scalar.andi v194 c_m16_i32_95
  let c512_i32_96 : BitVec 32 := 512#32
  let v196 : BitVec 32 := Scalar.minsi v195 c512_i32_96
  let v197 : BitVec 32 := v196
  let c0_i32_101 : BitVec 32 := 0#32
  ![v197.toNat, 0]

def k0_chk6 (i : grid0.Coords) (v194 : BitVec 32) : Prop :=
  (∀ (k0_h1 : k0_cond1 i = 1#1), 16 ∣ (k0_mult3 v194).toNat) ∧
  (∀ (k0_h1 : k0_cond1 i = 1#1), ∀ a, (k0_off6 v194) a + S80x16384.size a ≤ S600x16384.size a) ∧
  (∀ (k0_h1 : k0_cond1 i = 1#1), ∀ (hinb : ∀ a, (k0_off6 v194) a + S80x16384.size a ≤ S600x16384.size a), (Rect.unit (s := S600x16384) (k0_off6 v194) S80x16384.size hinb).WholeWords (EltTy.packing .bf16))
theorem k0_mult3_dvd : ∀ (i : grid0.Coords) (v194 : BitVec 32) (k0_hw6 : k0_chk6 i v194), ∀ (k0_h1 : k0_cond1 i = 1#1), 16 ∣ (k0_mult3 v194).toNat := fun i v194 k0_hw6 k0_h1 => k0_hw6.1 k0_h1
theorem k0_off6_inb : ∀ (i : grid0.Coords) (v194 : BitVec 32) (k0_hw6 : k0_chk6 i v194), ∀ (k0_h1 : k0_cond1 i = 1#1), ∀ a, (k0_off6 v194) a + S80x16384.size a ≤ S600x16384.size a := fun i v194 k0_hw6 k0_h1 => k0_hw6.2.1 k0_h1
theorem k0_off6_wordsbf16 : ∀ (i : grid0.Coords) (v194 : BitVec 32) (k0_hw6 : k0_chk6 i v194), ∀ (k0_h1 : k0_cond1 i = 1#1), (Rect.unit (s := S600x16384) (k0_off6 v194) S80x16384.size (k0_off6_inb i v194 k0_hw6 k0_h1)).WholeWords (EltTy.packing .bf16) := fun i v194 k0_hw6 k0_h1 => k0_hw6.2.2 k0_h1 (k0_off6_inb i v194 k0_hw6 k0_h1)

def k0_off7 (v203 : BitVec 32) : Fin 1 → Nat :=
  let v204 : Index := Scalar.indexCast v203
  ![v204.toNat]

def k0_chk7 (i : grid0.Coords) (v203 : BitVec 32) : Prop :=
  (∀ (k0_h1 : k0_cond1 i = 1#1), ∀ a, (k0_off7 v203) a + S1.size a ≤ S7.size a)
theorem k0_off7_inb : ∀ (i : grid0.Coords) (v203 : BitVec 32) (k0_hw7 : k0_chk7 i v203), ∀ (k0_h1 : k0_cond1 i = 1#1), ∀ a, (k0_off7 v203) a + S1.size a ≤ S7.size a := fun i v203 k0_hw7 k0_h1 => k0_hw7 k0_h1

def k0_mult4 (v205 : BitVec 32) : BitVec 32 :=
  let c_m16_i32_103 : BitVec 32 := 4294967280#32
  let v206 : BitVec 32 := Scalar.andi v205 c_m16_i32_103
  let c512_i32_104 : BitVec 32 := 512#32
  let v207 : BitVec 32 := Scalar.minsi v206 c512_i32_104
  v207

def k0_off8 (v205 : BitVec 32) : Fin 2 → Nat :=
  let c_m16_i32_103 : BitVec 32 := 4294967280#32
  let v206 : BitVec 32 := Scalar.andi v205 c_m16_i32_103
  let c512_i32_104 : BitVec 32 := 512#32
  let v207 : BitVec 32 := Scalar.minsi v206 c512_i32_104
  let v208 : BitVec 32 := v207
  let c0_i32_109 : BitVec 32 := 0#32
  ![v208.toNat, 0]

def k0_chk8 (i : grid0.Coords) (v205 : BitVec 32) : Prop :=
  (∀ (k0_h1 : k0_cond1 i = 1#1), 16 ∣ (k0_mult4 v205).toNat) ∧
  (∀ (k0_h1 : k0_cond1 i = 1#1), ∀ a, (k0_off8 v205) a + S80x16384.size a ≤ S600x16384.size a) ∧
  (∀ (k0_h1 : k0_cond1 i = 1#1), ∀ (hinb : ∀ a, (k0_off8 v205) a + S80x16384.size a ≤ S600x16384.size a), (Rect.unit (s := S600x16384) (k0_off8 v205) S80x16384.size hinb).WholeWords (EltTy.packing .bf16))
theorem k0_mult4_dvd : ∀ (i : grid0.Coords) (v205 : BitVec 32) (k0_hw8 : k0_chk8 i v205), ∀ (k0_h1 : k0_cond1 i = 1#1), 16 ∣ (k0_mult4 v205).toNat := fun i v205 k0_hw8 k0_h1 => k0_hw8.1 k0_h1
theorem k0_off8_inb : ∀ (i : grid0.Coords) (v205 : BitVec 32) (k0_hw8 : k0_chk8 i v205), ∀ (k0_h1 : k0_cond1 i = 1#1), ∀ a, (k0_off8 v205) a + S80x16384.size a ≤ S600x16384.size a := fun i v205 k0_hw8 k0_h1 => k0_hw8.2.1 k0_h1
theorem k0_off8_wordsbf16 : ∀ (i : grid0.Coords) (v205 : BitVec 32) (k0_hw8 : k0_chk8 i v205), ∀ (k0_h1 : k0_cond1 i = 1#1), (Rect.unit (s := S600x16384) (k0_off8 v205) S80x16384.size (k0_off8_inb i v205 k0_hw8 k0_h1)).WholeWords (EltTy.packing .bf16) := fun i v205 k0_hw8 k0_h1 => k0_hw8.2.2 k0_h1 (k0_off8_inb i v205 k0_hw8 k0_h1)

def k0_off9 (v214 : BitVec 32) : Fin 1 → Nat :=
  let v215 : Index := Scalar.indexCast v214
  ![v215.toNat]

def k0_chk9 (i : grid0.Coords) (v214 : BitVec 32) : Prop :=
  (∀ (k0_h1 : k0_cond1 i = 1#1), ∀ a, (k0_off9 v214) a + S1.size a ≤ S7.size a)
theorem k0_off9_inb : ∀ (i : grid0.Coords) (v214 : BitVec 32) (k0_hw9 : k0_chk9 i v214), ∀ (k0_h1 : k0_cond1 i = 1#1), ∀ a, (k0_off9 v214) a + S1.size a ≤ S7.size a := fun i v214 k0_hw9 k0_h1 => k0_hw9 k0_h1

def k0_mult5 (v216 : BitVec 32) : BitVec 32 :=
  let c_m16_i32_111 : BitVec 32 := 4294967280#32
  let v217 : BitVec 32 := Scalar.andi v216 c_m16_i32_111
  let c512_i32_112 : BitVec 32 := 512#32
  let v218 : BitVec 32 := Scalar.minsi v217 c512_i32_112
  v218

def k0_off10 (v216 : BitVec 32) : Fin 2 → Nat :=
  let c_m16_i32_111 : BitVec 32 := 4294967280#32
  let v217 : BitVec 32 := Scalar.andi v216 c_m16_i32_111
  let c512_i32_112 : BitVec 32 := 512#32
  let v218 : BitVec 32 := Scalar.minsi v217 c512_i32_112
  let v219 : BitVec 32 := v218
  let c0_i32_117 : BitVec 32 := 0#32
  ![v219.toNat, 0]

def k0_chk10 (i : grid0.Coords) (v216 : BitVec 32) : Prop :=
  (∀ (k0_h1 : k0_cond1 i = 1#1), 16 ∣ (k0_mult5 v216).toNat) ∧
  (∀ (k0_h1 : k0_cond1 i = 1#1), ∀ a, (k0_off10 v216) a + S80x16384.size a ≤ S600x16384.size a) ∧
  (∀ (k0_h1 : k0_cond1 i = 1#1), ∀ (hinb : ∀ a, (k0_off10 v216) a + S80x16384.size a ≤ S600x16384.size a), (Rect.unit (s := S600x16384) (k0_off10 v216) S80x16384.size hinb).WholeWords (EltTy.packing .bf16))
theorem k0_mult5_dvd : ∀ (i : grid0.Coords) (v216 : BitVec 32) (k0_hw10 : k0_chk10 i v216), ∀ (k0_h1 : k0_cond1 i = 1#1), 16 ∣ (k0_mult5 v216).toNat := fun i v216 k0_hw10 k0_h1 => k0_hw10.1 k0_h1
theorem k0_off10_inb : ∀ (i : grid0.Coords) (v216 : BitVec 32) (k0_hw10 : k0_chk10 i v216), ∀ (k0_h1 : k0_cond1 i = 1#1), ∀ a, (k0_off10 v216) a + S80x16384.size a ≤ S600x16384.size a := fun i v216 k0_hw10 k0_h1 => k0_hw10.2.1 k0_h1
theorem k0_off10_wordsbf16 : ∀ (i : grid0.Coords) (v216 : BitVec 32) (k0_hw10 : k0_chk10 i v216), ∀ (k0_h1 : k0_cond1 i = 1#1), (Rect.unit (s := S600x16384) (k0_off10 v216) S80x16384.size (k0_off10_inb i v216 k0_hw10 k0_h1)).WholeWords (EltTy.packing .bf16) := fun i v216 k0_hw10 k0_h1 => k0_hw10.2.2 k0_h1 (k0_off10_inb i v216 k0_hw10 k0_h1)

def k0_off11 (v225 : BitVec 32) : Fin 1 → Nat :=
  let v226 : Index := Scalar.indexCast v225
  ![v226.toNat]

def k0_chk11 (i : grid0.Coords) (v225 : BitVec 32) : Prop :=
  (∀ (k0_h1 : k0_cond1 i = 1#1), ∀ a, (k0_off11 v225) a + S1.size a ≤ S7.size a)
theorem k0_off11_inb : ∀ (i : grid0.Coords) (v225 : BitVec 32) (k0_hw11 : k0_chk11 i v225), ∀ (k0_h1 : k0_cond1 i = 1#1), ∀ a, (k0_off11 v225) a + S1.size a ≤ S7.size a := fun i v225 k0_hw11 k0_h1 => k0_hw11 k0_h1

def k0_mult6 (v227 : BitVec 32) : BitVec 32 :=
  let c_m16_i32_119 : BitVec 32 := 4294967280#32
  let v228 : BitVec 32 := Scalar.andi v227 c_m16_i32_119
  let c512_i32_120 : BitVec 32 := 512#32
  let v229 : BitVec 32 := Scalar.minsi v228 c512_i32_120
  v229

def k0_off12 (v227 : BitVec 32) : Fin 2 → Nat :=
  let c_m16_i32_119 : BitVec 32 := 4294967280#32
  let v228 : BitVec 32 := Scalar.andi v227 c_m16_i32_119
  let c512_i32_120 : BitVec 32 := 512#32
  let v229 : BitVec 32 := Scalar.minsi v228 c512_i32_120
  let v230 : BitVec 32 := v229
  let c0_i32_125 : BitVec 32 := 0#32
  ![v230.toNat, 0]

def k0_chk12 (i : grid0.Coords) (v227 : BitVec 32) : Prop :=
  (∀ (k0_h1 : k0_cond1 i = 1#1), 16 ∣ (k0_mult6 v227).toNat) ∧
  (∀ (k0_h1 : k0_cond1 i = 1#1), ∀ a, (k0_off12 v227) a + S80x16384.size a ≤ S600x16384.size a) ∧
  (∀ (k0_h1 : k0_cond1 i = 1#1), ∀ (hinb : ∀ a, (k0_off12 v227) a + S80x16384.size a ≤ S600x16384.size a), (Rect.unit (s := S600x16384) (k0_off12 v227) S80x16384.size hinb).WholeWords (EltTy.packing .bf16))
theorem k0_mult6_dvd : ∀ (i : grid0.Coords) (v227 : BitVec 32) (k0_hw12 : k0_chk12 i v227), ∀ (k0_h1 : k0_cond1 i = 1#1), 16 ∣ (k0_mult6 v227).toNat := fun i v227 k0_hw12 k0_h1 => k0_hw12.1 k0_h1
theorem k0_off12_inb : ∀ (i : grid0.Coords) (v227 : BitVec 32) (k0_hw12 : k0_chk12 i v227), ∀ (k0_h1 : k0_cond1 i = 1#1), ∀ a, (k0_off12 v227) a + S80x16384.size a ≤ S600x16384.size a := fun i v227 k0_hw12 k0_h1 => k0_hw12.2.1 k0_h1
theorem k0_off12_wordsbf16 : ∀ (i : grid0.Coords) (v227 : BitVec 32) (k0_hw12 : k0_chk12 i v227), ∀ (k0_h1 : k0_cond1 i = 1#1), (Rect.unit (s := S600x16384) (k0_off12 v227) S80x16384.size (k0_off12_inb i v227 k0_hw12 k0_h1)).WholeWords (EltTy.packing .bf16) := fun i v227 k0_hw12 k0_h1 => k0_hw12.2.2 k0_h1 (k0_off12_inb i v227 k0_hw12 k0_h1)

def k0_off13 (v236 : BitVec 32) : Fin 1 → Nat :=
  let v237 : Index := Scalar.indexCast v236
  ![v237.toNat]

def k0_chk13 (i : grid0.Coords) (v236 : BitVec 32) : Prop :=
  (∀ (k0_h1 : k0_cond1 i = 1#1), ∀ a, (k0_off13 v236) a + S1.size a ≤ S7.size a)
theorem k0_off13_inb : ∀ (i : grid0.Coords) (v236 : BitVec 32) (k0_hw13 : k0_chk13 i v236), ∀ (k0_h1 : k0_cond1 i = 1#1), ∀ a, (k0_off13 v236) a + S1.size a ≤ S7.size a := fun i v236 k0_hw13 k0_h1 => k0_hw13 k0_h1

def k0_mult7 (v238 : BitVec 32) : BitVec 32 :=
  let c_m16_i32_127 : BitVec 32 := 4294967280#32
  let v239 : BitVec 32 := Scalar.andi v238 c_m16_i32_127
  let c512_i32_128 : BitVec 32 := 512#32
  let v240 : BitVec 32 := Scalar.minsi v239 c512_i32_128
  v240

def k0_off14 (v238 : BitVec 32) : Fin 2 → Nat :=
  let c_m16_i32_127 : BitVec 32 := 4294967280#32
  let v239 : BitVec 32 := Scalar.andi v238 c_m16_i32_127
  let c512_i32_128 : BitVec 32 := 512#32
  let v240 : BitVec 32 := Scalar.minsi v239 c512_i32_128
  let v241 : BitVec 32 := v240
  let c0_i32_133 : BitVec 32 := 0#32
  ![v241.toNat, 0]

def k0_chk14 (i : grid0.Coords) (v238 : BitVec 32) : Prop :=
  (∀ (k0_h1 : k0_cond1 i = 1#1), 16 ∣ (k0_mult7 v238).toNat) ∧
  (∀ (k0_h1 : k0_cond1 i = 1#1), ∀ a, (k0_off14 v238) a + S80x16384.size a ≤ S600x16384.size a) ∧
  (∀ (k0_h1 : k0_cond1 i = 1#1), ∀ (hinb : ∀ a, (k0_off14 v238) a + S80x16384.size a ≤ S600x16384.size a), (Rect.unit (s := S600x16384) (k0_off14 v238) S80x16384.size hinb).WholeWords (EltTy.packing .bf16))
theorem k0_mult7_dvd : ∀ (i : grid0.Coords) (v238 : BitVec 32) (k0_hw14 : k0_chk14 i v238), ∀ (k0_h1 : k0_cond1 i = 1#1), 16 ∣ (k0_mult7 v238).toNat := fun i v238 k0_hw14 k0_h1 => k0_hw14.1 k0_h1
theorem k0_off14_inb : ∀ (i : grid0.Coords) (v238 : BitVec 32) (k0_hw14 : k0_chk14 i v238), ∀ (k0_h1 : k0_cond1 i = 1#1), ∀ a, (k0_off14 v238) a + S80x16384.size a ≤ S600x16384.size a := fun i v238 k0_hw14 k0_h1 => k0_hw14.2.1 k0_h1
theorem k0_off14_wordsbf16 : ∀ (i : grid0.Coords) (v238 : BitVec 32) (k0_hw14 : k0_chk14 i v238), ∀ (k0_h1 : k0_cond1 i = 1#1), (Rect.unit (s := S600x16384) (k0_off14 v238) S80x16384.size (k0_off14_inb i v238 k0_hw14 k0_h1)).WholeWords (EltTy.packing .bf16) := fun i v238 k0_hw14 k0_h1 => k0_hw14.2.2 k0_h1 (k0_off14_inb i v238 k0_hw14 k0_h1)

def k0_off15 (v247 : BitVec 32) : Fin 1 → Nat :=
  let v248 : Index := Scalar.indexCast v247
  ![v248.toNat]

def k0_chk15 (i : grid0.Coords) (v247 : BitVec 32) : Prop :=
  (∀ (k0_h1 : k0_cond1 i = 1#1), ∀ a, (k0_off15 v247) a + S1.size a ≤ S7.size a)
theorem k0_off15_inb : ∀ (i : grid0.Coords) (v247 : BitVec 32) (k0_hw15 : k0_chk15 i v247), ∀ (k0_h1 : k0_cond1 i = 1#1), ∀ a, (k0_off15 v247) a + S1.size a ≤ S7.size a := fun i v247 k0_hw15 k0_h1 => k0_hw15 k0_h1

def k0_mult8 (v249 : BitVec 32) : BitVec 32 :=
  let c_m16_i32_135 : BitVec 32 := 4294967280#32
  let v250 : BitVec 32 := Scalar.andi v249 c_m16_i32_135
  let c512_i32_136 : BitVec 32 := 512#32
  let v251 : BitVec 32 := Scalar.minsi v250 c512_i32_136
  v251

def k0_off16 (v249 : BitVec 32) : Fin 2 → Nat :=
  let c_m16_i32_135 : BitVec 32 := 4294967280#32
  let v250 : BitVec 32 := Scalar.andi v249 c_m16_i32_135
  let c512_i32_136 : BitVec 32 := 512#32
  let v251 : BitVec 32 := Scalar.minsi v250 c512_i32_136
  let v252 : BitVec 32 := v251
  let c0_i32_141 : BitVec 32 := 0#32
  ![v252.toNat, 0]

def k0_chk16 (i : grid0.Coords) (v249 : BitVec 32) : Prop :=
  (∀ (k0_h1 : k0_cond1 i = 1#1), 16 ∣ (k0_mult8 v249).toNat) ∧
  (∀ (k0_h1 : k0_cond1 i = 1#1), ∀ a, (k0_off16 v249) a + S80x16384.size a ≤ S600x16384.size a) ∧
  (∀ (k0_h1 : k0_cond1 i = 1#1), ∀ (hinb : ∀ a, (k0_off16 v249) a + S80x16384.size a ≤ S600x16384.size a), (Rect.unit (s := S600x16384) (k0_off16 v249) S80x16384.size hinb).WholeWords (EltTy.packing .bf16))
theorem k0_mult8_dvd : ∀ (i : grid0.Coords) (v249 : BitVec 32) (k0_hw16 : k0_chk16 i v249), ∀ (k0_h1 : k0_cond1 i = 1#1), 16 ∣ (k0_mult8 v249).toNat := fun i v249 k0_hw16 k0_h1 => k0_hw16.1 k0_h1
theorem k0_off16_inb : ∀ (i : grid0.Coords) (v249 : BitVec 32) (k0_hw16 : k0_chk16 i v249), ∀ (k0_h1 : k0_cond1 i = 1#1), ∀ a, (k0_off16 v249) a + S80x16384.size a ≤ S600x16384.size a := fun i v249 k0_hw16 k0_h1 => k0_hw16.2.1 k0_h1
theorem k0_off16_wordsbf16 : ∀ (i : grid0.Coords) (v249 : BitVec 32) (k0_hw16 : k0_chk16 i v249), ∀ (k0_h1 : k0_cond1 i = 1#1), (Rect.unit (s := S600x16384) (k0_off16 v249) S80x16384.size (k0_off16_inb i v249 k0_hw16 k0_h1)).WholeWords (EltTy.packing .bf16) := fun i v249 k0_hw16 k0_h1 => k0_hw16.2.2 k0_h1 (k0_off16_inb i v249 k0_hw16 k0_h1)

def k0_off17 (v258 : BitVec 32) : Fin 1 → Nat :=
  let v259 : Index := Scalar.indexCast v258
  ![v259.toNat]

def k0_chk17 (i : grid0.Coords) (v258 : BitVec 32) : Prop :=
  (∀ (k0_h1 : k0_cond1 i = 1#1), ∀ a, (k0_off17 v258) a + S1.size a ≤ S7.size a)
theorem k0_off17_inb : ∀ (i : grid0.Coords) (v258 : BitVec 32) (k0_hw17 : k0_chk17 i v258), ∀ (k0_h1 : k0_cond1 i = 1#1), ∀ a, (k0_off17 v258) a + S1.size a ≤ S7.size a := fun i v258 k0_hw17 k0_h1 => k0_hw17 k0_h1

def k0_mult9 (v260 : BitVec 32) : BitVec 32 :=
  let c_m16_i32_143 : BitVec 32 := 4294967280#32
  let v261 : BitVec 32 := Scalar.andi v260 c_m16_i32_143
  let c512_i32_144 : BitVec 32 := 512#32
  let v262 : BitVec 32 := Scalar.minsi v261 c512_i32_144
  v262

def k0_off18 (v260 : BitVec 32) : Fin 2 → Nat :=
  let c_m16_i32_143 : BitVec 32 := 4294967280#32
  let v261 : BitVec 32 := Scalar.andi v260 c_m16_i32_143
  let c512_i32_144 : BitVec 32 := 512#32
  let v262 : BitVec 32 := Scalar.minsi v261 c512_i32_144
  let v263 : BitVec 32 := v262
  let c0_i32_149 : BitVec 32 := 0#32
  ![v263.toNat, 0]

def k0_chk18 (i : grid0.Coords) (v260 : BitVec 32) : Prop :=
  (∀ (k0_h1 : k0_cond1 i = 1#1), 16 ∣ (k0_mult9 v260).toNat) ∧
  (∀ (k0_h1 : k0_cond1 i = 1#1), ∀ a, (k0_off18 v260) a + S80x16384.size a ≤ S600x16384.size a) ∧
  (∀ (k0_h1 : k0_cond1 i = 1#1), ∀ (hinb : ∀ a, (k0_off18 v260) a + S80x16384.size a ≤ S600x16384.size a), (Rect.unit (s := S600x16384) (k0_off18 v260) S80x16384.size hinb).WholeWords (EltTy.packing .bf16))
theorem k0_mult9_dvd : ∀ (i : grid0.Coords) (v260 : BitVec 32) (k0_hw18 : k0_chk18 i v260), ∀ (k0_h1 : k0_cond1 i = 1#1), 16 ∣ (k0_mult9 v260).toNat := fun i v260 k0_hw18 k0_h1 => k0_hw18.1 k0_h1
theorem k0_off18_inb : ∀ (i : grid0.Coords) (v260 : BitVec 32) (k0_hw18 : k0_chk18 i v260), ∀ (k0_h1 : k0_cond1 i = 1#1), ∀ a, (k0_off18 v260) a + S80x16384.size a ≤ S600x16384.size a := fun i v260 k0_hw18 k0_h1 => k0_hw18.2.1 k0_h1
theorem k0_off18_wordsbf16 : ∀ (i : grid0.Coords) (v260 : BitVec 32) (k0_hw18 : k0_chk18 i v260), ∀ (k0_h1 : k0_cond1 i = 1#1), (Rect.unit (s := S600x16384) (k0_off18 v260) S80x16384.size (k0_off18_inb i v260 k0_hw18 k0_h1)).WholeWords (EltTy.packing .bf16) := fun i v260 k0_hw18 k0_h1 => k0_hw18.2.2 k0_h1 (k0_off18_inb i v260 k0_hw18 k0_h1)

def k0_off19 (v269 : BitVec 32) : Fin 1 → Nat :=
  let v270 : Index := Scalar.indexCast v269
  ![v270.toNat]

def k0_chk19 (i : grid0.Coords) (v269 : BitVec 32) : Prop :=
  (∀ (k0_h1 : k0_cond1 i = 1#1), ∀ a, (k0_off19 v269) a + S1.size a ≤ S7.size a)
theorem k0_off19_inb : ∀ (i : grid0.Coords) (v269 : BitVec 32) (k0_hw19 : k0_chk19 i v269), ∀ (k0_h1 : k0_cond1 i = 1#1), ∀ a, (k0_off19 v269) a + S1.size a ≤ S7.size a := fun i v269 k0_hw19 k0_h1 => k0_hw19 k0_h1

def k0_mult10 (v271 : BitVec 32) : BitVec 32 :=
  let c_m16_i32_151 : BitVec 32 := 4294967280#32
  let v272 : BitVec 32 := Scalar.andi v271 c_m16_i32_151
  let c512_i32_152 : BitVec 32 := 512#32
  let v273 : BitVec 32 := Scalar.minsi v272 c512_i32_152
  v273

def k0_off20 (v271 : BitVec 32) : Fin 2 → Nat :=
  let c_m16_i32_151 : BitVec 32 := 4294967280#32
  let v272 : BitVec 32 := Scalar.andi v271 c_m16_i32_151
  let c512_i32_152 : BitVec 32 := 512#32
  let v273 : BitVec 32 := Scalar.minsi v272 c512_i32_152
  let v274 : BitVec 32 := v273
  let c0_i32_157 : BitVec 32 := 0#32
  ![v274.toNat, 0]

def k0_chk20 (i : grid0.Coords) (v271 : BitVec 32) : Prop :=
  (∀ (k0_h1 : k0_cond1 i = 1#1), 16 ∣ (k0_mult10 v271).toNat) ∧
  (∀ (k0_h1 : k0_cond1 i = 1#1), ∀ a, (k0_off20 v271) a + S80x16384.size a ≤ S600x16384.size a) ∧
  (∀ (k0_h1 : k0_cond1 i = 1#1), ∀ (hinb : ∀ a, (k0_off20 v271) a + S80x16384.size a ≤ S600x16384.size a), (Rect.unit (s := S600x16384) (k0_off20 v271) S80x16384.size hinb).WholeWords (EltTy.packing .bf16))
theorem k0_mult10_dvd : ∀ (i : grid0.Coords) (v271 : BitVec 32) (k0_hw20 : k0_chk20 i v271), ∀ (k0_h1 : k0_cond1 i = 1#1), 16 ∣ (k0_mult10 v271).toNat := fun i v271 k0_hw20 k0_h1 => k0_hw20.1 k0_h1
theorem k0_off20_inb : ∀ (i : grid0.Coords) (v271 : BitVec 32) (k0_hw20 : k0_chk20 i v271), ∀ (k0_h1 : k0_cond1 i = 1#1), ∀ a, (k0_off20 v271) a + S80x16384.size a ≤ S600x16384.size a := fun i v271 k0_hw20 k0_h1 => k0_hw20.2.1 k0_h1
theorem k0_off20_wordsbf16 : ∀ (i : grid0.Coords) (v271 : BitVec 32) (k0_hw20 : k0_chk20 i v271), ∀ (k0_h1 : k0_cond1 i = 1#1), (Rect.unit (s := S600x16384) (k0_off20 v271) S80x16384.size (k0_off20_inb i v271 k0_hw20 k0_h1)).WholeWords (EltTy.packing .bf16) := fun i v271 k0_hw20 k0_h1 => k0_hw20.2.2 k0_h1 (k0_off20_inb i v271 k0_hw20 k0_h1)

def k0_cond2 (i : grid0.Coords) : BitVec 1 :=
  let arg1 : BitVec 32 := BitVec.ofNat 32 (i 1).val
  let c0_i32_54 : BitVec 32 := 0#32
  let v111 : BitVec 1 := Scalar.cmpi .eq arg1 c0_i32_54
  let v112 : BitVec 32 := Scalar.extui v111
  let c0_i32_55 : BitVec 32 := 0#32
  let v113 : BitVec 1 := Scalar.cmpi .ne v112 c0_i32_55
  v113

def k0_off21 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c0_i32_49 : BitVec 32 := 0#32
  let v100 : BitVec 1 := Scalar.cmpi .eq v89 c0_i32_49
  let v101 : BitVec 1 := Scalar.andi v99 v100
  let c4_i32 : BitVec 32 := 4#32
  let c0_i32_40 : BitVec 32 := 0#32
  let v79 : BitVec 1 := Scalar.cmpi .eq v68 c0_i32_40
  let v80 : BitVec 1 := Scalar.andi v78 v79
  let c3_i32 : BitVec 32 := 3#32
  let c0_i32_30 : BitVec 32 := 0#32
  let v58 : BitVec 1 := Scalar.cmpi .eq v47 c0_i32_30
  let v59 : BitVec 1 := Scalar.andi v57 v58
  let c2_i32_31 : BitVec 32 := 2#32
  let c0_i32_20 : BitVec 32 := 0#32
  let v37 : BitVec 1 := Scalar.cmpi .eq v26 c0_i32_20
  let v38 : BitVec 1 := Scalar.andi v36 v37
  let c1_i32_21 : BitVec 32 := 1#32
  let c0_i32_5 : BitVec 32 := 0#32
  let c0_i32_6 : BitVec 32 := 0#32
  let v16 : BitVec 1 := Scalar.cmpi .eq c0_i32_5 c0_i32_6
  let v17 : BitVec 1 := Scalar.andi v15 v16
  let c0_i32_7 : BitVec 32 := 0#32
  let c0_i32_8 : BitVec 32 := 0#32
  let v18 : BitVec 32 := Scalar.select v17 c0_i32_7 c0_i32_8
  let v39 : BitVec 32 := Scalar.select v38 c1_i32_21 v18
  let v60 : BitVec 32 := Scalar.select v59 c2_i32_31 v39
  let v81 : BitVec 32 := Scalar.select v80 c3_i32 v60
  let v102 : BitVec 32 := Scalar.select v101 c4_i32 v81
  let v181 : Index := Scalar.indexCast v102
  ![v181.toNat]
def k0_cond3 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : BitVec 1 :=
  let c0_i32_15 : BitVec 32 := 0#32
  let arg0 : BitVec 32 := BitVec.ofNat 32 (i 0).val
  let c768_i32 : BitVec 32 := 768#32
  let v0 : BitVec 32 := Scalar.muli arg0 c768_i32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let v109 : BitVec 32 := Scalar.extui v99
  let v110 : BitVec 32 := Scalar.addi v89 v109
  let c0_i32_83 : BitVec 32 := 0#32
  let v172 : BitVec 1 := Scalar.cmpi .sgt v110 c0_i32_83
  let v173 : BitVec 32 := Scalar.extui v172
  let c0_i32_84 : BitVec 32 := 0#32
  let v174 : BitVec 1 := Scalar.cmpi .ne v173 c0_i32_84
  v174

def k0_off22 (v182 : BitVec 32) : Fin 1 → Nat :=
  let v183 : Index := Scalar.indexCast v182
  ![v183.toNat]

def k0_chk22 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) : Prop :=
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off22 v182) a + S1.size a ≤ S7.size a)
theorem k0_off22_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) (k0_hw22 : k0_chk22 i v6 v9 v12 v13 v27 v30 v33 v34 v48 v51 v54 v55 v69 v72 v75 v76 v90 v93 v96 v97 v182), ∀ (k0_h2 : k0_cond2 i = 1#1), ∀ (k0_h3 : k0_cond3 i v6 v9 v12 v13 v27 v30 v33 v34 v48 v51 v54 v55 v69 v72 v75 v76 v90 v93 v96 v97 = 1#1), ∀ a, (k0_off22 v182) a + S1.size a ≤ S7.size a := fun i v6 v9 v12 v13 v27 v30 v33 v34 v48 v51 v54 v55 v69 v72 v75 v76 v90 v93 v96 v97 v182 k0_hw22 k0_h2 k0_h3 => k0_hw22 k0_h2 k0_h3

def k0_mult11 (v184 : BitVec 32) : BitVec 32 :=
  let c_m16_i32 : BitVec 32 := 4294967280#32
  let v185 : BitVec 32 := Scalar.andi v184 c_m16_i32
  let c512_i32_89 : BitVec 32 := 512#32
  let v186 : BitVec 32 := Scalar.minsi v185 c512_i32_89
  v186

def k0_off23 (v184 : BitVec 32) : Fin 3 → Nat :=
  let c0_i32_90 : BitVec 32 := 0#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_94 : BitVec 32 := 0#32
  ![0, v187.toNat, 0]
def k0_off24 (v184 : BitVec 32) : Fin 3 → Nat :=
  let c1_i32_95 : BitVec 32 := 1#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_98 : BitVec 32 := 0#32
  ![1, v187.toNat, 0]
def k0_off25 (v184 : BitVec 32) : Fin 3 → Nat :=
  let c2_i32_99 : BitVec 32 := 2#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_102 : BitVec 32 := 0#32
  ![2, v187.toNat, 0]

def k0_chk23 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) : Prop :=
  (∀ (k0_h2 : k0_cond2 i = 1#1), ∀ (k0_h3 : k0_cond3 i v6 v9 v12 v13 v27 v30 v33 v34 v48 v51 v54 v55 v69 v72 v75 v76 v90 v93 v96 v97 = 1#1), 16 ∣ (k0_mult11 v184).toNat) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off23 v184) a + S1x80x6144.size a ≤ S3x600x6144.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ (hinb : ∀ a, (k0_off23 v184) a + S1x80x6144.size a ≤ S3x600x6144.size a), (Rect.unit (s := S3x600x6144) (k0_off23 v184) S1x80x6144.size hinb).WholeWords (EltTy.packing .bf16)) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off24 v184) a + S1x80x6144.size a ≤ S3x600x6144.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ (hinb : ∀ a, (k0_off24 v184) a + S1x80x6144.size a ≤ S3x600x6144.size a), (Rect.unit (s := S3x600x6144) (k0_off24 v184) S1x80x6144.size hinb).WholeWords (EltTy.packing .bf16)) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off25 v184) a + S1x80x6144.size a ≤ S3x600x6144.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ (hinb : ∀ a, (k0_off25 v184) a + S1x80x6144.size a ≤ S3x600x6144.size a), (Rect.unit (s := S3x600x6144) (k0_off25 v184) S1x80x6144.size hinb).WholeWords (EltTy.packing .bf16))
theorem k0_mult11_dvd : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), 16 ∣ (k0_mult11 v184).toNat := fun i v6 v9 v12 v13 v27 v30 v33 v34 v48 v51 v54 v55 v69 v72 v75 v76 v90 v93 v96 v97 v184 k0_hw23 k0_h2 k0_h3 => k0_hw23.1 k0_h2 k0_h3
theorem k0_off23_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), ∀ a, (k0_off23 v184) a + S1x80x6144.size a ≤ S3x600x6144.size a := fun i v6 v9 v12 v13 v27 v30 v33 v34 v48 v51 v54 v55 v69 v72 v75 v76 v90 v93 v96 v97 v184 k0_hw23 k0_h2 k0_h3 => k0_hw23.2.1 k0_h2 k0_h3
theorem k0_off23_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), (Rect.unit (s := S3x600x6144) (k0_off23 v184) S1x80x6144.size (k0_off23_inb i v6 v9 v12 v13 v27 v30 v33 v34 v48 v51 v54 v55 v69 v72 v75 v76 v90 v93 v96 v97 v184 k0_hw23 k0_h2 k0_h3)).WholeWords (EltTy.packing .bf16) := fun i v6 v9 v12 v13 v27 v30 v33 v34 v48 v51 v54 v55 v69 v72 v75 v76 v90 v93 v96 v97 v184 k0_hw23 k0_h2 k0_h3 => k0_hw23.2.2.1 k0_h2 k0_h3 (k0_off23_inb i v6 v9 v12 v13 v27 v30 v33 v34 v48 v51 v54 v55 v69 v72 v75 v76 v90 v93 v96 v97 v184 k0_hw23 k0_h2 k0_h3)
theorem k0_off24_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), ∀ a, (k0_off24 v184) a + S1x80x6144.size a ≤ S3x600x6144.size a := fun i v6 v9 v12 v13 v27 v30 v33 v34 v48 v51 v54 v55 v69 v72 v75 v76 v90 v93 v96 v97 v184 k0_hw23 k0_h2 k0_h3 => k0_hw23.2.2.2.1 k0_h2 k0_h3
theorem k0_off24_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), (Rect.unit (s := S3x600x6144) (k0_off24 v184) S1x80x6144.size (k0_off24_inb i v6 v9 v12 v13 v27 v30 v33 v34 v48 v51 v54 v55 v69 v72 v75 v76 v90 v93 v96 v97 v184 k0_hw23 k0_h2 k0_h3)).WholeWords (EltTy.packing .bf16) := fun i v6 v9 v12 v13 v27 v30 v33 v34 v48 v51 v54 v55 v69 v72 v75 v76 v90 v93 v96 v97 v184 k0_hw23 k0_h2 k0_h3 => k0_hw23.2.2.2.2.1 k0_h2 k0_h3 (k0_off24_inb i v6 v9 v12 v13 v27 v30 v33 v34 v48 v51 v54 v55 v69 v72 v75 v76 v90 v93 v96 v97 v184 k0_hw23 k0_h2 k0_h3)
theorem k0_off25_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), ∀ a, (k0_off25 v184) a + S1x80x6144.size a ≤ S3x600x6144.size a := fun i v6 v9 v12 v13 v27 v30 v33 v34 v48 v51 v54 v55 v69 v72 v75 v76 v90 v93 v96 v97 v184 k0_hw23 k0_h2 k0_h3 => k0_hw23.2.2.2.2.2.1 k0_h2 k0_h3
theorem k0_off25_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw23 : k0_chk23 i v6 v9 v12 v13 v27 v30 v33 v34 v48 v51 v54 v55 v69 v72 v75 v76 v90 v93 v96 v97 v184), ∀ (k0_h2 : k0_cond2 i = 1#1), ∀ (k0_h3 : k0_cond3 i v6 v9 v12 v13 v27 v30 v33 v34 v48 v51 v54 v55 v69 v72 v75 v76 v90 v93 v96 v97 = 1#1), (Rect.unit (s := S3x600x6144) (k0_off25 v184) S1x80x6144.size (k0_off25_inb i v6 v9 v12 v13 v27 v30 v33 v34 v48 v51 v54 v55 v69 v72 v75 v76 v90 v93 v96 v97 v184 k0_hw23 k0_h2 k0_h3)).WholeWords (EltTy.packing .bf16) := fun i v6 v9 v12 v13 v27 v30 v33 v34 v48 v51 v54 v55 v69 v72 v75 v76 v90 v93 v96 v97 v184 k0_hw23 k0_h2 k0_h3 => k0_hw23.2.2.2.2.2.2 k0_h2 k0_h3 (k0_off25_inb i v6 v9 v12 v13 v27 v30 v33 v34 v48 v51 v54 v55 v69 v72 v75 v76 v90 v93 v96 v97 v184 k0_hw23 k0_h2 k0_h3)

def k0_off26 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c0_i32_49 : BitVec 32 := 0#32
  let v100 : BitVec 1 := Scalar.cmpi .eq v89 c0_i32_49
  let v101 : BitVec 1 := Scalar.andi v99 v100
  let c4_i32 : BitVec 32 := 4#32
  let c0_i32_40 : BitVec 32 := 0#32
  let v79 : BitVec 1 := Scalar.cmpi .eq v68 c0_i32_40
  let v80 : BitVec 1 := Scalar.andi v78 v79
  let c3_i32 : BitVec 32 := 3#32
  let c0_i32_30 : BitVec 32 := 0#32
  let v58 : BitVec 1 := Scalar.cmpi .eq v47 c0_i32_30
  let v59 : BitVec 1 := Scalar.andi v57 v58
  let c2_i32_31 : BitVec 32 := 2#32
  let c0_i32_20 : BitVec 32 := 0#32
  let v37 : BitVec 1 := Scalar.cmpi .eq v26 c0_i32_20
  let v38 : BitVec 1 := Scalar.andi v36 v37
  let c1_i32_21 : BitVec 32 := 1#32
  let c0_i32_5 : BitVec 32 := 0#32
  let c0_i32_6 : BitVec 32 := 0#32
  let v16 : BitVec 1 := Scalar.cmpi .eq c0_i32_5 c0_i32_6
  let v17 : BitVec 1 := Scalar.andi v15 v16
  let c0_i32_7 : BitVec 32 := 0#32
  let c0_i32_8 : BitVec 32 := 0#32
  let v18 : BitVec 32 := Scalar.select v17 c0_i32_7 c0_i32_8
  let v39 : BitVec 32 := Scalar.select v38 c1_i32_21 v18
  let v60 : BitVec 32 := Scalar.select v59 c2_i32_31 v39
  let v81 : BitVec 32 := Scalar.select v80 c3_i32 v60
  let v102 : BitVec 32 := Scalar.select v101 c4_i32 v81
  let v219 : Index := Scalar.indexCast v102
  ![v219.toNat]
def k0_off27 (v220 : BitVec 32) : Fin 1 → Nat :=
  let v221 : Index := Scalar.indexCast v220
  ![v221.toNat]

def k0_off28 (v220 : BitVec 32) : Fin 2 → Nat :=
  let v237 : Index := Scalar.indexCast v220
  let c0_126 : Index := 0#32
  ![v237.toNat, 0]
def k0_off29 (v220 : BitVec 32) : Fin 2 → Nat :=
  let v241 : Index := Scalar.indexCast v220
  let c1_128 : Index := 1#32
  ![v241.toNat, 1]
def k0_off30 (v220 : BitVec 32) : Fin 2 → Nat :=
  let v243 : Index := Scalar.indexCast v220
  let c2_129 : Index := 2#32
  ![v243.toNat, 2]

def k0_chk24 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) : Prop :=
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off27 v220) a + S1.size a ≤ S7.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off28 v220) a + S1x1.size a ≤ S7x3.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off29 v220) a + S1x1.size a ≤ S7x3.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off30 v220) a + S1x1.size a ≤ S7x3.size a)
theorem k0_off27_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw24 : k0_chk24 i v6 v9 v12 v13 v27 v30 v33 v34 v48 v51 v54 v55 v69 v72 v75 v76 v90 v93 v96 v97 v220), ∀ (k0_h2 : k0_cond2 i = 1#1), ∀ (k0_h3 : k0_cond3 i v6 v9 v12 v13 v27 v30 v33 v34 v48 v51 v54 v55 v69 v72 v75 v76 v90 v93 v96 v97 = 1#1), ∀ a, (k0_off27 v220) a + S1.size a ≤ S7.size a := fun i v6 v9 v12 v13 v27 v30 v33 v34 v48 v51 v54 v55 v69 v72 v75 v76 v90 v93 v96 v97 v220 k0_hw24 k0_h2 k0_h3 => k0_hw24.1 k0_h2 k0_h3
theorem k0_off28_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw24 : k0_chk24 i v6 v9 v12 v13 v27 v30 v33 v34 v48 v51 v54 v55 v69 v72 v75 v76 v90 v93 v96 v97 v220), ∀ (k0_h2 : k0_cond2 i = 1#1), ∀ (k0_h3 : k0_cond3 i v6 v9 v12 v13 v27 v30 v33 v34 v48 v51 v54 v55 v69 v72 v75 v76 v90 v93 v96 v97 = 1#1), ∀ a, (k0_off28 v220) a + S1x1.size a ≤ S7x3.size a := fun i v6 v9 v12 v13 v27 v30 v33 v34 v48 v51 v54 v55 v69 v72 v75 v76 v90 v93 v96 v97 v220 k0_hw24 k0_h2 k0_h3 => k0_hw24.2.1 k0_h2 k0_h3
theorem k0_off29_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw24 : k0_chk24 i v6 v9 v12 v13 v27 v30 v33 v34 v48 v51 v54 v55 v69 v72 v75 v76 v90 v93 v96 v97 v220), ∀ (k0_h2 : k0_cond2 i = 1#1), ∀ (k0_h3 : k0_cond3 i v6 v9 v12 v13 v27 v30 v33 v34 v48 v51 v54 v55 v69 v72 v75 v76 v90 v93 v96 v97 = 1#1), ∀ a, (k0_off29 v220) a + S1x1.size a ≤ S7x3.size a := fun i v6 v9 v12 v13 v27 v30 v33 v34 v48 v51 v54 v55 v69 v72 v75 v76 v90 v93 v96 v97 v220 k0_hw24 k0_h2 k0_h3 => k0_hw24.2.2.1 k0_h2 k0_h3
theorem k0_off30_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw24 : k0_chk24 i v6 v9 v12 v13 v27 v30 v33 v34 v48 v51 v54 v55 v69 v72 v75 v76 v90 v93 v96 v97 v220), ∀ (k0_h2 : k0_cond2 i = 1#1), ∀ (k0_h3 : k0_cond3 i v6 v9 v12 v13 v27 v30 v33 v34 v48 v51 v54 v55 v69 v72 v75 v76 v90 v93 v96 v97 = 1#1), ∀ a, (k0_off30 v220) a + S1x1.size a ≤ S7x3.size a := fun i v6 v9 v12 v13 v27 v30 v33 v34 v48 v51 v54 v55 v69 v72 v75 v76 v90 v93 v96 v97 v220 k0_hw24 k0_h2 k0_h3 => k0_hw24.2.2.2 k0_h2 k0_h3

def k0_off31 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c0_i32_49 : BitVec 32 := 0#32
  let v100 : BitVec 1 := Scalar.cmpi .eq v89 c0_i32_49
  let v101 : BitVec 1 := Scalar.andi v99 v100
  let c4_i32 : BitVec 32 := 4#32
  let c0_i32_40 : BitVec 32 := 0#32
  let v79 : BitVec 1 := Scalar.cmpi .eq v68 c0_i32_40
  let v80 : BitVec 1 := Scalar.andi v78 v79
  let c3_i32 : BitVec 32 := 3#32
  let c0_i32_30 : BitVec 32 := 0#32
  let v58 : BitVec 1 := Scalar.cmpi .eq v47 c0_i32_30
  let v59 : BitVec 1 := Scalar.andi v57 v58
  let c2_i32_31 : BitVec 32 := 2#32
  let c0_i32_20 : BitVec 32 := 0#32
  let v37 : BitVec 1 := Scalar.cmpi .eq v26 c0_i32_20
  let v38 : BitVec 1 := Scalar.andi v36 v37
  let c1_i32_21 : BitVec 32 := 1#32
  let c0_i32_5 : BitVec 32 := 0#32
  let c0_i32_6 : BitVec 32 := 0#32
  let v16 : BitVec 1 := Scalar.cmpi .eq c0_i32_5 c0_i32_6
  let v17 : BitVec 1 := Scalar.andi v15 v16
  let c0_i32_7 : BitVec 32 := 0#32
  let c0_i32_8 : BitVec 32 := 0#32
  let v18 : BitVec 32 := Scalar.select v17 c0_i32_7 c0_i32_8
  let v39 : BitVec 32 := Scalar.select v38 c1_i32_21 v18
  let v60 : BitVec 32 := Scalar.select v59 c2_i32_31 v39
  let v81 : BitVec 32 := Scalar.select v80 c3_i32 v60
  let v102 : BitVec 32 := Scalar.select v101 c4_i32 v81
  let v258 : Index := Scalar.indexCast v102
  ![v258.toNat]
def k0_off32 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c0_i32_49 : BitVec 32 := 0#32
  let v100 : BitVec 1 := Scalar.cmpi .eq v89 c0_i32_49
  let v101 : BitVec 1 := Scalar.andi v99 v100
  let c4_i32 : BitVec 32 := 4#32
  let c0_i32_40 : BitVec 32 := 0#32
  let v79 : BitVec 1 := Scalar.cmpi .eq v68 c0_i32_40
  let v80 : BitVec 1 := Scalar.andi v78 v79
  let c3_i32 : BitVec 32 := 3#32
  let c0_i32_30 : BitVec 32 := 0#32
  let v58 : BitVec 1 := Scalar.cmpi .eq v47 c0_i32_30
  let v59 : BitVec 1 := Scalar.andi v57 v58
  let c2_i32_31 : BitVec 32 := 2#32
  let c0_i32_20 : BitVec 32 := 0#32
  let v37 : BitVec 1 := Scalar.cmpi .eq v26 c0_i32_20
  let v38 : BitVec 1 := Scalar.andi v36 v37
  let c1_i32_21 : BitVec 32 := 1#32
  let c0_i32_5 : BitVec 32 := 0#32
  let c0_i32_6 : BitVec 32 := 0#32
  let v16 : BitVec 1 := Scalar.cmpi .eq c0_i32_5 c0_i32_6
  let v17 : BitVec 1 := Scalar.andi v15 v16
  let c0_i32_7 : BitVec 32 := 0#32
  let c0_i32_8 : BitVec 32 := 0#32
  let v18 : BitVec 32 := Scalar.select v17 c0_i32_7 c0_i32_8
  let v39 : BitVec 32 := Scalar.select v38 c1_i32_21 v18
  let v60 : BitVec 32 := Scalar.select v59 c2_i32_31 v39
  let v81 : BitVec 32 := Scalar.select v80 c3_i32 v60
  let v102 : BitVec 32 := Scalar.select v101 c4_i32 v81
  let c1_i32_131 : BitVec 32 := 1#32
  let v262 : BitVec 32 := Scalar.addi v102 c1_i32_131
  let v263 : Index := Scalar.indexCast v262
  ![v263.toNat]
def k0_off33 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c1_i32_50 : BitVec 32 := 1#32
  let v103 : BitVec 1 := Scalar.cmpi .eq v89 c1_i32_50
  let v104 : BitVec 1 := Scalar.andi v99 v103
  let c4_i32_51 : BitVec 32 := 4#32
  let c1_i32_41 : BitVec 32 := 1#32
  let v82 : BitVec 1 := Scalar.cmpi .eq v68 c1_i32_41
  let v83 : BitVec 1 := Scalar.andi v78 v82
  let c3_i32_42 : BitVec 32 := 3#32
  let c1_i32_32 : BitVec 32 := 1#32
  let v61 : BitVec 1 := Scalar.cmpi .eq v47 c1_i32_32
  let v62 : BitVec 1 := Scalar.andi v57 v61
  let c2_i32_33 : BitVec 32 := 2#32
  let c1_i32_22 : BitVec 32 := 1#32
  let v40 : BitVec 1 := Scalar.cmpi .eq v26 c1_i32_22
  let v41 : BitVec 1 := Scalar.andi v36 v40
  let c1_i32_23 : BitVec 32 := 1#32
  let c0_i32_9 : BitVec 32 := 0#32
  let c1_i32 : BitVec 32 := 1#32
  let v19 : BitVec 1 := Scalar.cmpi .eq c0_i32_9 c1_i32
  let v20 : BitVec 1 := Scalar.andi v15 v19
  let c0_i32_10 : BitVec 32 := 0#32
  let c0_i32_11 : BitVec 32 := 0#32
  let v21 : BitVec 32 := Scalar.select v20 c0_i32_10 c0_i32_11
  let v42 : BitVec 32 := Scalar.select v41 c1_i32_23 v21
  let v63 : BitVec 32 := Scalar.select v62 c2_i32_33 v42
  let v84 : BitVec 32 := Scalar.select v83 c3_i32_42 v63
  let v105 : BitVec 32 := Scalar.select v104 c4_i32_51 v84
  let v181 : Index := Scalar.indexCast v105
  ![v181.toNat]
def k0_cond4 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : BitVec 1 :=
  let c0_i32_15 : BitVec 32 := 0#32
  let arg0 : BitVec 32 := BitVec.ofNat 32 (i 0).val
  let c768_i32 : BitVec 32 := 768#32
  let v0 : BitVec 32 := Scalar.muli arg0 c768_i32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let v109 : BitVec 32 := Scalar.extui v99
  let v110 : BitVec 32 := Scalar.addi v89 v109
  let c1_i32_85 : BitVec 32 := 1#32
  let v175 : BitVec 1 := Scalar.cmpi .sgt v110 c1_i32_85
  let v176 : BitVec 32 := Scalar.extui v175
  let c0_i32_86 : BitVec 32 := 0#32
  let v177 : BitVec 1 := Scalar.cmpi .ne v176 c0_i32_86
  v177

def k0_off34 (v182 : BitVec 32) : Fin 1 → Nat :=
  let v183 : Index := Scalar.indexCast v182
  ![v183.toNat]

def k0_chk25 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) : Prop :=
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off34 v182) a + S1.size a ≤ S7.size a)
theorem k0_off34_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) (k0_hw25 : k0_chk25 i v6 v9 v12 v13 v27 v30 v33 v34 v48 v51 v54 v55 v69 v72 v75 v76 v90 v93 v96 v97 v182), ∀ (k0_h2 : k0_cond2 i = 1#1), ∀ (k0_h4 : k0_cond4 i v6 v9 v12 v13 v27 v30 v33 v34 v48 v51 v54 v55 v69 v72 v75 v76 v90 v93 v96 v97 = 1#1), ∀ a, (k0_off34 v182) a + S1.size a ≤ S7.size a := fun i v6 v9 v12 v13 v27 v30 v33 v34 v48 v51 v54 v55 v69 v72 v75 v76 v90 v93 v96 v97 v182 k0_hw25 k0_h2 k0_h4 => k0_hw25 k0_h2 k0_h4

def k0_mult12 (v184 : BitVec 32) : BitVec 32 :=
  let c_m16_i32 : BitVec 32 := 4294967280#32
  let v185 : BitVec 32 := Scalar.andi v184 c_m16_i32
  let c512_i32_89 : BitVec 32 := 512#32
  let v186 : BitVec 32 := Scalar.minsi v185 c512_i32_89
  v186

def k0_off35 (v184 : BitVec 32) : Fin 3 → Nat :=
  let c0_i32_90 : BitVec 32 := 0#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_94 : BitVec 32 := 0#32
  ![0, v187.toNat, 0]
def k0_off36 (v184 : BitVec 32) : Fin 3 → Nat :=
  let c1_i32_95 : BitVec 32 := 1#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_98 : BitVec 32 := 0#32
  ![1, v187.toNat, 0]
def k0_off37 (v184 : BitVec 32) : Fin 3 → Nat :=
  let c2_i32_99 : BitVec 32 := 2#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_102 : BitVec 32 := 0#32
  ![2, v187.toNat, 0]

def k0_chk26 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) : Prop :=
  (∀ (k0_h2 : k0_cond2 i = 1#1), ∀ (k0_h4 : k0_cond4 i v6 v9 v12 v13 v27 v30 v33 v34 v48 v51 v54 v55 v69 v72 v75 v76 v90 v93 v96 v97 = 1#1), 16 ∣ (k0_mult12 v184).toNat) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off35 v184) a + S1x80x6144.size a ≤ S3x600x6144.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ (hinb : ∀ a, (k0_off35 v184) a + S1x80x6144.size a ≤ S3x600x6144.size a), (Rect.unit (s := S3x600x6144) (k0_off35 v184) S1x80x6144.size hinb).WholeWords (EltTy.packing .bf16)) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off36 v184) a + S1x80x6144.size a ≤ S3x600x6144.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ (hinb : ∀ a, (k0_off36 v184) a + S1x80x6144.size a ≤ S3x600x6144.size a), (Rect.unit (s := S3x600x6144) (k0_off36 v184) S1x80x6144.size hinb).WholeWords (EltTy.packing .bf16)) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off37 v184) a + S1x80x6144.size a ≤ S3x600x6144.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ (hinb : ∀ a, (k0_off37 v184) a + S1x80x6144.size a ≤ S3x600x6144.size a), (Rect.unit (s := S3x600x6144) (k0_off37 v184) S1x80x6144.size hinb).WholeWords (EltTy.packing .bf16))
theorem k0_mult12_dvd : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), 16 ∣ (k0_mult12 v184).toNat := fun i v6 v9 v12 v13 v27 v30 v33 v34 v48 v51 v54 v55 v69 v72 v75 v76 v90 v93 v96 v97 v184 k0_hw26 k0_h2 k0_h4 => k0_hw26.1 k0_h2 k0_h4
theorem k0_off35_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), ∀ a, (k0_off35 v184) a + S1x80x6144.size a ≤ S3x600x6144.size a := fun i v6 v9 v12 v13 v27 v30 v33 v34 v48 v51 v54 v55 v69 v72 v75 v76 v90 v93 v96 v97 v184 k0_hw26 k0_h2 k0_h4 => k0_hw26.2.1 k0_h2 k0_h4
theorem k0_off35_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), (Rect.unit (s := S3x600x6144) (k0_off35 v184) S1x80x6144.size (k0_off35_inb i v6 v9 v12 v13 v27 v30 v33 v34 v48 v51 v54 v55 v69 v72 v75 v76 v90 v93 v96 v97 v184 k0_hw26 k0_h2 k0_h4)).WholeWords (EltTy.packing .bf16) := fun i v6 v9 v12 v13 v27 v30 v33 v34 v48 v51 v54 v55 v69 v72 v75 v76 v90 v93 v96 v97 v184 k0_hw26 k0_h2 k0_h4 => k0_hw26.2.2.1 k0_h2 k0_h4 (k0_off35_inb i v6 v9 v12 v13 v27 v30 v33 v34 v48 v51 v54 v55 v69 v72 v75 v76 v90 v93 v96 v97 v184 k0_hw26 k0_h2 k0_h4)
theorem k0_off36_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), ∀ a, (k0_off36 v184) a + S1x80x6144.size a ≤ S3x600x6144.size a := fun i v6 v9 v12 v13 v27 v30 v33 v34 v48 v51 v54 v55 v69 v72 v75 v76 v90 v93 v96 v97 v184 k0_hw26 k0_h2 k0_h4 => k0_hw26.2.2.2.1 k0_h2 k0_h4
theorem k0_off36_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), (Rect.unit (s := S3x600x6144) (k0_off36 v184) S1x80x6144.size (k0_off36_inb i v6 v9 v12 v13 v27 v30 v33 v34 v48 v51 v54 v55 v69 v72 v75 v76 v90 v93 v96 v97 v184 k0_hw26 k0_h2 k0_h4)).WholeWords (EltTy.packing .bf16) := fun i v6 v9 v12 v13 v27 v30 v33 v34 v48 v51 v54 v55 v69 v72 v75 v76 v90 v93 v96 v97 v184 k0_hw26 k0_h2 k0_h4 => k0_hw26.2.2.2.2.1 k0_h2 k0_h4 (k0_off36_inb i v6 v9 v12 v13 v27 v30 v33 v34 v48 v51 v54 v55 v69 v72 v75 v76 v90 v93 v96 v97 v184 k0_hw26 k0_h2 k0_h4)
theorem k0_off37_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), ∀ a, (k0_off37 v184) a + S1x80x6144.size a ≤ S3x600x6144.size a := fun i v6 v9 v12 v13 v27 v30 v33 v34 v48 v51 v54 v55 v69 v72 v75 v76 v90 v93 v96 v97 v184 k0_hw26 k0_h2 k0_h4 => k0_hw26.2.2.2.2.2.1 k0_h2 k0_h4
theorem k0_off37_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw26 : k0_chk26 i v6 v9 v12 v13 v27 v30 v33 v34 v48 v51 v54 v55 v69 v72 v75 v76 v90 v93 v96 v97 v184), ∀ (k0_h2 : k0_cond2 i = 1#1), ∀ (k0_h4 : k0_cond4 i v6 v9 v12 v13 v27 v30 v33 v34 v48 v51 v54 v55 v69 v72 v75 v76 v90 v93 v96 v97 = 1#1), (Rect.unit (s := S3x600x6144) (k0_off37 v184) S1x80x6144.size (k0_off37_inb i v6 v9 v12 v13 v27 v30 v33 v34 v48 v51 v54 v55 v69 v72 v75 v76 v90 v93 v96 v97 v184 k0_hw26 k0_h2 k0_h4)).WholeWords (EltTy.packing .bf16) := fun i v6 v9 v12 v13 v27 v30 v33 v34 v48 v51 v54 v55 v69 v72 v75 v76 v90 v93 v96 v97 v184 k0_hw26 k0_h2 k0_h4 => k0_hw26.2.2.2.2.2.2 k0_h2 k0_h4 (k0_off37_inb i v6 v9 v12 v13 v27 v30 v33 v34 v48 v51 v54 v55 v69 v72 v75 v76 v90 v93 v96 v97 v184 k0_hw26 k0_h2 k0_h4)

def k0_off38 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c1_i32_50 : BitVec 32 := 1#32
  let v103 : BitVec 1 := Scalar.cmpi .eq v89 c1_i32_50
  let v104 : BitVec 1 := Scalar.andi v99 v103
  let c4_i32_51 : BitVec 32 := 4#32
  let c1_i32_41 : BitVec 32 := 1#32
  let v82 : BitVec 1 := Scalar.cmpi .eq v68 c1_i32_41
  let v83 : BitVec 1 := Scalar.andi v78 v82
  let c3_i32_42 : BitVec 32 := 3#32
  let c1_i32_32 : BitVec 32 := 1#32
  let v61 : BitVec 1 := Scalar.cmpi .eq v47 c1_i32_32
  let v62 : BitVec 1 := Scalar.andi v57 v61
  let c2_i32_33 : BitVec 32 := 2#32
  let c1_i32_22 : BitVec 32 := 1#32
  let v40 : BitVec 1 := Scalar.cmpi .eq v26 c1_i32_22
  let v41 : BitVec 1 := Scalar.andi v36 v40
  let c1_i32_23 : BitVec 32 := 1#32
  let c0_i32_9 : BitVec 32 := 0#32
  let c1_i32 : BitVec 32 := 1#32
  let v19 : BitVec 1 := Scalar.cmpi .eq c0_i32_9 c1_i32
  let v20 : BitVec 1 := Scalar.andi v15 v19
  let c0_i32_10 : BitVec 32 := 0#32
  let c0_i32_11 : BitVec 32 := 0#32
  let v21 : BitVec 32 := Scalar.select v20 c0_i32_10 c0_i32_11
  let v42 : BitVec 32 := Scalar.select v41 c1_i32_23 v21
  let v63 : BitVec 32 := Scalar.select v62 c2_i32_33 v42
  let v84 : BitVec 32 := Scalar.select v83 c3_i32_42 v63
  let v105 : BitVec 32 := Scalar.select v104 c4_i32_51 v84
  let v219 : Index := Scalar.indexCast v105
  ![v219.toNat]
def k0_off39 (v220 : BitVec 32) : Fin 1 → Nat :=
  let v221 : Index := Scalar.indexCast v220
  ![v221.toNat]

def k0_off40 (v220 : BitVec 32) : Fin 2 → Nat :=
  let v237 : Index := Scalar.indexCast v220
  let c0_126 : Index := 0#32
  ![v237.toNat, 0]
def k0_off41 (v220 : BitVec 32) : Fin 2 → Nat :=
  let v241 : Index := Scalar.indexCast v220
  let c1_128 : Index := 1#32
  ![v241.toNat, 1]
def k0_off42 (v220 : BitVec 32) : Fin 2 → Nat :=
  let v243 : Index := Scalar.indexCast v220
  let c2_129 : Index := 2#32
  ![v243.toNat, 2]

def k0_chk27 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) : Prop :=
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off39 v220) a + S1.size a ≤ S7.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off40 v220) a + S1x1.size a ≤ S7x3.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off41 v220) a + S1x1.size a ≤ S7x3.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off42 v220) a + S1x1.size a ≤ S7x3.size a)
theorem k0_off39_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw27 : k0_chk27 i v6 v9 v12 v13 v27 v30 v33 v34 v48 v51 v54 v55 v69 v72 v75 v76 v90 v93 v96 v97 v220), ∀ (k0_h2 : k0_cond2 i = 1#1), ∀ (k0_h4 : k0_cond4 i v6 v9 v12 v13 v27 v30 v33 v34 v48 v51 v54 v55 v69 v72 v75 v76 v90 v93 v96 v97 = 1#1), ∀ a, (k0_off39 v220) a + S1.size a ≤ S7.size a := fun i v6 v9 v12 v13 v27 v30 v33 v34 v48 v51 v54 v55 v69 v72 v75 v76 v90 v93 v96 v97 v220 k0_hw27 k0_h2 k0_h4 => k0_hw27.1 k0_h2 k0_h4
theorem k0_off40_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw27 : k0_chk27 i v6 v9 v12 v13 v27 v30 v33 v34 v48 v51 v54 v55 v69 v72 v75 v76 v90 v93 v96 v97 v220), ∀ (k0_h2 : k0_cond2 i = 1#1), ∀ (k0_h4 : k0_cond4 i v6 v9 v12 v13 v27 v30 v33 v34 v48 v51 v54 v55 v69 v72 v75 v76 v90 v93 v96 v97 = 1#1), ∀ a, (k0_off40 v220) a + S1x1.size a ≤ S7x3.size a := fun i v6 v9 v12 v13 v27 v30 v33 v34 v48 v51 v54 v55 v69 v72 v75 v76 v90 v93 v96 v97 v220 k0_hw27 k0_h2 k0_h4 => k0_hw27.2.1 k0_h2 k0_h4
theorem k0_off41_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw27 : k0_chk27 i v6 v9 v12 v13 v27 v30 v33 v34 v48 v51 v54 v55 v69 v72 v75 v76 v90 v93 v96 v97 v220), ∀ (k0_h2 : k0_cond2 i = 1#1), ∀ (k0_h4 : k0_cond4 i v6 v9 v12 v13 v27 v30 v33 v34 v48 v51 v54 v55 v69 v72 v75 v76 v90 v93 v96 v97 = 1#1), ∀ a, (k0_off41 v220) a + S1x1.size a ≤ S7x3.size a := fun i v6 v9 v12 v13 v27 v30 v33 v34 v48 v51 v54 v55 v69 v72 v75 v76 v90 v93 v96 v97 v220 k0_hw27 k0_h2 k0_h4 => k0_hw27.2.2.1 k0_h2 k0_h4
theorem k0_off42_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw27 : k0_chk27 i v6 v9 v12 v13 v27 v30 v33 v34 v48 v51 v54 v55 v69 v72 v75 v76 v90 v93 v96 v97 v220), ∀ (k0_h2 : k0_cond2 i = 1#1), ∀ (k0_h4 : k0_cond4 i v6 v9 v12 v13 v27 v30 v33 v34 v48 v51 v54 v55 v69 v72 v75 v76 v90 v93 v96 v97 = 1#1), ∀ a, (k0_off42 v220) a + S1x1.size a ≤ S7x3.size a := fun i v6 v9 v12 v13 v27 v30 v33 v34 v48 v51 v54 v55 v69 v72 v75 v76 v90 v93 v96 v97 v220 k0_hw27 k0_h2 k0_h4 => k0_hw27.2.2.2 k0_h2 k0_h4

def k0_off43 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c1_i32_50 : BitVec 32 := 1#32
  let v103 : BitVec 1 := Scalar.cmpi .eq v89 c1_i32_50
  let v104 : BitVec 1 := Scalar.andi v99 v103
  let c4_i32_51 : BitVec 32 := 4#32
  let c1_i32_41 : BitVec 32 := 1#32
  let v82 : BitVec 1 := Scalar.cmpi .eq v68 c1_i32_41
  let v83 : BitVec 1 := Scalar.andi v78 v82
  let c3_i32_42 : BitVec 32 := 3#32
  let c1_i32_32 : BitVec 32 := 1#32
  let v61 : BitVec 1 := Scalar.cmpi .eq v47 c1_i32_32
  let v62 : BitVec 1 := Scalar.andi v57 v61
  let c2_i32_33 : BitVec 32 := 2#32
  let c1_i32_22 : BitVec 32 := 1#32
  let v40 : BitVec 1 := Scalar.cmpi .eq v26 c1_i32_22
  let v41 : BitVec 1 := Scalar.andi v36 v40
  let c1_i32_23 : BitVec 32 := 1#32
  let c0_i32_9 : BitVec 32 := 0#32
  let c1_i32 : BitVec 32 := 1#32
  let v19 : BitVec 1 := Scalar.cmpi .eq c0_i32_9 c1_i32
  let v20 : BitVec 1 := Scalar.andi v15 v19
  let c0_i32_10 : BitVec 32 := 0#32
  let c0_i32_11 : BitVec 32 := 0#32
  let v21 : BitVec 32 := Scalar.select v20 c0_i32_10 c0_i32_11
  let v42 : BitVec 32 := Scalar.select v41 c1_i32_23 v21
  let v63 : BitVec 32 := Scalar.select v62 c2_i32_33 v42
  let v84 : BitVec 32 := Scalar.select v83 c3_i32_42 v63
  let v105 : BitVec 32 := Scalar.select v104 c4_i32_51 v84
  let v258 : Index := Scalar.indexCast v105
  ![v258.toNat]
def k0_off44 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c1_i32_50 : BitVec 32 := 1#32
  let v103 : BitVec 1 := Scalar.cmpi .eq v89 c1_i32_50
  let v104 : BitVec 1 := Scalar.andi v99 v103
  let c4_i32_51 : BitVec 32 := 4#32
  let c1_i32_41 : BitVec 32 := 1#32
  let v82 : BitVec 1 := Scalar.cmpi .eq v68 c1_i32_41
  let v83 : BitVec 1 := Scalar.andi v78 v82
  let c3_i32_42 : BitVec 32 := 3#32
  let c1_i32_32 : BitVec 32 := 1#32
  let v61 : BitVec 1 := Scalar.cmpi .eq v47 c1_i32_32
  let v62 : BitVec 1 := Scalar.andi v57 v61
  let c2_i32_33 : BitVec 32 := 2#32
  let c1_i32_22 : BitVec 32 := 1#32
  let v40 : BitVec 1 := Scalar.cmpi .eq v26 c1_i32_22
  let v41 : BitVec 1 := Scalar.andi v36 v40
  let c1_i32_23 : BitVec 32 := 1#32
  let c0_i32_9 : BitVec 32 := 0#32
  let c1_i32 : BitVec 32 := 1#32
  let v19 : BitVec 1 := Scalar.cmpi .eq c0_i32_9 c1_i32
  let v20 : BitVec 1 := Scalar.andi v15 v19
  let c0_i32_10 : BitVec 32 := 0#32
  let c0_i32_11 : BitVec 32 := 0#32
  let v21 : BitVec 32 := Scalar.select v20 c0_i32_10 c0_i32_11
  let v42 : BitVec 32 := Scalar.select v41 c1_i32_23 v21
  let v63 : BitVec 32 := Scalar.select v62 c2_i32_33 v42
  let v84 : BitVec 32 := Scalar.select v83 c3_i32_42 v63
  let v105 : BitVec 32 := Scalar.select v104 c4_i32_51 v84
  let c1_i32_131 : BitVec 32 := 1#32
  let v262 : BitVec 32 := Scalar.addi v105 c1_i32_131
  let v263 : Index := Scalar.indexCast v262
  ![v263.toNat]
def k0_off45 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c2_i32_52 : BitVec 32 := 2#32
  let v106 : BitVec 1 := Scalar.cmpi .eq v89 c2_i32_52
  let v107 : BitVec 1 := Scalar.andi v99 v106
  let c4_i32_53 : BitVec 32 := 4#32
  let c2_i32_43 : BitVec 32 := 2#32
  let v85 : BitVec 1 := Scalar.cmpi .eq v68 c2_i32_43
  let v86 : BitVec 1 := Scalar.andi v78 v85
  let c3_i32_44 : BitVec 32 := 3#32
  let c2_i32_34 : BitVec 32 := 2#32
  let v64 : BitVec 1 := Scalar.cmpi .eq v47 c2_i32_34
  let v65 : BitVec 1 := Scalar.andi v57 v64
  let c2_i32_35 : BitVec 32 := 2#32
  let c2_i32_24 : BitVec 32 := 2#32
  let v43 : BitVec 1 := Scalar.cmpi .eq v26 c2_i32_24
  let v44 : BitVec 1 := Scalar.andi v36 v43
  let c1_i32_25 : BitVec 32 := 1#32
  let c0_i32_12 : BitVec 32 := 0#32
  let c2_i32 : BitVec 32 := 2#32
  let v22 : BitVec 1 := Scalar.cmpi .eq c0_i32_12 c2_i32
  let v23 : BitVec 1 := Scalar.andi v15 v22
  let c0_i32_13 : BitVec 32 := 0#32
  let c0_i32_14 : BitVec 32 := 0#32
  let v24 : BitVec 32 := Scalar.select v23 c0_i32_13 c0_i32_14
  let v45 : BitVec 32 := Scalar.select v44 c1_i32_25 v24
  let v66 : BitVec 32 := Scalar.select v65 c2_i32_35 v45
  let v87 : BitVec 32 := Scalar.select v86 c3_i32_44 v66
  let v108 : BitVec 32 := Scalar.select v107 c4_i32_53 v87
  let v181 : Index := Scalar.indexCast v108
  ![v181.toNat]
def k0_cond5 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : BitVec 1 :=
  let c0_i32_15 : BitVec 32 := 0#32
  let arg0 : BitVec 32 := BitVec.ofNat 32 (i 0).val
  let c768_i32 : BitVec 32 := 768#32
  let v0 : BitVec 32 := Scalar.muli arg0 c768_i32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let v109 : BitVec 32 := Scalar.extui v99
  let v110 : BitVec 32 := Scalar.addi v89 v109
  let c2_i32_87 : BitVec 32 := 2#32
  let v178 : BitVec 1 := Scalar.cmpi .sgt v110 c2_i32_87
  let v179 : BitVec 32 := Scalar.extui v178
  let c0_i32_88 : BitVec 32 := 0#32
  let v180 : BitVec 1 := Scalar.cmpi .ne v179 c0_i32_88
  v180

def k0_off46 (v182 : BitVec 32) : Fin 1 → Nat :=
  let v183 : Index := Scalar.indexCast v182
  ![v183.toNat]

def k0_chk28 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) : Prop :=
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off46 v182) a + S1.size a ≤ S7.size a)
theorem k0_off46_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v182 : BitVec 32) (k0_hw28 : k0_chk28 i v6 v9 v12 v13 v27 v30 v33 v34 v48 v51 v54 v55 v69 v72 v75 v76 v90 v93 v96 v97 v182), ∀ (k0_h2 : k0_cond2 i = 1#1), ∀ (k0_h5 : k0_cond5 i v6 v9 v12 v13 v27 v30 v33 v34 v48 v51 v54 v55 v69 v72 v75 v76 v90 v93 v96 v97 = 1#1), ∀ a, (k0_off46 v182) a + S1.size a ≤ S7.size a := fun i v6 v9 v12 v13 v27 v30 v33 v34 v48 v51 v54 v55 v69 v72 v75 v76 v90 v93 v96 v97 v182 k0_hw28 k0_h2 k0_h5 => k0_hw28 k0_h2 k0_h5

def k0_mult13 (v184 : BitVec 32) : BitVec 32 :=
  let c_m16_i32 : BitVec 32 := 4294967280#32
  let v185 : BitVec 32 := Scalar.andi v184 c_m16_i32
  let c512_i32_89 : BitVec 32 := 512#32
  let v186 : BitVec 32 := Scalar.minsi v185 c512_i32_89
  v186

def k0_off47 (v184 : BitVec 32) : Fin 3 → Nat :=
  let c0_i32_90 : BitVec 32 := 0#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_94 : BitVec 32 := 0#32
  ![0, v187.toNat, 0]
def k0_off48 (v184 : BitVec 32) : Fin 3 → Nat :=
  let c1_i32_95 : BitVec 32 := 1#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_98 : BitVec 32 := 0#32
  ![1, v187.toNat, 0]
def k0_off49 (v184 : BitVec 32) : Fin 3 → Nat :=
  let c2_i32_99 : BitVec 32 := 2#32
  let c_m16_i32 : BitVec 32 := 4294967280#32
  let v185 : BitVec 32 := Scalar.andi v184 c_m16_i32
  let c512_i32_89 : BitVec 32 := 512#32
  let v186 : BitVec 32 := Scalar.minsi v185 c512_i32_89
  let v187 : BitVec 32 := v186
  let c0_i32_102 : BitVec 32 := 0#32
  ![2, v187.toNat, 0]

def k0_chk29 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) : Prop :=
  (∀ (k0_h2 : k0_cond2 i = 1#1), ∀ (k0_h5 : k0_cond5 i v6 v9 v12 v13 v27 v30 v33 v34 v48 v51 v54 v55 v69 v72 v75 v76 v90 v93 v96 v97 = 1#1), 16 ∣ (k0_mult13 v184).toNat) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off47 v184) a + S1x80x6144.size a ≤ S3x600x6144.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ (hinb : ∀ a, (k0_off47 v184) a + S1x80x6144.size a ≤ S3x600x6144.size a), (Rect.unit (s := S3x600x6144) (k0_off47 v184) S1x80x6144.size hinb).WholeWords (EltTy.packing .bf16)) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off48 v184) a + S1x80x6144.size a ≤ S3x600x6144.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ (hinb : ∀ a, (k0_off48 v184) a + S1x80x6144.size a ≤ S3x600x6144.size a), (Rect.unit (s := S3x600x6144) (k0_off48 v184) S1x80x6144.size hinb).WholeWords (EltTy.packing .bf16)) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off49 v184) a + S1x80x6144.size a ≤ S3x600x6144.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ (hinb : ∀ a, (k0_off49 v184) a + S1x80x6144.size a ≤ S3x600x6144.size a), (Rect.unit (s := S3x600x6144) (k0_off49 v184) S1x80x6144.size hinb).WholeWords (EltTy.packing .bf16))
theorem k0_mult13_dvd : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), 16 ∣ (k0_mult13 v184).toNat := fun i v6 v9 v12 v13 v27 v30 v33 v34 v48 v51 v54 v55 v69 v72 v75 v76 v90 v93 v96 v97 v184 k0_hw29 k0_h2 k0_h5 => k0_hw29.1 k0_h2 k0_h5
theorem k0_off47_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), ∀ a, (k0_off47 v184) a + S1x80x6144.size a ≤ S3x600x6144.size a := fun i v6 v9 v12 v13 v27 v30 v33 v34 v48 v51 v54 v55 v69 v72 v75 v76 v90 v93 v96 v97 v184 k0_hw29 k0_h2 k0_h5 => k0_hw29.2.1 k0_h2 k0_h5
theorem k0_off47_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), (Rect.unit (s := S3x600x6144) (k0_off47 v184) S1x80x6144.size (k0_off47_inb i v6 v9 v12 v13 v27 v30 v33 v34 v48 v51 v54 v55 v69 v72 v75 v76 v90 v93 v96 v97 v184 k0_hw29 k0_h2 k0_h5)).WholeWords (EltTy.packing .bf16) := fun i v6 v9 v12 v13 v27 v30 v33 v34 v48 v51 v54 v55 v69 v72 v75 v76 v90 v93 v96 v97 v184 k0_hw29 k0_h2 k0_h5 => k0_hw29.2.2.1 k0_h2 k0_h5 (k0_off47_inb i v6 v9 v12 v13 v27 v30 v33 v34 v48 v51 v54 v55 v69 v72 v75 v76 v90 v93 v96 v97 v184 k0_hw29 k0_h2 k0_h5)
theorem k0_off48_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), ∀ a, (k0_off48 v184) a + S1x80x6144.size a ≤ S3x600x6144.size a := fun i v6 v9 v12 v13 v27 v30 v33 v34 v48 v51 v54 v55 v69 v72 v75 v76 v90 v93 v96 v97 v184 k0_hw29 k0_h2 k0_h5 => k0_hw29.2.2.2.1 k0_h2 k0_h5
theorem k0_off48_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), (Rect.unit (s := S3x600x6144) (k0_off48 v184) S1x80x6144.size (k0_off48_inb i v6 v9 v12 v13 v27 v30 v33 v34 v48 v51 v54 v55 v69 v72 v75 v76 v90 v93 v96 v97 v184 k0_hw29 k0_h2 k0_h5)).WholeWords (EltTy.packing .bf16) := fun i v6 v9 v12 v13 v27 v30 v33 v34 v48 v51 v54 v55 v69 v72 v75 v76 v90 v93 v96 v97 v184 k0_hw29 k0_h2 k0_h5 => k0_hw29.2.2.2.2.1 k0_h2 k0_h5 (k0_off48_inb i v6 v9 v12 v13 v27 v30 v33 v34 v48 v51 v54 v55 v69 v72 v75 v76 v90 v93 v96 v97 v184 k0_hw29 k0_h2 k0_h5)
theorem k0_off49_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), ∀ a, (k0_off49 v184) a + S1x80x6144.size a ≤ S3x600x6144.size a := fun i v6 v9 v12 v13 v27 v30 v33 v34 v48 v51 v54 v55 v69 v72 v75 v76 v90 v93 v96 v97 v184 k0_hw29 k0_h2 k0_h5 => k0_hw29.2.2.2.2.2.1 k0_h2 k0_h5
theorem k0_off49_wordsbf16 : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v184 : BitVec 32) (k0_hw29 : k0_chk29 i v6 v9 v12 v13 v27 v30 v33 v34 v48 v51 v54 v55 v69 v72 v75 v76 v90 v93 v96 v97 v184), ∀ (k0_h2 : k0_cond2 i = 1#1), ∀ (k0_h5 : k0_cond5 i v6 v9 v12 v13 v27 v30 v33 v34 v48 v51 v54 v55 v69 v72 v75 v76 v90 v93 v96 v97 = 1#1), (Rect.unit (s := S3x600x6144) (k0_off49 v184) S1x80x6144.size (k0_off49_inb i v6 v9 v12 v13 v27 v30 v33 v34 v48 v51 v54 v55 v69 v72 v75 v76 v90 v93 v96 v97 v184 k0_hw29 k0_h2 k0_h5)).WholeWords (EltTy.packing .bf16) := fun i v6 v9 v12 v13 v27 v30 v33 v34 v48 v51 v54 v55 v69 v72 v75 v76 v90 v93 v96 v97 v184 k0_hw29 k0_h2 k0_h5 => k0_hw29.2.2.2.2.2.2 k0_h2 k0_h5 (k0_off49_inb i v6 v9 v12 v13 v27 v30 v33 v34 v48 v51 v54 v55 v69 v72 v75 v76 v90 v93 v96 v97 v184 k0_hw29 k0_h2 k0_h5)

def k0_off50 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c2_i32_52 : BitVec 32 := 2#32
  let v106 : BitVec 1 := Scalar.cmpi .eq v89 c2_i32_52
  let v107 : BitVec 1 := Scalar.andi v99 v106
  let c4_i32_53 : BitVec 32 := 4#32
  let c2_i32_43 : BitVec 32 := 2#32
  let v85 : BitVec 1 := Scalar.cmpi .eq v68 c2_i32_43
  let v86 : BitVec 1 := Scalar.andi v78 v85
  let c3_i32_44 : BitVec 32 := 3#32
  let c2_i32_34 : BitVec 32 := 2#32
  let v64 : BitVec 1 := Scalar.cmpi .eq v47 c2_i32_34
  let v65 : BitVec 1 := Scalar.andi v57 v64
  let c2_i32_35 : BitVec 32 := 2#32
  let c2_i32_24 : BitVec 32 := 2#32
  let v43 : BitVec 1 := Scalar.cmpi .eq v26 c2_i32_24
  let v44 : BitVec 1 := Scalar.andi v36 v43
  let c1_i32_25 : BitVec 32 := 1#32
  let c0_i32_12 : BitVec 32 := 0#32
  let c2_i32 : BitVec 32 := 2#32
  let v22 : BitVec 1 := Scalar.cmpi .eq c0_i32_12 c2_i32
  let v23 : BitVec 1 := Scalar.andi v15 v22
  let c0_i32_13 : BitVec 32 := 0#32
  let c0_i32_14 : BitVec 32 := 0#32
  let v24 : BitVec 32 := Scalar.select v23 c0_i32_13 c0_i32_14
  let v45 : BitVec 32 := Scalar.select v44 c1_i32_25 v24
  let v66 : BitVec 32 := Scalar.select v65 c2_i32_35 v45
  let v87 : BitVec 32 := Scalar.select v86 c3_i32_44 v66
  let v108 : BitVec 32 := Scalar.select v107 c4_i32_53 v87
  let v219 : Index := Scalar.indexCast v108
  ![v219.toNat]
def k0_off51 (v220 : BitVec 32) : Fin 1 → Nat :=
  let v221 : Index := Scalar.indexCast v220
  ![v221.toNat]

def k0_off52 (v220 : BitVec 32) : Fin 2 → Nat :=
  let v237 : Index := Scalar.indexCast v220
  let c0_126 : Index := 0#32
  ![v237.toNat, 0]
def k0_off53 (v220 : BitVec 32) : Fin 2 → Nat :=
  let v241 : Index := Scalar.indexCast v220
  let c1_128 : Index := 1#32
  ![v241.toNat, 1]
def k0_off54 (v220 : BitVec 32) : Fin 2 → Nat :=
  let v243 : Index := Scalar.indexCast v220
  let c2_129 : Index := 2#32
  ![v243.toNat, 2]

def k0_chk30 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) : Prop :=
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off51 v220) a + S1.size a ≤ S7.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off52 v220) a + S1x1.size a ≤ S7x3.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off53 v220) a + S1x1.size a ≤ S7x3.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off54 v220) a + S1x1.size a ≤ S7x3.size a)
theorem k0_off51_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw30 : k0_chk30 i v6 v9 v12 v13 v27 v30 v33 v34 v48 v51 v54 v55 v69 v72 v75 v76 v90 v93 v96 v97 v220), ∀ (k0_h2 : k0_cond2 i = 1#1), ∀ (k0_h5 : k0_cond5 i v6 v9 v12 v13 v27 v30 v33 v34 v48 v51 v54 v55 v69 v72 v75 v76 v90 v93 v96 v97 = 1#1), ∀ a, (k0_off51 v220) a + S1.size a ≤ S7.size a := fun i v6 v9 v12 v13 v27 v30 v33 v34 v48 v51 v54 v55 v69 v72 v75 v76 v90 v93 v96 v97 v220 k0_hw30 k0_h2 k0_h5 => k0_hw30.1 k0_h2 k0_h5
theorem k0_off52_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw30 : k0_chk30 i v6 v9 v12 v13 v27 v30 v33 v34 v48 v51 v54 v55 v69 v72 v75 v76 v90 v93 v96 v97 v220), ∀ (k0_h2 : k0_cond2 i = 1#1), ∀ (k0_h5 : k0_cond5 i v6 v9 v12 v13 v27 v30 v33 v34 v48 v51 v54 v55 v69 v72 v75 v76 v90 v93 v96 v97 = 1#1), ∀ a, (k0_off52 v220) a + S1x1.size a ≤ S7x3.size a := fun i v6 v9 v12 v13 v27 v30 v33 v34 v48 v51 v54 v55 v69 v72 v75 v76 v90 v93 v96 v97 v220 k0_hw30 k0_h2 k0_h5 => k0_hw30.2.1 k0_h2 k0_h5
theorem k0_off53_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw30 : k0_chk30 i v6 v9 v12 v13 v27 v30 v33 v34 v48 v51 v54 v55 v69 v72 v75 v76 v90 v93 v96 v97 v220), ∀ (k0_h2 : k0_cond2 i = 1#1), ∀ (k0_h5 : k0_cond5 i v6 v9 v12 v13 v27 v30 v33 v34 v48 v51 v54 v55 v69 v72 v75 v76 v90 v93 v96 v97 = 1#1), ∀ a, (k0_off53 v220) a + S1x1.size a ≤ S7x3.size a := fun i v6 v9 v12 v13 v27 v30 v33 v34 v48 v51 v54 v55 v69 v72 v75 v76 v90 v93 v96 v97 v220 k0_hw30 k0_h2 k0_h5 => k0_hw30.2.2.1 k0_h2 k0_h5
theorem k0_off54_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (v220 : BitVec 32) (k0_hw30 : k0_chk30 i v6 v9 v12 v13 v27 v30 v33 v34 v48 v51 v54 v55 v69 v72 v75 v76 v90 v93 v96 v97 v220), ∀ (k0_h2 : k0_cond2 i = 1#1), ∀ (k0_h5 : k0_cond5 i v6 v9 v12 v13 v27 v30 v33 v34 v48 v51 v54 v55 v69 v72 v75 v76 v90 v93 v96 v97 = 1#1), ∀ a, (k0_off54 v220) a + S1x1.size a ≤ S7x3.size a := fun i v6 v9 v12 v13 v27 v30 v33 v34 v48 v51 v54 v55 v69 v72 v75 v76 v90 v93 v96 v97 v220 k0_hw30 k0_h2 k0_h5 => k0_hw30.2.2.2 k0_h2 k0_h5

def k0_off55 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c2_i32_52 : BitVec 32 := 2#32
  let v106 : BitVec 1 := Scalar.cmpi .eq v89 c2_i32_52
  let v107 : BitVec 1 := Scalar.andi v99 v106
  let c4_i32_53 : BitVec 32 := 4#32
  let c2_i32_43 : BitVec 32 := 2#32
  let v85 : BitVec 1 := Scalar.cmpi .eq v68 c2_i32_43
  let v86 : BitVec 1 := Scalar.andi v78 v85
  let c3_i32_44 : BitVec 32 := 3#32
  let c2_i32_34 : BitVec 32 := 2#32
  let v64 : BitVec 1 := Scalar.cmpi .eq v47 c2_i32_34
  let v65 : BitVec 1 := Scalar.andi v57 v64
  let c2_i32_35 : BitVec 32 := 2#32
  let c2_i32_24 : BitVec 32 := 2#32
  let v43 : BitVec 1 := Scalar.cmpi .eq v26 c2_i32_24
  let v44 : BitVec 1 := Scalar.andi v36 v43
  let c1_i32_25 : BitVec 32 := 1#32
  let c0_i32_12 : BitVec 32 := 0#32
  let c2_i32 : BitVec 32 := 2#32
  let v22 : BitVec 1 := Scalar.cmpi .eq c0_i32_12 c2_i32
  let v23 : BitVec 1 := Scalar.andi v15 v22
  let c0_i32_13 : BitVec 32 := 0#32
  let c0_i32_14 : BitVec 32 := 0#32
  let v24 : BitVec 32 := Scalar.select v23 c0_i32_13 c0_i32_14
  let v45 : BitVec 32 := Scalar.select v44 c1_i32_25 v24
  let v66 : BitVec 32 := Scalar.select v65 c2_i32_35 v45
  let v87 : BitVec 32 := Scalar.select v86 c3_i32_44 v66
  let v108 : BitVec 32 := Scalar.select v107 c4_i32_53 v87
  let v258 : Index := Scalar.indexCast v108
  ![v258.toNat]
def k0_off56 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Fin 1 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let c2_i32_52 : BitVec 32 := 2#32
  let v106 : BitVec 1 := Scalar.cmpi .eq v89 c2_i32_52
  let v107 : BitVec 1 := Scalar.andi v99 v106
  let c4_i32_53 : BitVec 32 := 4#32
  let c2_i32_43 : BitVec 32 := 2#32
  let v85 : BitVec 1 := Scalar.cmpi .eq v68 c2_i32_43
  let v86 : BitVec 1 := Scalar.andi v78 v85
  let c3_i32_44 : BitVec 32 := 3#32
  let c2_i32_34 : BitVec 32 := 2#32
  let v64 : BitVec 1 := Scalar.cmpi .eq v47 c2_i32_34
  let v65 : BitVec 1 := Scalar.andi v57 v64
  let c2_i32_35 : BitVec 32 := 2#32
  let c2_i32_24 : BitVec 32 := 2#32
  let v43 : BitVec 1 := Scalar.cmpi .eq v26 c2_i32_24
  let v44 : BitVec 1 := Scalar.andi v36 v43
  let c1_i32_25 : BitVec 32 := 1#32
  let c0_i32_12 : BitVec 32 := 0#32
  let c2_i32 : BitVec 32 := 2#32
  let v22 : BitVec 1 := Scalar.cmpi .eq c0_i32_12 c2_i32
  let v23 : BitVec 1 := Scalar.andi v15 v22
  let c0_i32_13 : BitVec 32 := 0#32
  let c0_i32_14 : BitVec 32 := 0#32
  let v24 : BitVec 32 := Scalar.select v23 c0_i32_13 c0_i32_14
  let v45 : BitVec 32 := Scalar.select v44 c1_i32_25 v24
  let v66 : BitVec 32 := Scalar.select v65 c2_i32_35 v45
  let v87 : BitVec 32 := Scalar.select v86 c3_i32_44 v66
  let v108 : BitVec 32 := Scalar.select v107 c4_i32_53 v87
  let c1_i32_131 : BitVec 32 := 1#32
  let v262 : BitVec 32 := Scalar.addi v108 c1_i32_131
  let v263 : Index := Scalar.indexCast v262
  ![v263.toNat]
def k0_mult14 (i : grid0.Coords) : BitVec 32 :=
  let arg1 : BitVec 32 := BitVec.ofNat 32 (i 1).val
  let c512_i32 : BitVec 32 := 512#32
  let v143 : BitVec 32 := Scalar.muli arg1 c512_i32
  v143
def k0_off57 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (c0_i32_49 : BitVec 32) (c0_i32_40 : BitVec 32) (c0_i32_30 : BitVec 32) (c0_i32_20 : BitVec 32) (c0_i32_6 : BitVec 32) : Fin 3 → Nat :=
  let arg0 : BitVec 32 := BitVec.ofNat 32 (i 0).val
  let c768_i32 : BitVec 32 := 768#32
  let v0 : BitVec 32 := Scalar.muli arg0 c768_i32
  let c768_i32_46 : BitVec 32 := 768#32
  let v91 : BitVec 32 := Scalar.addi v0 c768_i32_46
  let v92 : BitVec 1 := Scalar.cmpi .slt v90 v91
  let v94 : BitVec 1 := Scalar.cmpi .sgt v93 v0
  let v95 : BitVec 1 := Scalar.andi v92 v94
  let v98 : BitVec 1 := Scalar.cmpi .sgt v96 v97
  let v99 : BitVec 1 := Scalar.andi v95 v98
  let c0_i32_15 : BitVec 32 := 0#32
  let c768_i32_2 : BitVec 32 := 768#32
  let v7 : BitVec 32 := Scalar.addi v0 c768_i32_2
  let v8 : BitVec 1 := Scalar.cmpi .slt v6 v7
  let v10 : BitVec 1 := Scalar.cmpi .sgt v9 v0
  let v11 : BitVec 1 := Scalar.andi v8 v10
  let v14 : BitVec 1 := Scalar.cmpi .sgt v12 v13
  let v15 : BitVec 1 := Scalar.andi v11 v14
  let v25 : BitVec 32 := Scalar.extui v15
  let v26 : BitVec 32 := Scalar.addi c0_i32_15 v25
  let c768_i32_17 : BitVec 32 := 768#32
  let v28 : BitVec 32 := Scalar.addi v0 c768_i32_17
  let v29 : BitVec 1 := Scalar.cmpi .slt v27 v28
  let v31 : BitVec 1 := Scalar.cmpi .sgt v30 v0
  let v32 : BitVec 1 := Scalar.andi v29 v31
  let v35 : BitVec 1 := Scalar.cmpi .sgt v33 v34
  let v36 : BitVec 1 := Scalar.andi v32 v35
  let v46 : BitVec 32 := Scalar.extui v36
  let v47 : BitVec 32 := Scalar.addi v26 v46
  let c768_i32_27 : BitVec 32 := 768#32
  let v49 : BitVec 32 := Scalar.addi v0 c768_i32_27
  let v50 : BitVec 1 := Scalar.cmpi .slt v48 v49
  let v52 : BitVec 1 := Scalar.cmpi .sgt v51 v0
  let v53 : BitVec 1 := Scalar.andi v50 v52
  let v56 : BitVec 1 := Scalar.cmpi .sgt v54 v55
  let v57 : BitVec 1 := Scalar.andi v53 v56
  let v67 : BitVec 32 := Scalar.extui v57
  let v68 : BitVec 32 := Scalar.addi v47 v67
  let c768_i32_37 : BitVec 32 := 768#32
  let v70 : BitVec 32 := Scalar.addi v0 c768_i32_37
  let v71 : BitVec 1 := Scalar.cmpi .slt v69 v70
  let v73 : BitVec 1 := Scalar.cmpi .sgt v72 v0
  let v74 : BitVec 1 := Scalar.andi v71 v73
  let v77 : BitVec 1 := Scalar.cmpi .sgt v75 v76
  let v78 : BitVec 1 := Scalar.andi v74 v77
  let v88 : BitVec 32 := Scalar.extui v78
  let v89 : BitVec 32 := Scalar.addi v68 v88
  let v100 : BitVec 1 := Scalar.cmpi .eq v89 c0_i32_49
  let v101 : BitVec 1 := Scalar.andi v99 v100
  let c4_i32 : BitVec 32 := 4#32
  let v79 : BitVec 1 := Scalar.cmpi .eq v68 c0_i32_40
  let v80 : BitVec 1 := Scalar.andi v78 v79
  let c3_i32 : BitVec 32 := 3#32
  let v58 : BitVec 1 := Scalar.cmpi .eq v47 c0_i32_30
  let v59 : BitVec 1 := Scalar.andi v57 v58
  let c2_i32_31 : BitVec 32 := 2#32
  let v37 : BitVec 1 := Scalar.cmpi .eq v26 c0_i32_20
  let v38 : BitVec 1 := Scalar.andi v36 v37
  let c1_i32_21 : BitVec 32 := 1#32
  let c0_i32_5 : BitVec 32 := 0#32
  let v16 : BitVec 1 := Scalar.cmpi .eq c0_i32_5 c0_i32_6
  let v17 : BitVec 1 := Scalar.andi v15 v16
  let c0_i32_7 : BitVec 32 := 0#32
  let c0_i32_8 : BitVec 32 := 0#32
  let v18 : BitVec 32 := Scalar.select v17 c0_i32_7 c0_i32_8
  let v39 : BitVec 32 := Scalar.select v38 c1_i32_21 v18
  let v60 : BitVec 32 := Scalar.select v59 c2_i32_31 v39
  let v81 : BitVec 32 := Scalar.select v80 c3_i32 v60
  let v102 : BitVec 32 := Scalar.select v101 c4_i32 v81
  let v145 : Index := Scalar.indexCast v102
  let c0_67 : Index := 0#32
  let arg1 : BitVec 32 := BitVec.ofNat 32 (i 1).val
  let c512_i32 : BitVec 32 := 512#32
  let v143 : BitVec 32 := Scalar.muli arg1 c512_i32
  let v144 : BitVec 32 := v143
  let v146 : Index := Scalar.indexCast v144
  ![v145.toNat, 0, v146.toNat]
def k0_off57_at (r : Fin 3) : BitVec 32 × BitVec 32 × BitVec 32 × BitVec 32 × BitVec 32 :=
  if r.val < 1 then
    (0#32, 0#32, 0#32, 0#32, 0#32)
  else
    if r.val < 2 then
      (1#32, 1#32, 1#32, 1#32, 1#32)
    else
      (2#32, 2#32, 2#32, 2#32, 2#32)

def k0_chk21 (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) : Prop :=
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off21 i v6 v9 v12 v13 v27 v30 v33 v34 v48 v51 v54 v55 v69 v72 v75 v76 v90 v93 v96 v97) a + S1.size a ≤ S5.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off26 i v6 v9 v12 v13 v27 v30 v33 v34 v48 v51 v54 v55 v69 v72 v75 v76 v90 v93 v96 v97) a + S1.size a ≤ S5.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off31 i v6 v9 v12 v13 v27 v30 v33 v34 v48 v51 v54 v55 v69 v72 v75 v76 v90 v93 v96 v97) a + S1.size a ≤ S6.size a) ∧
  (∀ (k0_h2 : k0_cond2 i = 1#1), ∀ (k0_h3 : k0_cond3 i v6 v9 v12 v13 v27 v30 v33 v34 v48 v51 v54 v55 v69 v72 v75 v76 v90 v93 v96 v97 = 1#1), ∀ a, (k0_off32 i v6 v9 v12 v13 v27 v30 v33 v34 v48 v51 v54 v55 v69 v72 v75 v76 v90 v93 v96 v97) a + S1.size a ≤ S6.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off33 i v6 v9 v12 v13 v27 v30 v33 v34 v48 v51 v54 v55 v69 v72 v75 v76 v90 v93 v96 v97) a + S1.size a ≤ S5.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off38 i v6 v9 v12 v13 v27 v30 v33 v34 v48 v51 v54 v55 v69 v72 v75 v76 v90 v93 v96 v97) a + S1.size a ≤ S5.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off43 i v6 v9 v12 v13 v27 v30 v33 v34 v48 v51 v54 v55 v69 v72 v75 v76 v90 v93 v96 v97) a + S1.size a ≤ S6.size a) ∧
  (∀ (k0_h2 : k0_cond2 i = 1#1), ∀ (k0_h4 : k0_cond4 i v6 v9 v12 v13 v27 v30 v33 v34 v48 v51 v54 v55 v69 v72 v75 v76 v90 v93 v96 v97 = 1#1), ∀ a, (k0_off44 i v6 v9 v12 v13 v27 v30 v33 v34 v48 v51 v54 v55 v69 v72 v75 v76 v90 v93 v96 v97) a + S1.size a ≤ S6.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off45 i v6 v9 v12 v13 v27 v30 v33 v34 v48 v51 v54 v55 v69 v72 v75 v76 v90 v93 v96 v97) a + S1.size a ≤ S5.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off50 i v6 v9 v12 v13 v27 v30 v33 v34 v48 v51 v54 v55 v69 v72 v75 v76 v90 v93 v96 v97) a + S1.size a ≤ S5.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off55 i v6 v9 v12 v13 v27 v30 v33 v34 v48 v51 v54 v55 v69 v72 v75 v76 v90 v93 v96 v97) a + S1.size a ≤ S6.size a) ∧
  (∀ (k0_h2 : k0_cond2 i = 1#1), ∀ (k0_h5 : k0_cond5 i v6 v9 v12 v13 v27 v30 v33 v34 v48 v51 v54 v55 v69 v72 v75 v76 v90 v93 v96 v97 = 1#1), ∀ a, (k0_off56 i v6 v9 v12 v13 v27 v30 v33 v34 v48 v51 v54 v55 v69 v72 v75 v76 v90 v93 v96 v97) a + S1.size a ≤ S6.size a) ∧
  (∀ (r : Fin 3), ∀ a, (k0_off57 i v6 v9 v12 v13 v27 v30 v33 v34 v48 v51 v54 v55 v69 v72 v75 v76 v90 v93 v96 v97 (k0_off57_at r).1 (k0_off57_at r).2.1 (k0_off57_at r).2.2.1 (k0_off57_at r).2.2.2.1 (k0_off57_at r).2.2.2.2) a + S1x80x512.size a ≤ S5x80x16384.size a)
theorem k0_off21_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h3 : k0_cond3 i v6 v9 v12 v13 v27 v30 v33 v34 v48 v51 v54 v55 v69 v72 v75 v76 v90 v93 v96 v97 = 1#1), ∀ a, (k0_off21 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h3 => k0_hw21.1 k0_h2 k0_h3
theorem k0_off26_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h3 : k0_cond3 i v6 v9 v12 v13 v27 v30 v33 v34 v48 v51 v54 v55 v69 v72 v75 v76 v90 v93 v96 v97 = 1#1), ∀ a, (k0_off26 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h3 => k0_hw21.2.1 k0_h2 k0_h3
theorem k0_off31_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h3 : k0_cond3 i v6 v9 v12 v13 v27 v30 v33 v34 v48 v51 v54 v55 v69 v72 v75 v76 v90 v93 v96 v97 = 1#1), ∀ a, (k0_off31 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h3 => k0_hw21.2.2.1 k0_h2 k0_h3
theorem k0_off32_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h3 : k0_cond3 i v6 v9 v12 v13 v27 v30 v33 v34 v48 v51 v54 v55 v69 v72 v75 v76 v90 v93 v96 v97 = 1#1), ∀ a, (k0_off32 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h3 => k0_hw21.2.2.2.1 k0_h2 k0_h3
theorem k0_off33_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h4 : k0_cond4 i v6 v9 v12 v13 v27 v30 v33 v34 v48 v51 v54 v55 v69 v72 v75 v76 v90 v93 v96 v97 = 1#1), ∀ a, (k0_off33 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h4 => k0_hw21.2.2.2.2.1 k0_h2 k0_h4
theorem k0_off38_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h4 : k0_cond4 i v6 v9 v12 v13 v27 v30 v33 v34 v48 v51 v54 v55 v69 v72 v75 v76 v90 v93 v96 v97 = 1#1), ∀ a, (k0_off38 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h4 => k0_hw21.2.2.2.2.2.1 k0_h2 k0_h4
theorem k0_off43_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h4 : k0_cond4 i v6 v9 v12 v13 v27 v30 v33 v34 v48 v51 v54 v55 v69 v72 v75 v76 v90 v93 v96 v97 = 1#1), ∀ a, (k0_off43 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h4 => k0_hw21.2.2.2.2.2.2.1 k0_h2 k0_h4
theorem k0_off44_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h4 : k0_cond4 i v6 v9 v12 v13 v27 v30 v33 v34 v48 v51 v54 v55 v69 v72 v75 v76 v90 v93 v96 v97 = 1#1), ∀ a, (k0_off44 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h4 => k0_hw21.2.2.2.2.2.2.2.1 k0_h2 k0_h4
theorem k0_off45_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h5 : k0_cond5 i v6 v9 v12 v13 v27 v30 v33 v34 v48 v51 v54 v55 v69 v72 v75 v76 v90 v93 v96 v97 = 1#1), ∀ a, (k0_off45 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h5 => k0_hw21.2.2.2.2.2.2.2.2.1 k0_h2 k0_h5
theorem k0_off50_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h5 : k0_cond5 i v6 v9 v12 v13 v27 v30 v33 v34 v48 v51 v54 v55 v69 v72 v75 v76 v90 v93 v96 v97 = 1#1), ∀ a, (k0_off50 i v6 v9 v12 v13 v27 v30 v33 v34 v48 v51 v54 v55 v69 v72 v75 v76 v90 v93 v96 v97) a + S1.size a ≤ S5.size a := fun i v6 v9 v12 v13 v27 v30 v33 v34 v48 v51 v54 v55 v69 v72 v75 v76 v90 v93 v96 v97 k0_hw21 k0_h2 k0_h5 => k0_hw21.2.2.2.2.2.2.2.2.2.1 k0_h2 k0_h5
theorem k0_off55_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h5 : k0_cond5 i v6 v9 v12 v13 v27 v30 v33 v34 v48 v51 v54 v55 v69 v72 v75 v76 v90 v93 v96 v97 = 1#1), ∀ a, (k0_off55 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h5 => k0_hw21.2.2.2.2.2.2.2.2.2.2.1 k0_h2 k0_h5
theorem k0_off56_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (k0_h2 : k0_cond2 i = 1#1), ∀ (k0_h5 : k0_cond5 i v6 v9 v12 v13 v27 v30 v33 v34 v48 v51 v54 v55 v69 v72 v75 v76 v90 v93 v96 v97 = 1#1), ∀ a, (k0_off56 i v6 v9 v12 v13 v27 v30 v33 v34 v48 v51 v54 v55 v69 v72 v75 v76 v90 v93 v96 v97) a + S1.size a ≤ S6.size a := fun i v6 v9 v12 v13 v27 v30 v33 v34 v48 v51 v54 v55 v69 v72 v75 v76 v90 v93 v96 v97 k0_hw21 k0_h2 k0_h5 => k0_hw21.2.2.2.2.2.2.2.2.2.2.2.1 k0_h2 k0_h5
theorem k0_off57_inb : ∀ (i : grid0.Coords) (v6 : BitVec 32) (v9 : BitVec 32) (v12 : BitVec 32) (v13 : BitVec 32) (v27 : BitVec 32) (v30 : BitVec 32) (v33 : BitVec 32) (v34 : BitVec 32) (v48 : BitVec 32) (v51 : BitVec 32) (v54 : BitVec 32) (v55 : BitVec 32) (v69 : BitVec 32) (v72 : BitVec 32) (v75 : BitVec 32) (v76 : BitVec 32) (v90 : BitVec 32) (v93 : BitVec 32) (v96 : BitVec 32) (v97 : BitVec 32) (k0_hw21 : k0_chk21 i v6 v9 v12 v13 v27 v30 v33 v34 v48 v51 v54 v55 v69 v72 v75 v76 v90 v93 v96 v97), ∀ (r : Fin 3), ∀ a, (k0_off57 i v6 v9 v12 v13 v27 v30 v33 v34 v48 v51 v54 v55 v69 v72 v75 v76 v90 v93 v96 v97 (k0_off57_at r).1 (k0_off57_at r).2.1 (k0_off57_at r).2.2.1 (k0_off57_at r).2.2.2.1 (k0_off57_at r).2.2.2.2) a + S1x80x512.size a ≤ S5x80x16384.size a := fun i v6 v9 v12 v13 v27 v30 v33 v34 v48 v51 v54 v55 v69 v72 v75 v76 v90 v93 v96 v97 k0_hw21 r => k0_hw21.2.2.2.2.2.2.2.2.2.2.2.2 r

def k0_off58 (i : grid0.Coords) : Fin 3 → Nat :=
  let arg1 : BitVec 32 := BitVec.ofNat 32 (i 1).val
  let c16_i32 : BitVec 32 := 16#32
  let v139 : BitVec 1 := Scalar.cmpi .slt arg1 c16_i32
  let c0_i32_66 : BitVec 32 := 0#32
  let c24_i32 : BitVec 32 := 24#32
  let v140 : BitVec 1 := Scalar.cmpi .slt arg1 c24_i32
  let c1_i32_64 : BitVec 32 := 1#32
  let c2_i32_65 : BitVec 32 := 2#32
  let v141 : BitVec 32 := Scalar.select v140 c1_i32_64 c2_i32_65
  let v142 : BitVec 32 := Scalar.select v139 c0_i32_66 v141
  let v159 : Index := Scalar.indexCast v142
  let c0_71 : Index := 0#32
  let c0_72 : Index := 0#32
  ![v159.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S7 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S7x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S48x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S6x1152x6144 : Shape := ⟨3, ![6, 1152, 6144]⟩
abbrev S768x16384 : Shape := ⟨2, ![768, 16384]⟩
abbrev S48x16384 : Shape := ⟨2, ![48, 16384]⟩
abbrev S3x600x6144 : Shape := ⟨3, ![3, 600, 6144]⟩
abbrev S600x16384 : Shape := ⟨2, ![600, 16384]⟩
abbrev S7 : Shape := ⟨1, ![7]⟩
abbrev S7x3 : Shape := ⟨2, ![7, 3]⟩
abbrev S6 : Shape := ⟨1, ![6]⟩
abbrev S5 : Shape := ⟨1, ![5]⟩
abbrev S6912x6144 : Shape := ⟨2, ![6912, 6144]⟩
abbrev S48x16x16384 : Shape := ⟨3, ![48, 16, 16384]⟩
abbrev S_ : Shape := ⟨0, ![]⟩
abbrev S6912x768 : Shape := ⟨2, ![6912, 768]⟩
abbrev S6912x16384 : Shape := ⟨2, ![6912, 16384]⟩
abbrev S6912 : Shape := ⟨1, ![6912]⟩
abbrev S64 : Shape := ⟨1, ![64]⟩
abbrev S6912x3x64 : Shape := ⟨3, ![6912, 3, 64]⟩
abbrev S1 : Shape := ⟨1, ![1]⟩
abbrev S3x64x6144 : Shape := ⟨3, ![3, 64, 6144]⟩
abbrev S64x16384 : Shape := ⟨2, ![64, 16384]⟩
abbrev S6912x1x1 : Shape := ⟨3, ![6912, 1, 1]⟩
abbrev S1x1x64 : Shape := ⟨3, ![1, 1, 64]⟩
abbrev S6912x1x64 : Shape := ⟨3, ![6912, 1, 64]⟩
abbrev S1x3 : Shape := ⟨2, ![1, 3]⟩
abbrev S3 : Shape := ⟨1, ![3]⟩
abbrev S1x3x1 : Shape := ⟨3, ![1, 3, 1]⟩
abbrev S6912x64 : Shape := ⟨2, ![6912, 64]⟩
abbrev S64x8192 : Shape := ⟨2, ![64, 8192]⟩
abbrev S6912x8192 : Shape := ⟨2, ![6912, 8192]⟩
abbrev S64x4096 : Shape := ⟨2, ![64, 4096]⟩
abbrev S6912x4096 : Shape := ⟨2, ![6912, 4096]⟩
abbrev S6912x192 : Shape := ⟨2, ![6912, 192]⟩

abbrev nBuf : Space → Nat
  | .hbm => 603
  | .vmem => 0
  | .smem => 0
  | _ => 0

abbrev hbmTy0_0 (i : Nat) : BufTy := match i % 128 with
  | 0 => ⟨S6x1152x6144, .bf16⟩
  | 1 => ⟨S768x16384, .i32⟩
  | 2 => ⟨S48x16384, .bf16⟩
  | 3 => ⟨S3x600x6144, .bf16⟩
  | 4 => ⟨S600x16384, .bf16⟩
  | 5 => ⟨S7, .i32⟩
  | 6 => ⟨S7, .i32⟩
  | 7 => ⟨S7x3, .f32⟩
  | 8 => ⟨S6, .i32⟩
  | 9 => ⟨S5, .i32⟩
  | 10 => ⟨S6912x6144, .bf16⟩
  | 11 => ⟨S48x16x16384, .bf16⟩
  | 12 => ⟨S768x16384, .bf16⟩
  | 13 => ⟨S_, .i32⟩
  | 14 => ⟨S768x16384, .i32⟩
  | 15 => ⟨S768x16384, .i32⟩
  | 16 => ⟨S_, .i32⟩
  | 17 => ⟨S768x16384, .i32⟩
  | 18 => ⟨S768x16384, .i32⟩
  | 19 => ⟨S_, .i32⟩
  | 20 => ⟨S768x16384, .i32⟩
  | 21 => ⟨S768x16384, .i1⟩
  | 22 => ⟨S768x16384, .i32⟩
  | 23 => ⟨S_, .i32⟩
  | 24 => ⟨S768x16384, .i32⟩
  | 25 => ⟨S768x16384, .i32⟩
  | 26 => ⟨S768x16384, .i32⟩
  | 27 => ⟨S768x16384, .bf16⟩
  | 28 => ⟨S768x16384, .bf16⟩
  | 29 => ⟨S6912x768, .bf16⟩
  | 30 => ⟨S6912x16384, .f32⟩
  | 31 => ⟨S_, .i32⟩
  | 32 => ⟨S768x16384, .i32⟩
  | 33 => ⟨S768x16384, .i32⟩
  | 34 => ⟨S_, .i32⟩
  | 35 => ⟨S768x16384, .i32⟩
  | 36 => ⟨S768x16384, .i32⟩
  | 37 => ⟨S_, .i32⟩
  | 38 => ⟨S768x16384, .i32⟩
  | 39 => ⟨S768x16384, .i1⟩
  | 40 => ⟨S768x16384, .i32⟩
  | 41 => ⟨S_, .i32⟩
  | 42 => ⟨S768x16384, .i32⟩
  | 43 => ⟨S768x16384, .i32⟩
  | 44 => ⟨S768x16384, .i32⟩
  | 45 => ⟨S768x16384, .bf16⟩
  | 46 => ⟨S768x16384, .bf16⟩
  | 47 => ⟨S6912x768, .bf16⟩
  | 48 => ⟨S6912x16384, .f32⟩
  | 49 => ⟨S6912x16384, .f32⟩
  | 50 => ⟨S_, .i32⟩
  | 51 => ⟨S768x16384, .i32⟩
  | 52 => ⟨S768x16384, .i32⟩
  | 53 => ⟨S_, .i32⟩
  | 54 => ⟨S768x16384, .i32⟩
  | 55 => ⟨S768x16384, .i32⟩
  | 56 => ⟨S_, .i32⟩
  | 57 => ⟨S768x16384, .i32⟩
  | 58 => ⟨S768x16384, .i1⟩
  | 59 => ⟨S768x16384, .i32⟩
  | 60 => ⟨S_, .i32⟩
  | 61 => ⟨S768x16384, .i32⟩
  | 62 => ⟨S768x16384, .i32⟩
  | 63 => ⟨S768x16384, .i32⟩
  | 64 => ⟨S768x16384, .bf16⟩
  | 65 => ⟨S768x16384, .bf16⟩
  | 66 => ⟨S6912x768, .bf16⟩
  | 67 => ⟨S6912x16384, .f32⟩
  | 68 => ⟨S6912x16384, .f32⟩
  | 69 => ⟨S_, .i32⟩
  | 70 => ⟨S768x16384, .i32⟩
  | 71 => ⟨S768x16384, .i32⟩
  | 72 => ⟨S_, .i32⟩
  | 73 => ⟨S768x16384, .i32⟩
  | 74 => ⟨S768x16384, .i32⟩
  | 75 => ⟨S_, .i32⟩
  | 76 => ⟨S768x16384, .i32⟩
  | 77 => ⟨S768x16384, .i1⟩
  | 78 => ⟨S768x16384, .i32⟩
  | 79 => ⟨S_, .i32⟩
  | 80 => ⟨S768x16384, .i32⟩
  | 81 => ⟨S768x16384, .i32⟩
  | 82 => ⟨S768x16384, .i32⟩
  | 83 => ⟨S768x16384, .bf16⟩
  | 84 => ⟨S768x16384, .bf16⟩
  | 85 => ⟨S6912x768, .bf16⟩
  | 86 => ⟨S6912x16384, .f32⟩
  | 87 => ⟨S6912x16384, .f32⟩
  | 88 => ⟨S_, .i32⟩
  | 89 => ⟨S768x16384, .i32⟩
  | 90 => ⟨S768x16384, .i32⟩
  | 91 => ⟨S_, .i32⟩
  | 92 => ⟨S768x16384, .i32⟩
  | 93 => ⟨S768x16384, .i32⟩
  | 94 => ⟨S_, .i32⟩
  | 95 => ⟨S768x16384, .i32⟩
  | 96 => ⟨S768x16384, .i1⟩
  | 97 => ⟨S768x16384, .i32⟩
  | 98 => ⟨S_, .i32⟩
  | 99 => ⟨S768x16384, .i32⟩
  | 100 => ⟨S768x16384, .i32⟩
  | 101 => ⟨S768x16384, .i32⟩
  | 102 => ⟨S768x16384, .bf16⟩
  | 103 => ⟨S768x16384, .bf16⟩
  | 104 => ⟨S6912x768, .bf16⟩
  | 105 => ⟨S6912x16384, .f32⟩
  | 106 => ⟨S6912x16384, .f32⟩
  | 107 => ⟨S_, .i32⟩
  | 108 => ⟨S768x16384, .i32⟩
  | 109 => ⟨S768x16384, .i32⟩
  | 110 => ⟨S_, .i32⟩
  | 111 => ⟨S768x16384, .i32⟩
  | 112 => ⟨S768x16384, .i32⟩
  | 113 => ⟨S_, .i32⟩
  | 114 => ⟨S768x16384, .i32⟩
  | 115 => ⟨S768x16384, .i1⟩
  | 116 => ⟨S768x16384, .i32⟩
  | 117 => ⟨S_, .i32⟩
  | 118 => ⟨S768x16384, .i32⟩
  | 119 => ⟨S768x16384, .i32⟩
  | 120 => ⟨S768x16384, .i32⟩
  | 121 => ⟨S768x16384, .bf16⟩
  | 122 => ⟨S768x16384, .bf16⟩
  | 123 => ⟨S6912x768, .bf16⟩
  | 124 => ⟨S6912x16384, .f32⟩
  | 125 => ⟨S6912x16384, .f32⟩
  | 126 => ⟨S_, .i32⟩
  | 127 => ⟨S768x16384, .i32⟩
  | _ => ⟨S6x1152x6144, .bf16⟩

abbrev hbmTy0_1 (i : Nat) : BufTy := match i % 128 with
  | 0 => ⟨S768x16384, .i32⟩
  | 1 => ⟨S_, .i32⟩
  | 2 => ⟨S768x16384, .i32⟩
  | 3 => ⟨S768x16384, .i32⟩
  | 4 => ⟨S_, .i32⟩
  | 5 => ⟨S768x16384, .i32⟩
  | 6 => ⟨S768x16384, .i1⟩
  | 7 => ⟨S768x16384, .i32⟩
  | 8 => ⟨S_, .i32⟩
  | 9 => ⟨S768x16384, .i32⟩
  | 10 => ⟨S768x16384, .i32⟩
  | 11 => ⟨S768x16384, .i32⟩
  | 12 => ⟨S768x16384, .bf16⟩
  | 13 => ⟨S768x16384, .bf16⟩
  | 14 => ⟨S6912x768, .bf16⟩
  | 15 => ⟨S6912x16384, .f32⟩
  | 16 => ⟨S6912x16384, .f32⟩
  | 17 => ⟨S_, .i32⟩
  | 18 => ⟨S768x16384, .i32⟩
  | 19 => ⟨S768x16384, .i32⟩
  | 20 => ⟨S_, .i32⟩
  | 21 => ⟨S768x16384, .i32⟩
  | 22 => ⟨S768x16384, .i32⟩
  | 23 => ⟨S_, .i32⟩
  | 24 => ⟨S768x16384, .i32⟩
  | 25 => ⟨S768x16384, .i1⟩
  | 26 => ⟨S768x16384, .i32⟩
  | 27 => ⟨S_, .i32⟩
  | 28 => ⟨S768x16384, .i32⟩
  | 29 => ⟨S768x16384, .i32⟩
  | 30 => ⟨S768x16384, .i32⟩
  | 31 => ⟨S768x16384, .bf16⟩
  | 32 => ⟨S768x16384, .bf16⟩
  | 33 => ⟨S6912x768, .bf16⟩
  | 34 => ⟨S6912x16384, .f32⟩
  | 35 => ⟨S6912x16384, .f32⟩
  | 36 => ⟨S6912, .i32⟩
  | 37 => ⟨S64, .i32⟩
  | 38 => ⟨S_, .bf16⟩
  | 39 => ⟨S6912x3x64, .bf16⟩
  | 40 => ⟨S_, .f32⟩
  | 41 => ⟨S6912x16384, .f32⟩
  | 42 => ⟨S1, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S3x64x6144, .bf16⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S64x16384, .bf16⟩
  | 73 => ⟨S1, .i32⟩
  | 74 => ⟨S_, .i32⟩
  | 75 => ⟨S6912, .i32⟩
  | 76 => ⟨S6912, .i1⟩
  | 77 => ⟨S1, .i32⟩
  | 78 => ⟨S_, .i32⟩
  | 79 => ⟨S6912, .i32⟩
  | 80 => ⟨S6912, .i1⟩
  | 81 => ⟨S6912, .i1⟩
  | 82 => ⟨S6912x3x64, .f32⟩
  | 83 => ⟨S6912x1x1, .i1⟩
  | 84 => ⟨S1x1x64, .i32⟩
  | 85 => ⟨S1x1x64, .i32⟩
  | 86 => ⟨S1x1x64, .i1⟩
  | 87 => ⟨S6912x1x64, .i1⟩
  | 88 => ⟨S6912x1x64, .i1⟩
  | 89 => ⟨S6912x1x64, .i1⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x3, .f32⟩
  | 104 => ⟨S3, .f32⟩
  | 105 => ⟨S1x3x1, .f32⟩
  | 106 => ⟨S6912x3x64, .f32⟩
  | 107 => ⟨S6912x3x64, .f32⟩
  | 108 => ⟨S6912x3x64, .bf16⟩
  | 109 => ⟨S_, .bf16⟩
  | 110 => ⟨S6912x3x64, .i1⟩
  | 111 => ⟨S6912x3x64, .bf16⟩
  | 112 => ⟨S6912x3x64, .bf16⟩
  | 113 => ⟨S6912x3x64, .bf16⟩
  | 114 => ⟨S6912x1x64, .bf16⟩
  | 115 => ⟨S6912x64, .bf16⟩
  | 116 => ⟨S64x8192, .bf16⟩
  | 117 => ⟨S6912x8192, .f32⟩
  | 118 => ⟨S6912x1x64, .bf16⟩
  | 119 => ⟨S6912x64, .bf16⟩
  | 120 => ⟨S64x4096, .bf16⟩
  | 121 => ⟨S6912x4096, .f32⟩
  | 122 => ⟨S6912x1x64, .bf16⟩
  | 123 => ⟨S6912x64, .bf16⟩
  | 124 => ⟨S64x4096, .bf16⟩
  | 125 => ⟨S6912x4096, .f32⟩
  | 126 => ⟨S6912x16384, .f32⟩
  | 127 => ⟨S6912x16384, .f32⟩
  | _ => ⟨S6x1152x6144, .bf16⟩

abbrev hbmTy0_2 (i : Nat) : BufTy := match i % 128 with
  | 0 => ⟨S1, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S3x64x6144, .bf16⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S64x16384, .bf16⟩
  | 31 => ⟨S1, .i32⟩
  | 32 => ⟨S_, .i32⟩
  | 33 => ⟨S6912, .i32⟩
  | 34 => ⟨S6912, .i1⟩
  | 35 => ⟨S1, .i32⟩
  | 36 => ⟨S_, .i32⟩
  | 37 => ⟨S6912, .i32⟩
  | 38 => ⟨S6912, .i1⟩
  | 39 => ⟨S6912, .i1⟩
  | 40 => ⟨S6912x3x64, .f32⟩
  | 41 => ⟨S6912x1x1, .i1⟩
  | 42 => ⟨S1x1x64, .i32⟩
  | 43 => ⟨S1x1x64, .i32⟩
  | 44 => ⟨S1x1x64, .i1⟩
  | 45 => ⟨S6912x1x64, .i1⟩
  | 46 => ⟨S6912x1x64, .i1⟩
  | 47 => ⟨S6912x1x64, .i1⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x3, .f32⟩
  | 62 => ⟨S3, .f32⟩
  | 63 => ⟨S1x3x1, .f32⟩
  | 64 => ⟨S6912x3x64, .f32⟩
  | 65 => ⟨S6912x3x64, .f32⟩
  | 66 => ⟨S6912x3x64, .bf16⟩
  | 67 => ⟨S_, .bf16⟩
  | 68 => ⟨S6912x3x64, .i1⟩
  | 69 => ⟨S6912x3x64, .bf16⟩
  | 70 => ⟨S6912x3x64, .bf16⟩
  | 71 => ⟨S6912x3x64, .bf16⟩
  | 72 => ⟨S6912x1x64, .bf16⟩
  | 73 => ⟨S6912x64, .bf16⟩
  | 74 => ⟨S64x8192, .bf16⟩
  | 75 => ⟨S6912x8192, .f32⟩
  | 76 => ⟨S6912x1x64, .bf16⟩
  | 77 => ⟨S6912x64, .bf16⟩
  | 78 => ⟨S64x4096, .bf16⟩
  | 79 => ⟨S6912x4096, .f32⟩
  | 80 => ⟨S6912x1x64, .bf16⟩
  | 81 => ⟨S6912x64, .bf16⟩
  | 82 => ⟨S64x4096, .bf16⟩
  | 83 => ⟨S6912x4096, .f32⟩
  | 84 => ⟨S6912x16384, .f32⟩
  | 85 => ⟨S6912x16384, .f32⟩
  | 86 => ⟨S1, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S1, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S1, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S3x64x6144, .bf16⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S64x16384, .bf16⟩
  | 117 => ⟨S1, .i32⟩
  | 118 => ⟨S_, .i32⟩
  | 119 => ⟨S6912, .i32⟩
  | 120 => ⟨S6912, .i1⟩
  | 121 => ⟨S1, .i32⟩
  | 122 => ⟨S_, .i32⟩
  | 123 => ⟨S6912, .i32⟩
  | 124 => ⟨S6912, .i1⟩
  | 125 => ⟨S6912, .i1⟩
  | 126 => ⟨S6912x3x64, .f32⟩
  | 127 => ⟨S6912x1x1, .i1⟩
  | _ => ⟨S6x1152x6144, .bf16⟩

abbrev hbmTy0_3 (i : Nat) : BufTy := match i % 128 with
  | 0 => ⟨S1x1x64, .i32⟩
  | 1 => ⟨S1x1x64, .i32⟩
  | 2 => ⟨S1x1x64, .i1⟩
  | 3 => ⟨S6912x1x64, .i1⟩
  | 4 => ⟨S6912x1x64, .i1⟩
  | 5 => ⟨S6912x1x64, .i1⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x3, .f32⟩
  | 20 => ⟨S3, .f32⟩
  | 21 => ⟨S1x3x1, .f32⟩
  | 22 => ⟨S6912x3x64, .f32⟩
  | 23 => ⟨S6912x3x64, .f32⟩
  | 24 => ⟨S6912x3x64, .bf16⟩
  | 25 => ⟨S_, .bf16⟩
  | 26 => ⟨S6912x3x64, .i1⟩
  | 27 => ⟨S6912x3x64, .bf16⟩
  | 28 => ⟨S6912x3x64, .bf16⟩
  | 29 => ⟨S6912x3x64, .bf16⟩
  | 30 => ⟨S6912x1x64, .bf16⟩
  | 31 => ⟨S6912x64, .bf16⟩
  | 32 => ⟨S64x8192, .bf16⟩
  | 33 => ⟨S6912x8192, .f32⟩
  | 34 => ⟨S6912x1x64, .bf16⟩
  | 35 => ⟨S6912x64, .bf16⟩
  | 36 => ⟨S64x4096, .bf16⟩
  | 37 => ⟨S6912x4096, .f32⟩
  | 38 => ⟨S6912x1x64, .bf16⟩
  | 39 => ⟨S6912x64, .bf16⟩
  | 40 => ⟨S64x4096, .bf16⟩
  | 41 => ⟨S6912x4096, .f32⟩
  | 42 => ⟨S6912x16384, .f32⟩
  | 43 => ⟨S6912x16384, .f32⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S3x64x6144, .bf16⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S64x16384, .bf16⟩
  | 75 => ⟨S1, .i32⟩
  | 76 => ⟨S_, .i32⟩
  | 77 => ⟨S6912, .i32⟩
  | 78 => ⟨S6912, .i1⟩
  | 79 => ⟨S1, .i32⟩
  | 80 => ⟨S_, .i32⟩
  | 81 => ⟨S6912, .i32⟩
  | 82 => ⟨S6912, .i1⟩
  | 83 => ⟨S6912, .i1⟩
  | 84 => ⟨S6912x3x64, .f32⟩
  | 85 => ⟨S6912x1x1, .i1⟩
  | 86 => ⟨S1x1x64, .i32⟩
  | 87 => ⟨S1x1x64, .i32⟩
  | 88 => ⟨S1x1x64, .i1⟩
  | 89 => ⟨S6912x1x64, .i1⟩
  | 90 => ⟨S6912x1x64, .i1⟩
  | 91 => ⟨S6912x1x64, .i1⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x3, .f32⟩
  | 106 => ⟨S3, .f32⟩
  | 107 => ⟨S1x3x1, .f32⟩
  | 108 => ⟨S6912x3x64, .f32⟩
  | 109 => ⟨S6912x3x64, .f32⟩
  | 110 => ⟨S6912x3x64, .bf16⟩
  | 111 => ⟨S_, .bf16⟩
  | 112 => ⟨S6912x3x64, .i1⟩
  | 113 => ⟨S6912x3x64, .bf16⟩
  | 114 => ⟨S6912x3x64, .bf16⟩
  | 115 => ⟨S6912x3x64, .bf16⟩
  | 116 => ⟨S6912x1x64, .bf16⟩
  | 117 => ⟨S6912x64, .bf16⟩
  | 118 => ⟨S64x8192, .bf16⟩
  | 119 => ⟨S6912x8192, .f32⟩
  | 120 => ⟨S6912x1x64, .bf16⟩
  | 121 => ⟨S6912x64, .bf16⟩
  | 122 => ⟨S64x4096, .bf16⟩
  | 123 => ⟨S6912x4096, .f32⟩
  | 124 => ⟨S6912x1x64, .bf16⟩
  | 125 => ⟨S6912x64, .bf16⟩
  | 126 => ⟨S64x4096, .bf16⟩
  | 127 => ⟨S6912x4096, .f32⟩
  | _ => ⟨S6x1152x6144, .bf16⟩

abbrev hbmTy0_4 (i : Nat) : BufTy := match i % 128 with
  | 0 => ⟨S6912x16384, .f32⟩
  | 1 => ⟨S6912x16384, .f32⟩
  | 2 => ⟨S1, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S3x64x6144, .bf16⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S64x16384, .bf16⟩
  | 33 => ⟨S1, .i32⟩
  | 34 => ⟨S_, .i32⟩
  | 35 => ⟨S6912, .i32⟩
  | 36 => ⟨S6912, .i1⟩
  | 37 => ⟨S1, .i32⟩
  | 38 => ⟨S_, .i32⟩
  | 39 => ⟨S6912, .i32⟩
  | 40 => ⟨S6912, .i1⟩
  | 41 => ⟨S6912, .i1⟩
  | 42 => ⟨S6912x3x64, .f32⟩
  | 43 => ⟨S6912x1x1, .i1⟩
  | 44 => ⟨S1x1x64, .i32⟩
  | 45 => ⟨S1x1x64, .i32⟩
  | 46 => ⟨S1x1x64, .i1⟩
  | 47 => ⟨S6912x1x64, .i1⟩
  | 48 => ⟨S6912x1x64, .i1⟩
  | 49 => ⟨S6912x1x64, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x3, .f32⟩
  | 64 => ⟨S3, .f32⟩
  | 65 => ⟨S1x3x1, .f32⟩
  | 66 => ⟨S6912x3x64, .f32⟩
  | 67 => ⟨S6912x3x64, .f32⟩
  | 68 => ⟨S6912x3x64, .bf16⟩
  | 69 => ⟨S_, .bf16⟩
  | 70 => ⟨S6912x3x64, .i1⟩
  | 71 => ⟨S6912x3x64, .bf16⟩
  | 72 => ⟨S6912x3x64, .bf16⟩
  | 73 => ⟨S6912x3x64, .bf16⟩
  | 74 => ⟨S6912x1x64, .bf16⟩
  | 75 => ⟨S6912x64, .bf16⟩
  | 76 => ⟨S64x8192, .bf16⟩
  | 77 => ⟨S6912x8192, .f32⟩
  | 78 => ⟨S6912x1x64, .bf16⟩
  | 79 => ⟨S6912x64, .bf16⟩
  | 80 => ⟨S64x4096, .bf16⟩
  | 81 => ⟨S6912x4096, .f32⟩
  | 82 => ⟨S6912x1x64, .bf16⟩
  | 83 => ⟨S6912x64, .bf16⟩
  | 84 => ⟨S64x4096, .bf16⟩
  | 85 => ⟨S6912x4096, .f32⟩
  | 86 => ⟨S6912x16384, .f32⟩
  | 87 => ⟨S6912x16384, .f32⟩
  | 88 => ⟨S6912x16384, .f32⟩
  | 89 => ⟨S6912x16384, .bf16⟩
  | 90 => ⟨S6912x192, .bf16⟩
  | _ => ⟨S6x1152x6144, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6x1152x6144, .bf16⟩

abbrev bufTy : (tb : Table) → Fin (tcTables nBuf tb) → BufTy
  | .hbm, ⟨i, _⟩ => hbmTy i
  | _, _ => ⟨S6x1152x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_c_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_c_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_23 : Ref sig .tc := ⟨.hbm, 126, rfl⟩
abbrev main_v92 : Ref sig .tc := ⟨.hbm, 127, rfl⟩
abbrev main_v93 : Ref sig .tc := ⟨.hbm, 128, rfl⟩
abbrev main_c_24 : Ref sig .tc := ⟨.hbm, 129, rfl⟩
abbrev main_v94 : Ref sig .tc := ⟨.hbm, 130, rfl⟩
abbrev main_v95 : Ref sig .tc := ⟨.hbm, 131, rfl⟩
abbrev main_c_25 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_27 : Ref sig .tc := ⟨.hbm, 145, rfl⟩
abbrev main_v107 : Ref sig .tc := ⟨.hbm, 146, rfl⟩
abbrev main_v108 : Ref sig .tc := ⟨.hbm, 147, rfl⟩
abbrev main_c_28 : Ref sig .tc := ⟨.hbm, 148, rfl⟩
abbrev main_v109 : Ref sig .tc := ⟨.hbm, 149, rfl⟩
abbrev main_v110 : Ref sig .tc := ⟨.hbm, 150, rfl⟩
abbrev main_c_29 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst : Ref sig .tc := ⟨.hbm, 166, rfl⟩
abbrev main_v124 : Ref sig .tc := ⟨.hbm, 167, rfl⟩
abbrev main_cst_31 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_32 : Ref sig .tc := ⟨.hbm, 172, rfl⟩
abbrev main_v128 : Ref sig .tc := ⟨.hbm, 173, rfl⟩
abbrev main_c_33 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_34 : Ref sig .tc := ⟨.hbm, 179, rfl⟩
abbrev main_v133 : Ref sig .tc := ⟨.hbm, 180, rfl⟩
abbrev main_c_35 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_36 : Ref sig .tc := ⟨.hbm, 186, rfl⟩
abbrev main_v138 : Ref sig .tc := ⟨.hbm, 187, rfl⟩
abbrev main_c_37 : Ref sig .tc := ⟨.hbm, 188, rfl⟩
abbrev main_v139 : Ref sig .tc := ⟨.hbm, 189, rfl⟩
abbrev main_v140 : Ref sig .tc := ⟨.hbm, 190, rfl⟩
abbrev main_c_38 : Ref sig .tc := ⟨.hbm, 191, rfl⟩
abbrev main_c_39 : Ref sig .tc := ⟨.hbm, 192, rfl⟩
abbrev main_v141 : Ref sig .tc := ⟨.hbm, 193, rfl⟩
abbrev main_c_40 : Ref sig .tc := ⟨.hbm, 194, rfl⟩
abbrev main_v142 : Ref sig .tc := ⟨.hbm, 195, rfl⟩
abbrev main_c_41 : Ref sig .tc := ⟨.hbm, 196, rfl⟩
abbrev main_v143 : Ref sig .tc := ⟨.hbm, 197, rfl⟩
abbrev main_v144 : Ref sig .tc := ⟨.hbm, 198, rfl⟩
abbrev main_c_42 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_43 : Ref sig .tc := ⟨.hbm, 218, rfl⟩
abbrev main_v163 : Ref sig .tc := ⟨.hbm, 219, rfl⟩
abbrev main_c_44 : Ref sig .tc := ⟨.hbm, 220, rfl⟩
abbrev main_v164 : Ref sig .tc := ⟨.hbm, 221, rfl⟩
abbrev main_v165 : Ref sig .tc := ⟨.hbm, 222, rfl⟩
abbrev main_c_45 : Ref sig .tc := ⟨.hbm, 223, rfl⟩
abbrev main_c_46 : Ref sig .tc := ⟨.hbm, 224, rfl⟩
abbrev main_v166 : Ref sig .tc := ⟨.hbm, 225, rfl⟩
abbrev main_c_47 : Ref sig .tc := ⟨.hbm, 226, rfl⟩
abbrev main_c_48 : Ref sig .tc := ⟨.hbm, 227, rfl⟩
abbrev main_v167 : Ref sig .tc := ⟨.hbm, 228, rfl⟩
abbrev main_c_49 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_50 : Ref sig .tc := ⟨.hbm, 237, rfl⟩
abbrev main_call0_v0 : Ref sig .tc := ⟨.hbm, 238, rfl⟩
abbrev main_call0_v1 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_c_51 : Ref sig .tc := ⟨.hbm, 258, rfl⟩
abbrev main_v193 : Ref sig .tc := ⟨.hbm, 259, rfl⟩
abbrev main_c_52 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_c_53 : Ref sig .tc := ⟨.hbm, 265, rfl⟩
abbrev main_v198 : Ref sig .tc := ⟨.hbm, 266, rfl⟩
abbrev main_c_54 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_c_55 : Ref sig .tc := ⟨.hbm, 272, rfl⟩
abbrev main_v203 : Ref sig .tc := ⟨.hbm, 273, rfl⟩
abbrev main_c_56 : Ref sig .tc := ⟨.hbm, 274, rfl⟩
abbrev main_v204 : Ref sig .tc := ⟨.hbm, 275, rfl⟩
abbrev main_v205 : Ref sig .tc := ⟨.hbm, 276, rfl⟩
abbrev main_c_57 : Ref sig .tc := ⟨.hbm, 277, rfl⟩
abbrev main_c_58 : Ref sig .tc := ⟨.hbm, 278, rfl⟩
abbrev main_v206 : Ref sig .tc := ⟨.hbm, 279, rfl⟩
abbrev main_c_59 : Ref sig .tc := ⟨.hbm, 280, rfl⟩
abbrev main_v207 : Ref sig .tc := ⟨.hbm, 281, rfl⟩
abbrev main_c_60 : Ref sig .tc := ⟨.hbm, 282, rfl⟩
abbrev main_v208 : Ref sig .tc := ⟨.hbm, 283, rfl⟩
abbrev main_v209 : Ref sig .tc := ⟨.hbm, 284, rfl⟩
abbrev main_c_61 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_c_62 : Ref sig .tc := ⟨.hbm, 304, rfl⟩
abbrev main_v228 : Ref sig .tc := ⟨.hbm, 305, rfl⟩
abbrev main_c_63 : Ref sig .tc := ⟨.hbm, 306, rfl⟩
abbrev main_v229 : Ref sig .tc := ⟨.hbm, 307, rfl⟩
abbrev main_v230 : Ref sig .tc := ⟨.hbm, 308, rfl⟩
abbrev main_c_64 : Ref sig .tc := ⟨.hbm, 309, rfl⟩
abbrev main_c_65 : Ref sig .tc := ⟨.hbm, 310, rfl⟩
abbrev main_v231 : Ref sig .tc := ⟨.hbm, 311, rfl⟩
abbrev main_c_66 : Ref sig .tc := ⟨.hbm, 312, rfl⟩
abbrev main_c_67 : Ref sig .tc := ⟨.hbm, 313, rfl⟩
abbrev main_v232 : Ref sig .tc := ⟨.hbm, 314, rfl⟩
abbrev main_c_68 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_cst_69 : Ref sig .tc := ⟨.hbm, 323, rfl⟩
abbrev main_call1_v0 : Ref sig .tc := ⟨.hbm, 324, rfl⟩
abbrev main_call1_v1 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_c_70 : Ref sig .tc := ⟨.hbm, 344, rfl⟩
abbrev main_v258 : Ref sig .tc := ⟨.hbm, 345, rfl⟩
abbrev main_c_71 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_c_72 : Ref sig .tc := ⟨.hbm, 351, rfl⟩
abbrev main_v263 : Ref sig .tc := ⟨.hbm, 352, rfl⟩
abbrev main_c_73 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_c_74 : Ref sig .tc := ⟨.hbm, 358, rfl⟩
abbrev main_v268 : Ref sig .tc := ⟨.hbm, 359, rfl⟩
abbrev main_c_75 : Ref sig .tc := ⟨.hbm, 360, rfl⟩
abbrev main_v269 : Ref sig .tc := ⟨.hbm, 361, rfl⟩
abbrev main_v270 : Ref sig .tc := ⟨.hbm, 362, rfl⟩
abbrev main_c_76 : Ref sig .tc := ⟨.hbm, 363, rfl⟩
abbrev main_c_77 : Ref sig .tc := ⟨.hbm, 364, rfl⟩
abbrev main_v271 : Ref sig .tc := ⟨.hbm, 365, rfl⟩
abbrev main_c_78 : Ref sig .tc := ⟨.hbm, 366, rfl⟩
abbrev main_v272 : Ref sig .tc := ⟨.hbm, 367, rfl⟩
abbrev main_c_79 : Ref sig .tc := ⟨.hbm, 368, rfl⟩
abbrev main_v273 : Ref sig .tc := ⟨.hbm, 369, rfl⟩
abbrev main_v274 : Ref sig .tc := ⟨.hbm, 370, rfl⟩
abbrev main_c_80 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_c_81 : Ref sig .tc := ⟨.hbm, 390, rfl⟩
abbrev main_v293 : Ref sig .tc := ⟨.hbm, 391, rfl⟩
abbrev main_c_82 : Ref sig .tc := ⟨.hbm, 392, rfl⟩
abbrev main_v294 : Ref sig .tc := ⟨.hbm, 393, rfl⟩
abbrev main_v295 : Ref sig .tc := ⟨.hbm, 394, rfl⟩
abbrev main_c_83 : Ref sig .tc := ⟨.hbm, 395, rfl⟩
abbrev main_c_84 : Ref sig .tc := ⟨.hbm, 396, rfl⟩
abbrev main_v296 : Ref sig .tc := ⟨.hbm, 397, rfl⟩
abbrev main_c_85 : Ref sig .tc := ⟨.hbm, 398, rfl⟩
abbrev main_c_86 : Ref sig .tc := ⟨.hbm, 399, rfl⟩
abbrev main_v297 : Ref sig .tc := ⟨.hbm, 400, rfl⟩
abbrev main_c_87 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_cst_88 : Ref sig .tc := ⟨.hbm, 409, rfl⟩
abbrev main_call2_v0 : Ref sig .tc := ⟨.hbm, 410, rfl⟩
abbrev main_call2_v1 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_c_89 : Ref sig .tc := ⟨.hbm, 430, rfl⟩
abbrev main_v323 : Ref sig .tc := ⟨.hbm, 431, rfl⟩
abbrev main_c_90 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_c_91 : Ref sig .tc := ⟨.hbm, 437, rfl⟩
abbrev main_v328 : Ref sig .tc := ⟨.hbm, 438, rfl⟩
abbrev main_c_92 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_c_93 : Ref sig .tc := ⟨.hbm, 444, rfl⟩
abbrev main_v333 : Ref sig .tc := ⟨.hbm, 445, rfl⟩
abbrev main_c_94 : Ref sig .tc := ⟨.hbm, 446, rfl⟩
abbrev main_v334 : Ref sig .tc := ⟨.hbm, 447, rfl⟩
abbrev main_v335 : Ref sig .tc := ⟨.hbm, 448, rfl⟩
abbrev main_c_95 : Ref sig .tc := ⟨.hbm, 449, rfl⟩
abbrev main_c_96 : Ref sig .tc := ⟨.hbm, 450, rfl⟩
abbrev main_v336 : Ref sig .tc := ⟨.hbm, 451, rfl⟩
abbrev main_c_97 : Ref sig .tc := ⟨.hbm, 452, rfl⟩
abbrev main_v337 : Ref sig .tc := ⟨.hbm, 453, rfl⟩
abbrev main_c_98 : Ref sig .tc := ⟨.hbm, 454, rfl⟩
abbrev main_v338 : Ref sig .tc := ⟨.hbm, 455, rfl⟩
abbrev main_v339 : Ref sig .tc := ⟨.hbm, 456, rfl⟩
abbrev main_c_99 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_v348 : Ref sig .tc := ⟨.hbm, 466, rfl⟩
abbrev main_v349 : Ref sig .tc := ⟨.hbm, 467, rfl⟩
abbrev main_v350 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_v357 : Ref sig .tc := ⟨.hbm, 475, rfl⟩
abbrev main_c_100 : Ref sig .tc := ⟨.hbm, 476, rfl⟩
abbrev main_v358 : Ref sig .tc := ⟨.hbm, 477, rfl⟩
abbrev main_c_101 : Ref sig .tc := ⟨.hbm, 478, rfl⟩
abbrev main_v359 : Ref sig .tc := ⟨.hbm, 479, rfl⟩
abbrev main_v360 : Ref sig .tc := ⟨.hbm, 480, rfl⟩
abbrev main_c_102 : Ref sig .tc := ⟨.hbm, 481, rfl⟩
abbrev main_c_103 : Ref sig .tc := ⟨.hbm, 482, rfl⟩
abbrev main_v361 : Ref sig .tc := ⟨.hbm, 483, rfl⟩
abbrev main_c_104 : Ref sig .tc := ⟨.hbm, 484, rfl⟩
abbrev main_c_105 : Ref sig .tc := ⟨.hbm, 485, rfl⟩
abbrev main_v362 : Ref sig .tc := ⟨.hbm, 486, rfl⟩
abbrev main_c_106 : Ref sig .tc := ⟨.hbm, 487, rfl⟩
abbrev main_v363 : Ref sig .tc := ⟨.hbm, 488, rfl⟩
abbrev main_v364 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_cst_107 : Ref sig .tc := ⟨.hbm, 495, rfl⟩
abbrev main_call3_v0 : Ref sig .tc := ⟨.hbm, 496, rfl⟩
abbrev main_call3_v1 : Ref sig .tc := ⟨.hbm, 497, rfl⟩
abbrev main_v370 : Ref sig .tc := ⟨.hbm, 498, rfl⟩
abbrev main_v371 : Ref sig .tc := ⟨.hbm, 499, rfl⟩
abbrev main_v372 : Ref sig .tc := ⟨.hbm, 500, rfl⟩
abbrev main_v373 : Ref sig .tc := ⟨.hbm, 501, rfl⟩
abbrev main_v374 : Ref sig .tc := ⟨.hbm, 502, rfl⟩
abbrev main_v375 : Ref sig .tc := ⟨.hbm, 503, rfl⟩
abbrev main_v376 : Ref sig .tc := ⟨.hbm, 504, rfl⟩
abbrev main_v377 : Ref sig .tc := ⟨.hbm, 505, rfl⟩
abbrev main_v378 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_v382 : Ref sig .tc := ⟨.hbm, 510, rfl⟩
abbrev main_v383 : Ref sig .tc := ⟨.hbm, 511, rfl⟩
abbrev main_v384 : Ref sig .tc := ⟨.hbm, 512, rfl⟩
abbrev main_v385 : Ref sig .tc := ⟨.hbm, 513, rfl⟩
abbrev main_v386 : Ref sig .tc := ⟨.hbm, 514, rfl⟩
abbrev main_v387 : Ref sig .tc := ⟨.hbm, 515, rfl⟩
abbrev main_c_108 : Ref sig .tc := ⟨.hbm, 516, rfl⟩
abbrev main_v388 : Ref sig .tc := ⟨.hbm, 517, rfl⟩
abbrev main_c_109 : Ref sig .tc := ⟨.hbm, 518, rfl⟩
abbrev main_v389 : Ref sig .tc := ⟨.hbm, 519, rfl⟩
abbrev main_v390 : Ref sig .tc := ⟨.hbm, 520, rfl⟩
abbrev main_v391 : Ref sig .tc := ⟨.hbm, 521, rfl⟩
abbrev main_v392 : Ref sig .tc := ⟨.hbm, 522, rfl⟩
abbrev main_c_110 : Ref sig .tc := ⟨.hbm, 523, rfl⟩
abbrev main_v393 : Ref sig .tc := ⟨.hbm, 524, rfl⟩
abbrev main_c_111 : Ref sig .tc := ⟨.hbm, 525, rfl⟩
abbrev main_v394 : Ref sig .tc := ⟨.hbm, 526, rfl⟩
abbrev main_v395 : Ref sig .tc := ⟨.hbm, 527, rfl⟩
abbrev main_v396 : Ref sig .tc := ⟨.hbm, 528, rfl⟩
abbrev main_v397 : Ref sig .tc := ⟨.hbm, 529, rfl⟩
abbrev main_c_112 : Ref sig .tc := ⟨.hbm, 530, rfl⟩
abbrev main_v398 : Ref sig .tc := ⟨.hbm, 531, rfl⟩
abbrev main_c_113 : Ref sig .tc := ⟨.hbm, 532, rfl⟩
abbrev main_v399 : Ref sig .tc := ⟨.hbm, 533, rfl⟩
abbrev main_v400 : Ref sig .tc := ⟨.hbm, 534, rfl⟩
abbrev main_c_114 : Ref sig .tc := ⟨.hbm, 535, rfl⟩
abbrev main_c_115 : Ref sig .tc := ⟨.hbm, 536, rfl⟩
abbrev main_v401 : Ref sig .tc := ⟨.hbm, 537, rfl⟩
abbrev main_c_116 : Ref sig .tc := ⟨.hbm, 538, rfl⟩
abbrev main_v402 : Ref sig .tc := ⟨.hbm, 539, rfl⟩
abbrev main_c_117 : Ref sig .tc := ⟨.hbm, 540, rfl⟩
abbrev main_v403 : Ref sig .tc := ⟨.hbm, 541, rfl⟩
abbrev main_v404 : Ref sig .tc := ⟨.hbm, 542, rfl⟩
abbrev main_c_118 : Ref sig .tc := ⟨.hbm, 543, rfl⟩
abbrev main_v405 : Ref sig .tc := ⟨.hbm, 544, rfl⟩
abbrev main_v406 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_v417 : Ref sig .tc := ⟨.hbm, 556, rfl⟩
abbrev main_v418 : Ref sig .tc := ⟨.hbm, 557, rfl⟩
abbrev main_v419 : Ref sig .tc := ⟨.hbm, 558, rfl⟩
abbrev main_v420 : Ref sig .tc := ⟨.hbm, 559, rfl⟩
abbrev main_v421 : Ref sig .tc := ⟨.hbm, 560, rfl⟩
abbrev main_v422 : Ref sig .tc := ⟨.hbm, 561, rfl⟩
abbrev main_c_119 : Ref sig .tc := ⟨.hbm, 562, rfl⟩
abbrev main_v423 : Ref sig .tc := ⟨.hbm, 563, rfl⟩
abbrev main_c_120 : Ref sig .tc := ⟨.hbm, 564, rfl⟩
abbrev main_v424 : Ref sig .tc := ⟨.hbm, 565, rfl⟩
abbrev main_v425 : Ref sig .tc := ⟨.hbm, 566, rfl⟩
abbrev main_c_121 : Ref sig .tc := ⟨.hbm, 567, rfl⟩
abbrev main_c_122 : Ref sig .tc := ⟨.hbm, 568, rfl⟩
abbrev main_v426 : Ref sig .tc := ⟨.hbm, 569, rfl⟩
abbrev main_c_123 : Ref sig .tc := ⟨.hbm, 570, rfl⟩
abbrev main_c_124 : Ref sig .tc := ⟨.hbm, 571, rfl⟩
abbrev main_v427 : Ref sig .tc := ⟨.hbm, 572, rfl⟩
abbrev main_c_125 : Ref sig .tc := ⟨.hbm, 573, rfl⟩
abbrev main_v428 : Ref sig .tc := ⟨.hbm, 574, rfl⟩
abbrev main_v429 : Ref sig .tc := ⟨.hbm, 575, rfl⟩
abbrev main_v430 : Ref sig .tc := ⟨.hbm, 576, rfl⟩
abbrev main_v431 : Ref sig .tc := ⟨.hbm, 577, rfl⟩
abbrev main_v432 : Ref sig .tc := ⟨.hbm, 578, rfl⟩
abbrev main_v433 : Ref sig .tc := ⟨.hbm, 579, rfl⟩
abbrev main_v434 : Ref sig .tc := ⟨.hbm, 580, rfl⟩
abbrev main_cst_126 : Ref sig .tc := ⟨.hbm, 581, rfl⟩
abbrev main_call4_v0 : Ref sig .tc := ⟨.hbm, 582, rfl⟩
abbrev main_call4_v1 : Ref sig .tc := ⟨.hbm, 583, rfl⟩
abbrev main_v435 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_v440 : Ref sig .tc := ⟨.hbm, 589, rfl⟩
abbrev main_v441 : Ref sig .tc := ⟨.hbm, 590, rfl⟩
abbrev main_v442 : Ref sig .tc := ⟨.hbm, 591, rfl⟩
abbrev main_v443 : Ref sig .tc := ⟨.hbm, 592, rfl⟩
abbrev main_v444 : Ref sig .tc := ⟨.hbm, 593, rfl⟩
abbrev main_v445 : Ref sig .tc := ⟨.hbm, 594, rfl⟩
abbrev main_v446 : Ref sig .tc := ⟨.hbm, 595, rfl⟩
abbrev main_v447 : Ref sig .tc := ⟨.hbm, 596, rfl⟩
abbrev main_v448 : Ref sig .tc := ⟨.hbm, 597, rfl⟩
abbrev main_v449 : Ref sig .tc := ⟨.hbm, 598, rfl⟩
abbrev main_v450 : Ref sig .tc := ⟨.hbm, 599, rfl⟩
abbrev main_v451 : Ref sig .tc := ⟨.hbm, 600, rfl⟩
abbrev main_v452 : Ref sig .tc := ⟨.hbm, 601, rfl⟩
abbrev main_v453 : Ref sig .tc := ⟨.hbm, 602, rfl⟩

abbrev nD : Nat := 1
abbrev τ : Topo := Topo.v7x

variable {F : FTy → Type} [FloatOps F]
-- ==== Proof.Pool.lean ====
/-
  The first precondition read off its predicate: every segment names one of the seven adapters, and no adapter
  starts below the pool.
-/
module

public import proofs.«01_k».proof.Pre_in_pool
public import Idealize.ShloMosaic.Lib.ReduceAll
public import Idealize.ShloMosaic.Lib.Affine
public import Idealize.ShloMosaic.Lib.WordArith

@[expose] public section

noncomputable section

namespace Cert.Pre_in_pool

open Idealize.ShloMosaic

instance facts : Facts where
  bcast_S_S5 := by decide
  reducesTo_S5_S_d0 := by decide
  h_S_ := by decide
  bcast_S_S7 := by decide
  reducesTo_S7_S_d0 := by decide

theorem and_one {a b : BitVec 1} (h : IntOp.andi a b = 1#1) : a = 1#1 ∧ b = 1#1 := by
  revert h a b; decide

theorem word_lt_seven : ∀ w : BitVec 32, IntOp.cmpi .sge w 0#32 = 1#1 → IntOp.cmpi .slt w 7#32 = 1#1 → w.toNat < 7 := by
  intro w h0 h1
  have h0' : (0#32 : BitVec 32).toInt ≤ w.toInt := IntOp.cmpi_sge.mp h0
  have h1' : w.toInt < (7#32 : BitVec 32).toInt := IntOp.cmpi_slt.mp h1
  rw [show (0#32 : BitVec 32).toInt = 0 from rfl] at h0'
  rw [show (7#32 : BitVec 32).toInt = 7 from rfl] at h1'
  rw [BitVec.toInt_eq_toNat_cond] at h0' h1'
  have := w.isLt
  split at h0' <;> omega

theorem word_nonneg : ∀ w : BitVec 32, IntOp.cmpi .sge w 0#32 = 1#1 → w.toNat < 2 ^ 31 := by
  intro w h0
  have h0' : (0#32 : BitVec 32).toInt ≤ w.toInt := IntOp.cmpi_sge.mp h0
  rw [show (0#32 : BitVec 32).toInt = 0 from rfl, BitVec.toInt_eq_toNat_cond] at h0'
  have := w.isLt
  split at h0' <;> omega

/-- What the predicate says of the two tables. -/
theorem decode {F : FTy → Type} [FloatOps F] (a0 : FVec F S6x1152x6144 .bf16) (a1 : IVec S768x16384 32) (a2 : FVec F S48x16384 .bf16)
    (a3 : FVec F S3x600x6144 .bf16) (a4 : FVec F S600x16384 .bf16) (a5 a6 : IVec S7 32) (a7 : FVec F S7x3 .f32) (a8 : IVec S6 32) (a9 : IVec S5 32)
    (h : fn a0 a1 a2 a3 a4 a5 a6 a7 a8 a9 = fun _ => 1#1) :
    (∀ j, (a9 j : BitVec 32).toNat < 7) ∧ ∀ j, (a5 j : BitVec 32).toNat < 2 ^ 31 := by
  have h := congrFun h (fun a => a.elim0)
  dsimp only [fn] at h
  obtain ⟨h9, h5⟩ := and_one h
  refine ⟨fun j => ?_, fun j => ?_⟩
  · have := Host.reduce_andi_all _ _ _ _ _ h9 j
    obtain ⟨hl, hu⟩ := and_one this
    exact word_lt_seven _ hl hu
  · exact word_nonneg _ (Host.reduce_andi_all _ _ _ _ _ h5 j)

end Cert.Pre_in_pool

end
-- ==== Proof.Words.lean ====
/-
  The words the kernel computes from its tables: the first row of a segment's window of a pool, `base`, and what
  every window needs of it (a multiple of 16, at most 512).
-/
module

public import Idealize.ShloMosaic.PureOps
public import Mathlib.Tactic.IntervalCases
public import Mathlib.Tactic.SplitIfs

@[expose] public section

namespace Cert.LoraWords

open Idealize.ShloMosaic

/-- The first row of the window of a pool read for the adapter whose rows start at `w`. -/
def base (w : BitVec 32) : BitVec 32 := Scalar.minsi (Scalar.andi w 4294967280#32) 512#32

theorem and_mask (w : BitVec 32) : (w &&& 4294967280#32).toNat = w.toNat / 16 * 16 := by
  have h : w &&& 4294967280#32 = (w >>> 4) <<< 4 := by
    apply BitVec.eq_of_getLsbD_eq
    intro i hi
    interval_cases i <;> simp
  rw [h, BitVec.toNat_shiftLeft, BitVec.toNat_ushiftRight, Nat.shiftLeft_eq, Nat.shiftRight_eq_div_pow]
  have := w.isLt
  omega

/-- The window's first row as a number. -/
theorem base_toNat {w : BitVec 32} (h : w.toNat < 2 ^ 31) : (base w).toNat = min (w.toNat / 16 * 16) 512 := by
  have hm := and_mask w
  have h1 : (w &&& 4294967280#32).toInt = ((w &&& 4294967280#32).toNat : Int) :=
    BitVec.toInt_eq_toNat_of_lt (by rw [hm]; omega)
  unfold base Scalar.minsi IntOp.minsi Scalar.andi IntOp.andi
  simp only [BitVec.slt, h1, hm]
  have h2 : (512#32 : BitVec 32).toInt = 512 := by decide
  rw [h2]
  by_cases hc : ((w.toNat / 16 * 16 : ℕ) : Int) < 512
  · simp only [hc, decide_true, if_true, hm]; omega
  · simp only [hc, decide_false, Bool.false_eq_true, if_false]
    have : (512#32 : BitVec 32).toNat = 512 := by decide
    omega

theorem base_le {w : BitVec 32} (h : w.toNat < 2 ^ 31) : (base w).toNat ≤ 512 := by
  rw [base_toNat h]; omega

theorem base_dvd {w : BitVec 32} (h : w.toNat < 2 ^ 31) : 16 ∣ (base w).toNat := by
  rw [base_toNat h]; omega

/-! ## Which segment a slot serves -/

/-- Whether a segment has rows in the block of 768 rows from `r`: its first row `lo` is before the block's end, its
    end `hi` is after the block's start, and it is not empty (`hi'`, `lo'`: the same two words read again). -/
def live (r lo hi hi' lo' : BitVec 32) : BitVec 1 :=
  Scalar.andi (Scalar.andi (Scalar.cmpi .slt lo (Scalar.addi r 768#32)) (Scalar.cmpi .sgt hi r)) (Scalar.cmpi .sgt hi' lo')

/-- One more live segment counted. -/
def step (n : BitVec 32) (l : BitVec 1) : BitVec 32 := Scalar.addi n (Scalar.extui l)

/-- The segment slot `q` serves: the live one that `q` live ones precede (segment 0 when there is none). -/
def slot (l0 l1 l2 l3 l4 : BitVec 1) (q : BitVec 32) : BitVec 32 :=
  let n0 := step 0#32 l0
  let n1 := step n0 l1
  let n2 := step n1 l2
  let n3 := step n2 l3
  Scalar.select (Scalar.andi l4 (Scalar.cmpi .eq n3 q)) 4#32
    (Scalar.select (Scalar.andi l3 (Scalar.cmpi .eq n2 q)) 3#32
      (Scalar.select (Scalar.andi l2 (Scalar.cmpi .eq n1 q)) 2#32
        (Scalar.select (Scalar.andi l1 (Scalar.cmpi .eq n0 q)) 1#32
          (Scalar.select (Scalar.andi l0 (Scalar.cmpi .eq 0#32 q)) 0#32 0#32))))

theorem slot_lt (l0 l1 l2 l3 l4 : BitVec 1) (q : BitVec 32) : (slot l0 l1 l2 l3 l4 q).toNat < 5 := by
  unfold slot Scalar.select
  dsimp only
  split_ifs <;> decide

end Cert.LoraWords

end
-- ==== Proof.SlotSum.lean ====
/-
  Sums over the slots are sums over the segments: the live segments, at most three, fill the slots in order.
-/
module

public import proofs.«01_k».proof.Proof.Words
public import Idealize.ShloMosaic.PureOps.Ideal.Laws
public import Idealize.ShloMosaic.Lib.Affine

@[expose] public section

namespace Cert.LoraWords

open Idealize.ShloMosaic

/-- How many of five segments are live. -/
def count (l0 l1 l2 l3 l4 : BitVec 1) : BitVec 32 := step (step (step (step (step 0#32 l0) l1) l2) l3) l4

/-- Slot `q` is used when more than `q` segments are live. -/
def used (n q : BitVec 32) : BitVec 1 := Scalar.cmpi .sgt n q

/-- The slots' sum. -/
theorem slot_sum (l0 l1 l2 l3 l4 : BitVec 1) (f : ℕ → EReal) (h0 : l0 ≠ 1#1 → f 0 = 0) (h1 : l1 ≠ 1#1 → f 1 = 0)
    (h2 : l2 ≠ 1#1 → f 2 = 0) (h3 : l3 ≠ 1#1 → f 3 = 0) (h4 : l4 ≠ 1#1 → f 4 = 0) (hc : (count l0 l1 l2 l3 l4).toNat ≤ 3) :
    (if used (count l0 l1 l2 l3 l4) 0#32 = 1#1 then f (slot l0 l1 l2 l3 l4 0#32).toNat else 0)
      + (if used (count l0 l1 l2 l3 l4) 1#32 = 1#1 then f (slot l0 l1 l2 l3 l4 1#32).toNat else 0)
      + (if used (count l0 l1 l2 l3 l4) 2#32 = 1#1 then f (slot l0 l1 l2 l3 l4 2#32).toNat else 0)
      = f 0 + f 1 + f 2 + f 3 + f 4 := by
  rcases BitVec.eq_zero_or_eq_one l0 with rfl | rfl <;> rcases BitVec.eq_zero_or_eq_one l1 with rfl | rfl <;>
  rcases BitVec.eq_zero_or_eq_one l2 with rfl | rfl <;> rcases BitVec.eq_zero_or_eq_one l3 with rfl | rfl <;>
  rcases BitVec.eq_zero_or_eq_one l4 with rfl | rfl <;>
  first
  | exact absurd hc (by decide)
  | (simp only [show (0#1 : BitVec 1) ≠ 1#1 from by decide, ne_eq, not_false_eq_true, forall_const, not_true_eq_false, false_imp_iff] at h0 h1 h2 h3 h4
     simp only [used, count, slot, step, Scalar.select, Scalar.andi, Scalar.cmpi, Scalar.addi, Scalar.extui, IntOp.andi, IntOp.cmpi, IntOp.addi]
     simp [*])

end Cert.LoraWords

end
-- ==== Proof.Fits.lean ====
/-
  The second precondition read off its predicate: besides the first, an adapter's rows start no later than row 536, are
  at most 64 and end by row 592, and no row block of 768 rows meets more than three segments.
-/
module

public import proofs.«01_k».proof.Pre_fits
public import proofs.«01_k».proof.Proof.Pool
public import proofs.«01_k».proof.Proof.SlotSum
public import Idealize.ShloMosaic.Lib.Pointwise

@[expose] public section

noncomputable section

namespace Cert.Pre_fits

open Idealize.ShloMosaic Idealize.ShloMosaic.Tactic Cert.Pre_in_pool Cert.LoraWords

instance facts : Facts where
  bcast_S_S9 := by decide
  slices_S6_S1_0 := by decide
  shapeCasts_S1_S_ := by decide
  slices_S6_S1_1 := by decide
  natLt_1_32 := by decide
  slices_S6_S1_2 := by decide
  slices_S6_S1_3 := by decide
  slices_S6_S1_4 := by decide
  slices_S6_S1_5 := by decide
  bcast_S_S5 := by decide
  reducesTo_S5_S_d0 := by decide
  h_S_ := by decide
  bcast_S_S7 := by decide
  reducesTo_S7_S_d0 := by decide
  reducesTo_S9_S_d0 := by decide

theorem small_count : ∀ l0 l1 l2 l3 l4 : BitVec 1, IntOp.cmpi .sle (count l0 l1 l2 l3 l4) 3#32 = 1#1 → (count l0 l1 l2 l3 l4).toNat ≤ 3 := by
  decide

/-- What the predicate says of the tables. -/
theorem decode {F : FTy → Type} [FloatOps F] (a0 : FVec F S6x1152x6144 .bf16) (a1 : IVec S768x16384 32) (a2 : FVec F S48x16384 .bf16)
    (a3 : FVec F S3x600x6144 .bf16) (a4 : FVec F S600x16384 .bf16) (a5 a6 : IVec S7 32) (a7 : FVec F S7x3 .f32) (a8 : IVec S6 32) (a9 : IVec S5 32)
    (h : fn a0 a1 a2 a3 a4 a5 a6 a7 a8 a9 = fun _ => 1#1) :
    (∀ j, (a9 j : BitVec 32).toNat < 7) ∧ (∀ j, (a5 j : BitVec 32).toNat ≤ 536) ∧ (∀ j, (a6 j : BitVec 32).toInt ≤ 64)
      ∧ (∀ j, ((a5 j : BitVec 32).toNat : ℤ) + (a6 j : BitVec 32).toInt ≤ 592)
      ∧ ∀ b : Fin 9, (count
          (live (IntOp.muli 768#32 (BitVec.ofNat 32 b.val)) (a8 (ix1 0)) (a8 (ix1 1)) (a8 (ix1 1)) (a8 (ix1 0)))
          (live (IntOp.muli 768#32 (BitVec.ofNat 32 b.val)) (a8 (ix1 1)) (a8 (ix1 2)) (a8 (ix1 2)) (a8 (ix1 1)))
          (live (IntOp.muli 768#32 (BitVec.ofNat 32 b.val)) (a8 (ix1 2)) (a8 (ix1 3)) (a8 (ix1 3)) (a8 (ix1 2)))
          (live (IntOp.muli 768#32 (BitVec.ofNat 32 b.val)) (a8 (ix1 3)) (a8 (ix1 4)) (a8 (ix1 4)) (a8 (ix1 3)))
          (live (IntOp.muli 768#32 (BitVec.ofNat 32 b.val)) (a8 (ix1 4)) (a8 (ix1 5)) (a8 (ix1 5)) (a8 (ix1 4)))).toNat ≤ 3 := by
  have h := congrFun h (fun a => a.elim0)
  dsimp only [fn, fn_part1, fn_part2, fn_part3, fn_part4, fn_part5] at h
  obtain ⟨h, hc⟩ := and_one h
  obtain ⟨h, hsum⟩ := and_one h
  obtain ⟨h, hr⟩ := and_one h
  obtain ⟨h, hs⟩ := and_one h
  obtain ⟨h9, h5⟩ := and_one h
  have e5 : ∀ j, (a5 j : BitVec 32).toNat < 2 ^ 31 := fun j => word_nonneg _ (Host.reduce_andi_all _ _ _ _ _ h5 j)
  have e5' : ∀ j, (a5 j : BitVec 32).toInt = ((a5 j : BitVec 32).toNat : ℤ) := fun j =>
    BitVec.toInt_eq_toNat_of_lt (by have := e5 j; omega)
  have es : ∀ j, (a5 j : BitVec 32).toNat ≤ 536 := fun j => by
    have h1 : (a5 j : BitVec 32).toInt ≤ (536#32 : BitVec 32).toInt := IntOp.cmpi_sle.mp (Host.reduce_andi_all _ _ _ _ _ hs j)
    rw [e5', show (536#32 : BitVec 32).toInt = 536 from rfl] at h1
    omega
  have er : ∀ j, (a6 j : BitVec 32).toInt ≤ 64 := fun j => by
    have h1 : (a6 j : BitVec 32).toInt ≤ (64#32 : BitVec 32).toInt := IntOp.cmpi_sle.mp (Host.reduce_andi_all _ _ _ _ _ hr j)
    rw [show (64#32 : BitVec 32).toInt = 64 from rfl] at h1
    exact h1
  refine ⟨fun j => ?_, es, er, fun j => ?_, fun b => ?_⟩
  · obtain ⟨hl, hu⟩ := and_one (Host.reduce_andi_all _ _ _ _ _ h9 j)
    exact word_lt_seven _ hl hu
  · have h1 : (a5 j + a6 j : BitVec 32).toInt ≤ (592#32 : BitVec 32).toInt := IntOp.cmpi_sle.mp (Host.reduce_andi_all _ _ _ _ _ hsum j)
    rw [show (592#32 : BitVec 32).toInt = 592 from rfl, BitVec.toInt_add, e5'] at h1
    have h2 := er j
    have h3 := es j
    have h4 := BitVec.le_toInt (x := (a6 j : BitVec 32))
    rw [Int.bmod_def] at h1
    omega
  · refine small_count _ _ _ _ _ (Eq.trans (Eq.symm ?_) (Host.reduce_andi_all _ _ _ _ _ hc (ix1 b)))
    pointwise [cmpi]
    rfl

end Cert.Pre_fits

end
-- ==== Proof.Checks.lean ====
/-
  The side conditions the kernel's body assumes of the words it reads: a table index inside its table, a pool window
  inside its pool and made of whole words.
-/
module

public import proofs.«01_k».proof.Proof.Gen.KernelIdeal.Frame
public import proofs.«01_k».proof.Proof.Words
public import Idealize.ShloMosaic.Lib.Affine

@[expose] public section

namespace Cert.KernelIdeal.Hand

open Cert.KernelIdeal Cert.KernelIdeal.Gen Cert.LoraWords
open Idealize.ShloMosaic

theorem inb5 {w : BitVec 32} (h : w.toNat < 5) : ∀ a, (![w.toNat] : Fin 1 → Nat) a + S1.size a ≤ S5.size a :=
  Fin.forall_fin_one.2 (Nat.succ_le_of_lt h)
theorem inb6 {w : BitVec 32} (h : w.toNat < 5) : ∀ a, (![w.toNat] : Fin 1 → Nat) a + S1.size a ≤ S6.size a :=
  Fin.forall_fin_one.2 (Nat.succ_le_of_lt (Nat.lt_succ_of_lt h))
theorem inb6' {w : BitVec 32} (h : w.toNat < 5) : ∀ a, (![(Scalar.addi w 1#32).toNat] : Fin 1 → Nat) a + S1.size a ≤ S6.size a :=
  Fin.forall_fin_one.2 (by
    show (w + 1#32).toNat + 1 ≤ 6
    rw [BitVec.toNat_add, show (1#32 : BitVec 32).toNat = 1 from rfl]; omega)
theorem inb7 {w : BitVec 32} (h : w.toNat < 7) : ∀ a, (![w.toNat] : Fin 1 → Nat) a + S1.size a ≤ S7.size a :=
  Fin.forall_fin_one.2 (Nat.succ_le_of_lt h)
theorem inb73 {w : BitVec 32} (h : w.toNat < 7) (k : Fin 3) :
    ∀ a, (![w.toNat, k.val] : Fin 2 → Nat) a + S1x1.size a ≤ S7x3.size a :=
  Fin.forall_fin_two.2 ⟨Nat.succ_le_of_lt h, Nat.succ_le_of_lt k.isLt⟩

theorem packing_bf16 : EltTy.packing .bf16 = 2 := by decide

/-- The window of the second pool. -/
theorem inbB {w : BitVec 32} (h : w.toNat < 2 ^ 31) :
    ∀ a, (![(base w).toNat, 0] : Fin 2 → Nat) a + S80x16384.size a ≤ S600x16384.size a :=
  Fin.forall_fin_two.2 ⟨by show (base w).toNat + 80 ≤ 600; have := base_le h; omega, by show 0 + 16384 ≤ 16384; omega⟩
theorem wordsB {w : BitVec 32} (h : w.toNat < 2 ^ 31) (hinb : ∀ a, (![(base w).toNat, 0] : Fin 2 → Nat) a + S80x16384.size a ≤ S600x16384.size a) :
    (Rect.unit (s := S600x16384) ![(base w).toNat, 0] S80x16384.size hinb).WholeWords (EltTy.packing .bf16) :=
  by
  refine Affine.words_of_packed (Affine.packed_dvd (show 2 ≤ S600x16384.rank by decide) ?_ ?_)
  · rw [packing_bf16, show S600x16384.rowAx (show 2 ≤ S600x16384.rank by decide) = (0 : Fin 2) from rfl]
    exact (show (2 : ℕ) ∣ 16 by decide).trans (base_dvd h)
  · rw [packing_bf16]; decide
/-- The window of plane `k` of the first pool. -/
theorem inbA {w : BitVec 32} (h : w.toNat < 2 ^ 31) (k : Fin 3) :
    ∀ a, (![k.val, (base w).toNat, 0] : Fin 3 → Nat) a + S1x80x6144.size a ≤ S3x600x6144.size a := by
  intro a
  match a with
  | 0 => exact Nat.succ_le_of_lt k.isLt
  | 1 => show (base w).toNat + 80 ≤ 600; have := base_le h; omega
  | 2 => show 0 + 6144 ≤ 6144; omega
theorem wordsA {w : BitVec 32} (h : w.toNat < 2 ^ 31) (k : Fin 3)
    (hinb : ∀ a, (![k.val, (base w).toNat, 0] : Fin 3 → Nat) a + S1x80x6144.size a ≤ S3x600x6144.size a) :
    (Rect.unit (s := S3x600x6144) ![k.val, (base w).toNat, 0] S1x80x6144.size hinb).WholeWords (EltTy.packing .bf16) :=
  by
  refine Affine.words_of_packed (Affine.packed_dvd (show 2 ≤ S3x600x6144.rank by decide) ?_ ?_)
  · rw [packing_bf16, show S3x600x6144.rowAx (show 2 ≤ S3x600x6144.rank by decide) = (1 : Fin 3) from rfl]
    exact (show (2 : ℕ) ∣ 16 by decide).trans (base_dvd h)
  · rw [packing_bf16]; decide

/-! ## The shapes the conditions come in -/

theorem chkIdx {C : Prop} {w : BitVec 32} (h : w.toNat < 7) :
    C → ∀ a, (![w.toNat] : Fin 1 → Nat) a + S1.size a ≤ S7.size a := fun _ => inb7 h
theorem chkIdx' {C D : Prop} {w : BitVec 32} (h : w.toNat < 7) :
    C → D → ∀ a, (![w.toNat] : Fin 1 → Nat) a + S1.size a ≤ S7.size a := fun _ _ => inb7 h
theorem chkB {C : Prop} {w : BitVec 32} (h : w.toNat < 2 ^ 31) :
    (C → 16 ∣ (base w).toNat)
    ∧ (C → ∀ a, (![(base w).toNat, 0] : Fin 2 → Nat) a + S80x16384.size a ≤ S600x16384.size a)
    ∧ (C → ∀ (hinb : ∀ a, (![(base w).toNat, 0] : Fin 2 → Nat) a + S80x16384.size a ≤ S600x16384.size a),
      (Rect.unit (s := S600x16384) ![(base w).toNat, 0] S80x16384.size hinb).WholeWords (EltTy.packing .bf16)) :=
  ⟨fun _ => base_dvd h, fun _ => inbB h, fun _ => wordsB h⟩
theorem chk23_of {i : grid0.Coords} {v6 v9 v12 v13 v27 v30 v33 v34 v48 v51 v54 v55 v69 v72 v75 v76 v90 v93 v96 v97 w : BitVec 32} (h : w.toNat < 2 ^ 31) :
    k0_chk23 i v6 v9 v12 v13 v27 v30 v33 v34 v48 v51 v54 v55 v69 v72 v75 v76 v90 v93 v96 v97 w :=
  ⟨fun _ _ => base_dvd h, fun _ _ => inbA h 0, fun _ _ => wordsA h 0, fun _ _ => inbA h 1, fun _ _ => wordsA h 1, fun _ _ => inbA h 2, fun _ _ => wordsA h 2⟩
theorem chk26_of {i : grid0.Coords} {v6 v9 v12 v13 v27 v30 v33 v34 v48 v51 v54 v55 v69 v72 v75 v76 v90 v93 v96 v97 w : BitVec 32} (h : w.toNat < 2 ^ 31) :
    k0_chk26 i v6 v9 v12 v13 v27 v30 v33 v34 v48 v51 v54 v55 v69 v72 v75 v76 v90 v93 v96 v97 w :=
  ⟨fun _ _ => base_dvd h, fun _ _ => inbA h 0, fun _ _ => wordsA h 0, fun _ _ => inbA h 1, fun _ _ => wordsA h 1, fun _ _ => inbA h 2, fun _ _ => wordsA h 2⟩
theorem chk29_of {i : grid0.Coords} {v6 v9 v12 v13 v27 v30 v33 v34 v48 v51 v54 v55 v69 v72 v75 v76 v90 v93 v96 v97 w : BitVec 32} (h : w.toNat < 2 ^ 31) :
    k0_chk29 i v6 v9 v12 v13 v27 v30 v33 v34 v48 v51 v54 v55 v69 v72 v75 v76 v90 v93 v96 v97 w :=
  ⟨fun _ _ => base_dvd h, fun _ _ => inbA h 0, fun _ _ => wordsA h 0, fun _ _ => inbA h 1, fun _ _ => wordsA h 1, fun _ _ => inbA h 2, fun _ _ => wordsA h 2⟩
/-- A word that indexes the pool's tables. -/
theorem chkSeg {C D : Prop} {w : BitVec 32} (h : w.toNat < 7) :
    (C → D → ∀ a, (![w.toNat] : Fin 1 → Nat) a + S1.size a ≤ S7.size a)
    ∧ (C → D → ∀ a, (![w.toNat, 0] : Fin 2 → Nat) a + S1x1.size a ≤ S7x3.size a)
    ∧ (C → D → ∀ a, (![w.toNat, 1] : Fin 2 → Nat) a + S1x1.size a ≤ S7x3.size a)
    ∧ (C → D → ∀ a, (![w.toNat, 2] : Fin 2 → Nat) a + S1x1.size a ≤ S7x3.size a) :=
  ⟨fun _ _ => inb7 h, fun _ _ => inb73 h 0, fun _ _ => inb73 h 1, fun _ _ => inb73 h 2⟩

/-! ## The slots' segments -/

/-- The first row of the row block at grid point `i`. -/
def row0 (i : grid0.Coords) : BitVec 32 := Scalar.muli (BitVec.ofNat 32 (i 0).val) 768#32

/-- The segment slot `q` serves at point `i`, from the offset words the body has read. -/
def slotAt (i : grid0.Coords) (v6 v9 v12 v13 v27 v30 v33 v34 v48 v51 v54 v55 v69 v72 v75 v76 v90 v93 v96 v97 q : BitVec 32) : BitVec 32 :=
  slot (live (row0 i) v6 v9 v12 v13) (live (row0 i) v27 v30 v33 v34) (live (row0 i) v48 v51 v54 v55)
    (live (row0 i) v69 v72 v75 v76) (live (row0 i) v90 v93 v96 v97) q

theorem slotAt_lt (i : grid0.Coords) (v6 v9 v12 v13 v27 v30 v33 v34 v48 v51 v54 v55 v69 v72 v75 v76 v90 v93 v96 v97 q : BitVec 32) :
    (slotAt i v6 v9 v12 v13 v27 v30 v33 v34 v48 v51 v54 v55 v69 v72 v75 v76 v90 v93 v96 v97 q).toNat < 5 := slot_lt _ _ _ _ _ _

theorem inb57 {w : BitVec 32} (j : Fin 16384) (h : w.toNat < 5) (k : BitVec 32) (hk : k.toNat + 512 ≤ 16384) :
    ∀ a, (![w.toNat, 0, k.toNat] : Fin 3 → Nat) a + S1x80x512.size a ≤ S5x80x16384.size a := by
  intro a
  match a with
  | 0 => exact Nat.succ_le_of_lt h
  | 1 => show 0 + 80 ≤ 80; omega
  | 2 => exact hk

theorem col_le (i : grid0.Coords) : (Scalar.muli (BitVec.ofNat 32 (i 1).val) 512#32).toNat + 512 ≤ 16384 := by
  have h : (i 1).val < 32 := (i 1).isLt
  show (BitVec.ofNat 32 (i 1).val * 512#32).toNat + 512 ≤ 16384
  rw [BitVec.toNat_mul, BitVec.toNat_ofNat, show (512#32 : BitVec 32).toNat = 512 from rfl]
  omega

theorem chk21_all (i : grid0.Coords) (v6 v9 v12 v13 v27 v30 v33 v34 v48 v51 v54 v55 v69 v72 v75 v76 v90 v93 v96 v97 : BitVec 32) :
    k0_chk21 i v6 v9 v12 v13 v27 v30 v33 v34 v48 v51 v54 v55 v69 v72 v75 v76 v90 v93 v96 v97 := by
  have hs := slotAt_lt i v6 v9 v12 v13 v27 v30 v33 v34 v48 v51 v54 v55 v69 v72 v75 v76 v90 v93 v96 v97
  have h0 := hs 0#32
  have h1 := hs 1#32
  have h2 := hs 2#32
  refine ⟨fun _ _ => inb5 h0, fun _ _ => inb5 h0, fun _ _ => inb6 h0, fun _ _ => inb6' h0,
    fun _ _ => inb5 h1, fun _ _ => inb5 h1, fun _ _ => inb6 h1, fun _ _ => inb6' h1,
    fun _ _ => inb5 h2, fun _ _ => inb5 h2, fun _ _ => inb6 h2, fun _ _ => inb6' h2, fun r => ?_⟩
  match r with
  | 0 => exact inb57 0 h0 _ (col_le i)
  | 1 => exact inb57 0 h1 _ (col_le i)
  | 2 => exact inb57 0 h2 _ (col_le i)

end Cert.KernelIdeal.Hand

end
-- ==== Proof.Base.lean ====
/-
  The buffers the kernel's body works on besides its staged windows: the two pools left in HBM, the three scratch
  buffers and the five semaphores of its own transfers.
-/
module

public import proofs.«01_k».proof.Proof.Checks
public import proofs.«01_k».proof.Proof.Gen.KernelIdeal.Skeleton
public import Idealize.ShloMosaic.Lib.Pipeline.Frame
public import Idealize.ShloMosaic.Lib.Tactic
public import Idealize.ShloMosaic.Lib.Transfers

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The pools in HBM: the adapters' first factors, three planes, and their second factors. -/
abbrev poolA : Memref sig .tc .hbm S3x600x6144 .bf16 := Memref.whole main_arg3
abbrev poolB : Memref sig .tc .hbm S600x16384 .bf16 := Memref.whole main_arg4
/-- The scratch buffers: the window of `poolA` in use, the windows of `poolB`, the low-rank activations. -/
abbrev aWin : Memref sig .tc .vmem S256x6144 .bf16 := Memref.whole cc0_scratch0
abbrev bWin : Memref sig .tc .vmem S5x80x16384 .bf16 := Memref.whole cc0_scratch1
abbrev hBuf : Memref sig .tc .vmem S3x768x256 .bf16 := Memref.whole cc0_scratch2

/-- A memref's buffer on core `c` held at share `q`, its contents `f`. -/
abbrev ptq (c : Dev nD) (q : PosShare TreeShare) {sp : Space} {S : Shape} {e : EltTy} (M : Memref sig .tc sp S e)
    (f : Buf (Elt F) (M.view.loc (c : Thread nD τ))) : sProp 𝕄 :=
  M.view.loc (c : Thread nD τ) ↦{q} f
/-- A memref's buffer on core `c` held whole, its contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f
/-- A semaphore of the kernel's own at zero. -/
abbrev idle (c : Dev nD) (k : Fin 20) : sProp 𝕄 := semVal ((c : Thread nD τ), SemLoc.dma k) 0

end Cert.KernelIdeal.Hand

end

end
-- ==== Proof.Block.lean ====
/-
  What one call of the body computes, as functions of the tables, the row block and the pools: the activations of the
  segment a slot serves, and what that slot adds to the kept activations and to the returned ones.
-/
module

public import proofs.«01_k».proof.Proof.Base
public import Idealize.ShloMosaic.Lib.ValueIdxCore
public import Idealize.ShloMosaic.Lib.WritesUnit
public import Idealize.ShloMosaic.Lib.Pipeline.Value
public import Idealize.ShloMosaic.Lib.KernelVsHost

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx

/-- The words of the kernel's five tables: the segments' offsets and adapters; the adapters' first pool row, rank and
    three scaling factors. -/
structure Tab (F : FTy → Type) [FloatOps F] where
  off : ℕ → BitVec 32
  seg : ℕ → BitVec 32
  start : ℕ → BitVec 32
  rank : ℕ → BitVec 32
  scal : ℕ → Fin 3 → F .f32

/-- The tables read off their arrays (an index past an array's end wraps around). -/
def tabOf (d2 : Vec F S6 .i32) (d3 : Vec F S5 .i32) (d4 d5 : Vec F S7 .i32) (d6 : Vec F S7x3 .f32) : Tab F where
  off k := d2 (ix1 ⟨k % 6, Nat.mod_lt _ (by decide)⟩)
  seg k := d3 (ix1 ⟨k % 5, Nat.mod_lt _ (by decide)⟩)
  start k := d4 (ix1 ⟨k % 7, Nat.mod_lt _ (by decide)⟩)
  rank k := d5 (ix1 ⟨k % 7, Nat.mod_lt _ (by decide)⟩)
  scal k c := d6 (ix2 ⟨k % 7, Nat.mod_lt _ (by decide)⟩ c)

/-! ## The window of the first pool -/

/-- The three planes' windows of 80 rows one below the other, and 16 rows of zeros. -/
def winA (P : Vec F S3x600x6144 .bf16) (st : BitVec 32) : Vec F S256x6144 .bf16 := fun j =>
  if h : (j 0).val < 240 then
    P (ix3 ⟨(j 0).val / 80, Nat.div_lt_of_lt_mul h⟩
      ⟨((base st).toNat + (j 0).val % 80) % 600, Nat.mod_lt _ (by decide)⟩ (j 1))
  else (Scalar.ofBits .bf16 0x0000#16 : F .bf16)

/-- The windows of the second pool, one for each segment. -/
def winB (Q : Vec F S600x16384 .bf16) (T : Tab F) : Vec F S5x80x16384 .bf16 := fun j =>
  Q (ix2 ⟨((base (T.start (T.seg (j 0).val).toNat)).toNat + (j 1).val) % 600, Nat.mod_lt _ (by decide)⟩ (j 2))

/-! ## A slot's activations -/

/-- The activations of segment `w` over the row block `x` whose first row is `v0`: the rows' products with the window
    of the first pool, scaled, kept at the segment's rows and at the adapter's lanes. -/
def act (v0 : BitVec 32) (x : Vec F S768x6144 .bf16) (P : Vec F S3x600x6144 .bf16) (T : Tab F) (w : BitVec 32) :
    FVec F S768x256 .f32 :=
  k0_pay7 v0 (Scalar.subi (T.start (T.seg w.toNat).toNat) (base (T.start (T.seg w.toNat).toNat)))
    (T.rank (T.seg w.toNat).toNat) (k0_pay3 x (winA P (T.start (T.seg w.toNat).toNat)))
    (iota .tc S1x256 32 [1] iota_S1x256_d1_w32) k0_pay4 k0_pay5 (T.scal (T.seg w.toNat).toNat 0)
    (k0_pay6 (T.scal (T.seg w.toNat).toNat 1) (T.scal (T.seg w.toNat).toNat 2)) (T.off w.toNat)
    (T.off (Scalar.addi w 1#32).toNat)

/-- The lanes of group `g` of an array of activations, zero at the others. -/
def part (g : BitVec 32) (a : FVec F S768x256 .f32) : FVec F S768x256 .f32 :=
  select (broadcastTo S768x256 (shapeCast S1x256 (cmpi .eq k0_pay4 (broadcast S1x256 g)) shapeCasts_S1x256_S1x256)
      broadcasts_S1x256_S768x256) a (broadcast S768x256 (Scalar.ofBits .f32 0x00000000#32 : F .f32))

/-- Lanes moved up by `k`, around the end. -/
def rot (k : BitVec 32) (a : FVec F S768x256 .f32) : FVec F S768x256 .f32 :=
  dynamicRotate 1 k none a rotates_S768x256_d1

/-- Group `g` of a slot's activations moved to the lanes of slot `q`. -/
def moved (q g : Fin 3) (a : FVec F S768x256 .f32) : FVec F S768x256 .f32 :=
  match q, g with
  | 0, 0 => part 0#32 a
  | 0, 1 => rot 176#32 (part 1#32 a)
  | 0, 2 => rot 96#32 (part 2#32 a)
  | 1, 0 => rot 80#32 (part 0#32 a)
  | 1, 1 => part 1#32 a
  | 1, 2 => rot 176#32 (part 2#32 a)
  | 2, 0 => rot 160#32 (part 0#32 a)
  | 2, 1 => rot 80#32 (part 1#32 a)
  | 2, 2 => part 2#32 a

/-- One plane of the kept activations. -/
def planeOf (g : Fin 3) (H : Vec F S3x768x256 .bf16) : Vec F S1x768x256 .bf16 := fun y => H (ix3 g (y 1) (y 2))

/-- A plane with an array added. -/
def put (s : FVec F S768x256 .f32) (H : Vec F S1x768x256 .bf16) : Vec F S1x768x256 .bf16 :=
  shapeCast S1x768x256 (truncf .bf16 (addf (extf .f32 (shapeCast S768x256 H shapeCasts_S1x768x256_S768x256) bitsLt_bf16_f32) s)
    bitsLt_bf16_f32) shapeCasts_S768x256_S1x768x256

/-- The kept activations after slot `q` added its own, `a`. -/
def slotH (q : Fin 3) (a : FVec F S768x256 .f32) (H : Vec F S3x768x256 .bf16) : Vec F S3x768x256 .bf16 := fun j =>
  put (moved q (j 0) a) (planeOf (j 0) H) (ix3 0 (j 1) (j 2))

/-- The returned activations after a slot whose window starts `δ` rows before its adapter's first added its own, `a`. -/
def slotG (δ : BitVec 32) (a : FVec F S768x256 .f32) (G : Vec F S768x192 .bf16) : Vec F S768x192 .bf16 :=
  k0_pay50 (k0_pay17 δ k0_pay4 a (k0_pay12 δ k0_pay8 (part 0#32 a)) (k0_pay13 k0_pay4 a)
    (Scalar.addi (Scalar.subi 4294967280#32 δ) 256#32) (Scalar.select (Scalar.cmpi .eq 256#32 0#32) 1#32 256#32)) G

theorem ix3_congr {n0 n1 n2 : ℕ} {a a' : Fin n0} {b b' : Fin n1} {c c' : Fin n2} (ha : a.val = a'.val)
    (hb : b.val = b'.val) (hc : c = c') : (ix3 a b c : (⟨3, ![n0, n1, n2]⟩ : Shape).Idx) = ix3 a' b' c' := by
  rw [Fin.ext ha, Fin.ext hb, hc]

/-! ## The reads -/

theorem rd1 {n : ℕ} {e : EltTy} (M : Memref sig .tc .smem ⟨1, ![n]⟩ e) (f : M.view.ty.Contents (Elt F))
    (off : Fin 1 → ℕ) (k : ℕ) (hk : off 0 = k)
    (h : ∀ a, off a + S1.size a ≤ (⟨1, ![n]⟩ : Shape).size a) (hn : 0 < n)
    (x : (Rect.unit (s := ⟨1, ![n]⟩) off S1.size h).toLoadRect.shape.Idx) :
    M.view.readAt (Elt F) (Rect.unit (s := ⟨1, ![n]⟩) off S1.size h).toLoadRect f x
      = M.view.read (Elt F) f (ix1 ⟨k % n, Nat.mod_lt _ hn⟩) := by
  rw [View.readAt_apply]
  refine congrArg _ (funext fun a => Fin.ext ?_)
  match a with
  | ⟨0, _⟩ =>
    have h0 : off 0 + 1 ≤ n := h 0
    have hx : (x 0).val < 1 := (x 0).isLt
    show off 0 + 1 * (x 0).val = k % n
    rw [Nat.mod_eq_of_lt (by omega)]
    omega

theorem rd2 (M : Memref sig .tc .smem S7x3 .f32) (f : M.view.ty.Contents (Elt F))
    (off : Fin 2 → ℕ) (k : ℕ) (c : Fin 3) (hk : off 0 = k) (hc : off 1 = c.val)
    (h : ∀ a, off a + S1x1.size a ≤ S7x3.size a)
    (x : (Rect.unit (s := S7x3) off S1x1.size h).toLoadRect.shape.Idx) :
    M.view.readAt (Elt F) (Rect.unit (s := S7x3) off S1x1.size h).toLoadRect f x
      = M.view.read (Elt F) f (ix2 ⟨k % 7, Nat.mod_lt _ (by decide)⟩ c) := by
  rw [View.readAt_apply]
  have h0 : off 0 + 1 ≤ 7 := h 0
  have hx : (x 0).val < 1 := (x 0).isLt
  have hx1 : (x 1).val < 1 := (x 1).isLt
  refine congrArg _ (funext fun a => Fin.ext ?_)
  match a with
  | ⟨0, _⟩ =>
    show off 0 + 1 * (x 0).val = k % 7
    rw [Nat.mod_eq_of_lt (by omega)]
    omega
  | ⟨1, _⟩ =>
    show off 1 + 1 * (x 1).val = c.val
    omega

/-- A whole rectangle reads what the view reads. -/
theorem rdWhole {κ : Kind} {sp : Space} {s : Shape} {e : EltTy} (v : View sig κ sp s e) (f : v.ty.Contents (Elt F))
    (off : Fin s.rank → ℕ) (h0 : ∀ a, off a = 0) (h : ∀ a, off a + s.size a ≤ s.size a) :
    (v.readAt (Elt F) (Rect.unit off s.size h).toLoadRect f : s.Idx → Elt F e) = v.read (Elt F) f := by
  funext y
  rw [View.readAt_apply]
  refine congrArg _ (funext fun a => Fin.ext ?_)
  show off a + 1 * (y a).val = (y a).val
  rw [h0, Nat.zero_add, Nat.one_mul]

theorem rdPlane (M : Memref sig .tc .vmem S3x768x256 .bf16) (f : M.view.ty.Contents (Elt F)) (g : Fin 3)
    (h : ∀ a, (![g.val, 0, 0] : Fin 3 → ℕ) a + S1x768x256.size a ≤ S3x768x256.size a) :
    M.view.readAt (Elt F) (Rect.unit (s := S3x768x256) ![g.val, 0, 0] S1x768x256.size h).toLoadRect f
      = planeOf g (M.view.read (Elt F) f) := by
  funext y
  rw [View.readAt_apply]
  unfold planeOf
  refine congrArg _ (funext fun a => Fin.ext ?_)
  have hy : (y 0).val < 1 := (y 0).isLt
  match a with
  | ⟨0, _⟩ => show g.val + 1 * (y 0).val = g.val; omega
  | ⟨1, _⟩ => show 0 + 1 * (y 1).val = (y 1).val; omega
  | ⟨2, _⟩ => show 0 + 1 * (y 2).val = (y 2).val; omega

/-- A window of one plane of the first pool, read by row. -/
theorem rdPoolA (f : poolA.view.ty.Contents (Elt F)) (off : Fin 3 → ℕ) (g : Fin 3) (b : ℕ) (hoff : off = ![g.val, b, 0])
    (h : ∀ a, off a + S1x80x6144.size a ≤ S3x600x6144.size a) (hs hq) (y : S80x6144.Idx) :
    ((poolA.slice (Rect.unit (s := S3x600x6144) off S1x80x6144.size h) hs).squeeze S80x6144 hq).view.read (Elt F) f y
      = poolA.view.read (Elt F) f (ix3 g ⟨(b + (y 0).val) % 600, Nat.mod_lt _ (by decide)⟩ (y 1)) := by
  subst hoff
  have hb : b + 80 ≤ 600 := h 1
  have hy : (y 0).val < 80 := (y 0).isLt
  rw [Memref.read_squeeze_slice (hc := (show S1x80x6144.ShapeCasts S80x6144 by decide))]
  rw [shapeCast_apply _ _ y (ix3 (0 : Fin 1) (y 0) (y 1) : S1x80x6144.Idx) (by
    rw [Shape.rowMajor_val_two, Shape.rowMajor_val_three]
    show (0 * 80 + (y 0).val) * 6144 + (y 1).val = (y 0).val * 6144 + (y 1).val
    omega)]
  rw [View.readAt_apply]
  refine congrArg _ (funext fun a => Fin.ext ?_)
  match a with
  | ⟨0, _⟩ => show g.val + 1 * 0 = g.val; omega
  | ⟨1, _⟩ =>
    show b + 1 * (y 0).val = (b + (y 0).val) % 600
    rw [Nat.mod_eq_of_lt (by omega)]; omega
  | ⟨2, _⟩ => show 0 + 1 * (y 1).val = (y 1).val; omega

/-- A window of the second pool, read by row. -/
theorem rdPoolB (f : poolB.view.ty.Contents (Elt F)) (off : Fin 2 → ℕ) (b : ℕ) (hoff : off = ![b, 0])
    (h : ∀ a, off a + S80x16384.size a ≤ S600x16384.size a) (hs) (y : S80x16384.Idx) :
    (poolB.slice (Rect.unit (s := S600x16384) off S80x16384.size h) hs).view.read (Elt F) f y
      = poolB.view.read (Elt F) f (ix2 ⟨(b + (y 0).val) % 600, Nat.mod_lt _ (by decide)⟩ (y 1)) := by
  subst hoff
  have hb : b + 80 ≤ 600 := h 0
  have hy : (y 0).val < 80 := (y 0).isLt
  refine congrArg (poolB.view.read (Elt F) f) (funext fun a => Fin.ext ?_)
  match a with
  | ⟨0, _⟩ =>
    show b + 1 * (y 0).val = (b + (y 0).val) % 600
    rw [Nat.mod_eq_of_lt (by omega)]; omega
  | ⟨1, _⟩ => show 0 + 1 * (y 1).val = (y 1).val; omega

/-! ## What the stores leave -/

section Stores
variable {κ : Kind} {sp : Space}

/-- A row under the newest block of rows reads that block. -/
theorem hitRows {m n k : ℕ} {e : EltTy} (v : View sig κ sp ⟨2, ![m, n]⟩ e) (f : v.ty.Contents (Elt F)) (o : ℕ)
    (inb : ∀ a, (![o, 0] : Fin 2 → ℕ) a + (⟨2, ![k, n]⟩ : Shape).size a ≤ (⟨2, ![m, n]⟩ : Shape).size a)
    (w : (⟨2, ![k, n]⟩ : Shape).Idx → Elt F e) (L : List (View.Piece (Elt F) ⟨2, ![m, n]⟩ e)) (r : Fin m) (l : Fin n)
    (h1 : o ≤ r.val) (h2 : r.val < o + k) :
    v.read (Elt F) (v.writes (Elt F) f (⟨Rect.unit (s := ⟨2, ![m, n]⟩) ![o, 0] (⟨2, ![k, n]⟩ : Shape).size inb, w⟩ :: L)) (ix2 r l)
      = w (ix2 ⟨r.val - o, by omega⟩ l) :=
  View.read_writes_cons_unit_of_mem v f (off' := ![o, 0]) inb w L (ix2 r l) (ix2 ⟨r.val - o, by omega⟩ l) rfl fun a => by
    match a with
    | ⟨0, _⟩ => show r.val = o + (r.val - o); omega
    | ⟨1, _⟩ => show l.val = 0 + l.val; omega

/-- A row outside the newest block of rows reads what the earlier stores left. -/
theorem missRows {m n k : ℕ} {e : EltTy} (v : View sig κ sp ⟨2, ![m, n]⟩ e) (f : v.ty.Contents (Elt F)) (o : ℕ)
    (inb : ∀ a, (![o, 0] : Fin 2 → ℕ) a + (⟨2, ![k, n]⟩ : Shape).size a ≤ (⟨2, ![m, n]⟩ : Shape).size a)
    (w : (⟨2, ![k, n]⟩ : Shape).Idx → Elt F e) (L : List (View.Piece (Elt F) ⟨2, ![m, n]⟩ e)) (r : Fin m) (l : Fin n)
    (h : r.val < o ∨ o + k ≤ r.val) :
    v.read (Elt F) (v.writes (Elt F) f (⟨Rect.unit (s := ⟨2, ![m, n]⟩) ![o, 0] (⟨2, ![k, n]⟩ : Shape).size inb, w⟩ :: L)) (ix2 r l)
      = v.read (Elt F) (v.writes (Elt F) f L) (ix2 r l) :=
  View.read_writes_cons_unit_of_not_mem v f (off' := ![o, 0]) inb w L (ix2 r l) rfl (0 : Fin 2) h

/-- A place in the newest plane reads that plane. -/
theorem hitPlane {m n k : ℕ} {e : EltTy} (v : View sig κ sp ⟨3, ![m, n, k]⟩ e) (f : v.ty.Contents (Elt F)) (o : ℕ)
    (inb : ∀ a, (![o, 0, 0] : Fin 3 → ℕ) a + (⟨3, ![1, n, k]⟩ : Shape).size a ≤ (⟨3, ![m, n, k]⟩ : Shape).size a)
    (w : (⟨3, ![1, n, k]⟩ : Shape).Idx → Elt F e) (L : List (View.Piece (Elt F) ⟨3, ![m, n, k]⟩ e)) (g : Fin m) (r : Fin n) (l : Fin k)
    (h : g.val = o) :
    v.read (Elt F) (v.writes (Elt F) f (⟨Rect.unit (s := ⟨3, ![m, n, k]⟩) ![o, 0, 0] (⟨3, ![1, n, k]⟩ : Shape).size inb, w⟩ :: L)) (ix3 g r l)
      = w (ix3 0 r l) :=
  View.read_writes_cons_unit_of_mem v f (off' := ![o, 0, 0]) inb w L (ix3 g r l) (ix3 0 r l) rfl fun a => by
    match a with
    | ⟨0, _⟩ => show g.val = o + 0; omega
    | ⟨1, _⟩ => show r.val = 0 + r.val; omega
    | ⟨2, _⟩ => show l.val = 0 + l.val; omega

/-- A place outside the newest plane reads what the earlier stores left. -/
theorem missPlane {m n k : ℕ} {e : EltTy} (v : View sig κ sp ⟨3, ![m, n, k]⟩ e) (f : v.ty.Contents (Elt F)) (o : ℕ)
    (inb : ∀ a, (![o, 0, 0] : Fin 3 → ℕ) a + (⟨3, ![1, n, k]⟩ : Shape).size a ≤ (⟨3, ![m, n, k]⟩ : Shape).size a)
    (w : (⟨3, ![1, n, k]⟩ : Shape).Idx → Elt F e) (L : List (View.Piece (Elt F) ⟨3, ![m, n, k]⟩ e)) (g : Fin m) (r : Fin n) (l : Fin k)
    (h : g.val ≠ o) :
    v.read (Elt F) (v.writes (Elt F) f (⟨Rect.unit (s := ⟨3, ![m, n, k]⟩) ![o, 0, 0] (⟨3, ![1, n, k]⟩ : Shape).size inb, w⟩ :: L)) (ix3 g r l)
      = v.read (Elt F) (v.writes (Elt F) f L) (ix3 g r l) :=
  View.read_writes_cons_unit_of_not_mem v f (off' := ![o, 0, 0]) inb w L (ix3 g r l) rfl (0 : Fin 3)
    (by show g.val < o ∨ o + 1 ≤ g.val; omega)

/-- A buffer's rows from 240 on hold zeros. -/
def ZeroTailOf (v : View sig κ sp S256x6144 .bf16) (f : v.ty.Contents (Elt F)) : Prop :=
  ∀ j : S256x6144.Idx, 240 ≤ (j 0).val → v.read (Elt F) f j = (Scalar.ofBits .bf16 0x0000#16 : F .bf16)

/-- The three windows landed leave the window of the pool. -/
theorem read_winA (v : View sig κ sp S256x6144 .bf16) (f : v.ty.Contents (Elt F)) (hz : ZeroTailOf v f) (P : Vec F S3x600x6144 .bf16) (st : BitVec 32)
    (d0 d1 d2 : S80x6144.Idx → Elt F .bf16) (h0 h1 h2)
    (e0 : ∀ y, d0 y = P (ix3 0 ⟨((base st).toNat + (y 0).val) % 600, Nat.mod_lt _ (by decide)⟩ (y 1)))
    (e1 : ∀ y, d1 y = P (ix3 1 ⟨((base st).toNat + (y 0).val) % 600, Nat.mod_lt _ (by decide)⟩ (y 1)))
    (e2 : ∀ y, d2 y = P (ix3 2 ⟨((base st).toNat + (y 0).val) % 600, Nat.mod_lt _ (by decide)⟩ (y 1))) :
    v.read (Elt F) (v.writes (Elt F) f
      [⟨Rect.unit (s := S256x6144) ![160, 0] S80x6144.size h2, d2⟩, ⟨Rect.unit (s := S256x6144) ![80, 0] S80x6144.size h1, d1⟩,
        ⟨Rect.unit (s := S256x6144) ![0, 0] S80x6144.size h0, d0⟩]) = winA P st := by
  funext j
  obtain ⟨r, l, rfl⟩ : ∃ (r : Fin 256) (l : Fin 6144), j = ix2 r l := ⟨_, _, eq_ix2 j⟩
  have hj : r.val < 256 := r.isLt
  by_cases hr : r.val < 240
  · refine Eq.trans ?_ (dif_pos hr : winA P st (ix2 r l) = _).symm
    by_cases ha : 160 ≤ r.val
    · refine (hitRows v f 160 h2 d2 _ r l ha (by omega)).trans ?_
      refine (e2 _).trans (congrArg P (ix3_congr (by show 2 = r.val / 80; omega) ?_ rfl))
      show ((base st).toNat + (r.val - 160)) % 600 = ((base st).toNat + r.val % 80) % 600
      rw [show r.val % 80 = r.val - 160 by omega]
    · refine (missRows v f 160 h2 d2 _ r l (Or.inl (by omega))).trans ?_
      by_cases hb : 80 ≤ r.val
      · refine (hitRows v f 80 h1 d1 _ r l hb (by omega)).trans ?_
        refine (e1 _).trans (congrArg P (ix3_congr (by show 1 = r.val / 80; omega) ?_ rfl))
        show ((base st).toNat + (r.val - 80)) % 600 = ((base st).toNat + r.val % 80) % 600
        rw [show r.val % 80 = r.val - 80 by omega]
      · refine (missRows v f 80 h1 d1 _ r l (Or.inl (by omega))).trans ?_
        refine (hitRows v f 0 h0 d0 _ r l (by omega) (by omega)).trans ?_
        refine (e0 _).trans (congrArg P (ix3_congr (by show 0 = r.val / 80; omega) ?_ rfl))
        show ((base st).toNat + (r.val - 0)) % 600 = ((base st).toNat + r.val % 80) % 600
        rw [show r.val % 80 = r.val - 0 by omega]
  · refine Eq.trans ?_ (dif_neg hr : winA P st (ix2 r l) = _).symm
    refine (missRows v f 160 h2 d2 _ r l (Or.inr (by omega))).trans ?_
    refine (missRows v f 80 h1 d1 _ r l (Or.inr (by omega))).trans ?_
    refine (missRows v f 0 h0 d0 _ r l (Or.inr (by omega))).trans ?_
    exact hz (ix2 r l) (by show 240 ≤ r.val; omega)

theorem winA_tail {v : View sig κ sp S256x6144 .bf16} {g : v.ty.Contents (Elt F)} {P : Vec F S3x600x6144 .bf16} {st : BitVec 32}
    (h : v.read (Elt F) g = winA P st) : ZeroTailOf v g := fun j hj => by
  rw [h]; unfold winA; rw [dif_neg (by omega)]

/-- The three planes stored leave the kept activations with the slot's added. -/
theorem read_slotH (v : View sig κ sp S3x768x256 .bf16) (f : v.ty.Contents (Elt F)) (q : Fin 3) (a : FVec F S768x256 .f32)
    (p0 p1 p2 : Vec F S1x768x256 .bf16) (h0 h1 h2)
    (e0 : p0 = put (moved q 0 a) (planeOf 0 (v.read (Elt F) f)))
    (e1 : p1 = put (moved q 1 a) (planeOf 1 (v.read (Elt F) f)))
    (e2 : p2 = put (moved q 2 a) (planeOf 2 (v.read (Elt F) f))) :
    v.read (Elt F) (v.writes (Elt F) f
      [⟨Rect.unit (s := S3x768x256) ![2, 0, 0] S1x768x256.size h2, p2⟩,
        ⟨Rect.unit (s := S3x768x256) ![1, 0, 0] S1x768x256.size h1, p1⟩,
        ⟨Rect.unit (s := S3x768x256) ![0, 0, 0] S1x768x256.size h0, p0⟩]) = slotH q a (v.read (Elt F) f) := by
  subst e0 e1 e2
  funext j
  obtain ⟨g, r, l, rfl⟩ : ∃ g r l, j = ix3 g r l := ⟨_, _, _, eq_ix3 j⟩
  match g with
  | ⟨2, _⟩ => exact hitPlane v f 2 h2 _ _ _ r l rfl
  | ⟨1, _⟩ => exact (missPlane v f 2 h2 _ _ _ r l (by show (1 : ℕ) ≠ 2; decide)).trans (hitPlane v f 1 h1 _ _ _ r l rfl)
  | ⟨0, _⟩ =>
    exact (missPlane v f 2 h2 _ _ _ r l (by show (0 : ℕ) ≠ 2; decide)).trans ((missPlane v f 1 h1 _ _ _ r l (by show (0 : ℕ) ≠ 1; decide)).trans
      (hitPlane v f 0 h0 _ _ _ r l rfl))

/-- A whole buffer stored reads what was stored. -/
theorem read_whole {s : Shape} {e : EltTy} (v : View sig κ sp s e) (f : v.ty.Contents (Elt F))
    (off : Fin s.rank → ℕ) (h0 : ∀ a, off a = 0) (h : ∀ a, off a + s.size a ≤ s.size a) (w : s.Idx → Elt F e)
    (L : List (View.Piece (Elt F) s e)) :
    v.read (Elt F) (v.writes (Elt F) f (⟨Rect.unit off s.size h, w⟩ :: L)) = w := by
  funext y
  exact View.read_writes_cons_unit_of_mem _ _ _ _ _ y y rfl (fun a => by rw [h0]; omega)

end Stores

/-- The payload of a slot's activations, its operands named. -/
theorem act_of {v0 : BitVec 32} {x : Vec F S768x6144 .bf16} {P : Vec F S3x600x6144 .bf16} {T : Tab F} {w st rk lo hi : BitVec 32}
    {x' : Vec F S768x6144 .bf16} {A : Vec F S256x6144 .bf16} {s0 s1 s2 : F .f32}
    (hst : st = T.start (T.seg w.toNat).toNat) (hrk : rk = T.rank (T.seg w.toNat).toNat) (hx : x' = x)
    (hA : A = winA P (T.start (T.seg w.toNat).toNat))
    (h0 : s0 = T.scal (T.seg w.toNat).toNat 0) (h1 : s1 = T.scal (T.seg w.toNat).toNat 1) (h2 : s2 = T.scal (T.seg w.toNat).toNat 2)
    (hlo : lo = T.off w.toNat) (hhi : hi = T.off (Scalar.addi w 1#32).toNat) :
    k0_pay7 v0 (Scalar.subi st (base st)) rk (k0_pay3 x' A) (iota .tc S1x256 32 [1] iota_S1x256_d1_w32) k0_pay4 k0_pay5 s0
      (k0_pay6 s1 s2) lo hi = act v0 x P T w := by
  subst hst hrk hx hA h0 h1 h2 hlo hhi
  rfl

end Cert.KernelIdeal.Hand

end

end
-- ==== Proof.Slots.lean ====
/-
  The work a grid point with column block 0 does for each of its three slots: fetch the segment's window of the first
  pool, multiply the row block with it, and add the scaled, masked products to the kept and to the returned activations.
-/
module

public import proofs.«01_k».proof.Proof.Block

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx

variable (arg2 : Memref sig .tc .smem S6 .i32) (harg2 : arg2.IsWhole) (arg3 : Memref sig .tc .smem S5 .i32) (harg3 : arg3.IsWhole)
  (arg4 : Memref sig .tc .smem S7 .i32) (harg4 : arg4.IsWhole) (arg5 : Memref sig .tc .smem S7 .i32) (harg5 : arg5.IsWhole)
  (arg6 : Memref sig .tc .smem S7x3 .f32) (harg6 : arg6.IsWhole) (arg7 : Memref sig .tc .vmem S768x6144 .bf16) (harg7 : arg7.IsWhole)
  (arg8 : Memref sig .tc .vmem S768x512 .i32) (harg8 : arg8.IsWhole) (arg9 : Memref sig .tc .vmem S48x512 .bf16) (harg9 : arg9.IsWhole)
  (arg12 : Memref sig .tc .vmem S768x512 .bf16) (harg12 : arg12.IsWhole) (arg13 : Memref sig .tc .vmem S768x192 .bf16) (harg13 : arg13.IsWhole)

/-- The tables' words, from their buffers. -/
abbrev tabs (f2 : arg2.view.ty.Contents (Elt F)) (f3 : arg3.view.ty.Contents (Elt F)) (f4 : arg4.view.ty.Contents (Elt F))
    (f5 : arg5.view.ty.Contents (Elt F)) (f6 : arg6.view.ty.Contents (Elt F)) : Tab F :=
  tabOf (arg2.view.read (Elt F) f2) (arg3.view.read (Elt F) f3) (arg4.view.read (Elt F) f4) (arg5.view.read (Elt F) f5)
    (arg6.view.read (Elt F) f6)

/-- How far a segment's window starts before its adapter's first row. -/
def lag (T : Tab F) (w : BitVec 32) : BitVec 32 :=
  Scalar.subi (T.start (T.seg w.toNat).toNat) (base (T.start (T.seg w.toNat).toNat))

/-- What slot 0's stores leave in the kept and in the returned activations. -/
theorem slot0_final {v0 v188 v222 v259 v264 : BitVec 32} {v226 : FVec F S768x256 .f32} {v238 : Elt F .f32} {v247 : FVec F S1x256 .f32}
    {a : FVec F S768x256 .f32} {δ : BitVec 32} (f16 : hBuf.view.ty.Contents (Elt F)) (f13 : arg13.view.ty.Contents (Elt F))
    (h0 h1 h2 r0 r1 r2 hw rw)
    (hδ : v188 = δ) (ha : k0_pay7 v0 v188 v222 v226 (iota .tc S1x256 32 [1] iota_S1x256_d1_w32) k0_pay4 k0_pay5 v238 v247 v259 v264 = a) :
    hBuf.view.read (Elt F) (hBuf.view.writes (Elt F) f16
      [⟨Rect.unit (s := S3x768x256) ![2, 0, 0] S1x768x256.size h2, k0_pay16 k0_pay4 (k0_pay7 v0 v188 v222 v226 (iota .tc S1x256 32 [1] iota_S1x256_d1_w32) k0_pay4 k0_pay5 v238 v247 v259 v264) (hBuf.view.readAt (Elt F) (Rect.unit (s := S3x768x256) ![2, 0, 0] S1x768x256.size r2).toLoadRect f16)⟩,
       ⟨Rect.unit (s := S3x768x256) ![1, 0, 0] S1x768x256.size h1, k0_pay14 k0_pay4 (k0_pay7 v0 v188 v222 v226 (iota .tc S1x256 32 [1] iota_S1x256_d1_w32) k0_pay4 k0_pay5 v238 v247 v259 v264) (hBuf.view.readAt (Elt F) (Rect.unit (s := S3x768x256) ![1, 0, 0] S1x768x256.size r1).toLoadRect f16)⟩,
       ⟨Rect.unit (s := S3x768x256) ![0, 0, 0] S1x768x256.size h0, k0_pay11 (k0_pay10 v0 v188 v222 v226 (iota .tc S1x256 32 [1] iota_S1x256_d1_w32) k0_pay4 k0_pay5 v238 v247 v259 v264 (hBuf.view.readAt (Elt F) (Rect.unit (s := S3x768x256) ![0, 0, 0] S1x768x256.size r0).toLoadRect f16))⟩]) = slotH 0 a (hBuf.view.read (Elt F) f16)
    ∧ arg13.view.read (Elt F) (arg13.view.writes (Elt F) f13
      [⟨Rect.unit (s := S768x192) ![0, 0] S768x192.size hw, k0_pay50 (k0_pay17 v188 k0_pay4 (k0_pay7 v0 v188 v222 v226 (iota .tc S1x256 32 [1] iota_S1x256_d1_w32) k0_pay4 k0_pay5 v238 v247 v259 v264) (k0_pay12 v188 (k0_pay8 (F := F)) (k0_pay9 v0 v188 v222 v226 (iota .tc S1x256 32 [1] iota_S1x256_d1_w32) k0_pay4 k0_pay5 v238 v247 v259 v264)) (k0_pay13 k0_pay4 (k0_pay7 v0 v188 v222 v226 (iota .tc S1x256 32 [1] iota_S1x256_d1_w32) k0_pay4 k0_pay5 v238 v247 v259 v264)) (Scalar.addi (Scalar.subi 4294967280#32 v188) 256#32) (Scalar.select (Scalar.cmpi .eq 256#32 0#32) 1#32 256#32))
        (arg13.view.readAt (Elt F) (Rect.unit (s := S768x192) ![0, 0] S768x192.size rw).toLoadRect f13)⟩]) = slotG δ a (arg13.view.read (Elt F) f13) := by
  subst hδ ha
  refine ⟨read_slotH hBuf.view f16 0 _ _ _ _ h0 h1 h2 ?_ ?_ ?_, (read_whole arg13.view f13 _ (by decide) _ _ _).trans ?_⟩
  · rw [show hBuf.view.readAt (Elt F) (Rect.unit (s := S3x768x256) ![0, 0, 0] S1x768x256.size r0).toLoadRect f16 = _ from rdPlane hBuf f16 0 r0]; rfl
  · rw [show hBuf.view.readAt (Elt F) (Rect.unit (s := S3x768x256) ![1, 0, 0] S1x768x256.size r1).toLoadRect f16 = _ from rdPlane hBuf f16 1 r1]; rfl
  · rw [show hBuf.view.readAt (Elt F) (Rect.unit (s := S3x768x256) ![2, 0, 0] S1x768x256.size r2).toLoadRect f16 = _ from rdPlane hBuf f16 2 r2]; rfl
  · rw [rdWhole arg13.view f13 _ (by decide)]; rfl

/-- What slot 1's stores leave in the kept and in the returned activations. -/
theorem slot1_final {v0 v188 v222 v259 v264 : BitVec 32} {v226 : FVec F S768x256 .f32} {v238 : Elt F .f32} {v247 : FVec F S1x256 .f32}
    {a : FVec F S768x256 .f32} {δ : BitVec 32} (f16 : hBuf.view.ty.Contents (Elt F)) (f13 : arg13.view.ty.Contents (Elt F))
    (h0 h1 h2 r0 r1 r2 hw rw)
    (hδ : v188 = δ) (ha : k0_pay22 v0 v188 v222 v226 (iota .tc S1x256 32 [1] iota_S1x256_d1_w32) k0_pay19 k0_pay20 v238 v247 v259 v264 = a) :
    hBuf.view.read (Elt F) (hBuf.view.writes (Elt F) f16
      [⟨Rect.unit (s := S3x768x256) ![2, 0, 0] S1x768x256.size h2, k0_pay31 k0_pay19 (k0_pay22 v0 v188 v222 v226 (iota .tc S1x256 32 [1] iota_S1x256_d1_w32) k0_pay19 k0_pay20 v238 v247 v259 v264) (hBuf.view.readAt (Elt F) (Rect.unit (s := S3x768x256) ![2, 0, 0] S1x768x256.size r2).toLoadRect f16)⟩,
       ⟨Rect.unit (s := S3x768x256) ![1, 0, 0] S1x768x256.size h1, k0_pay29 k0_pay19 (k0_pay22 v0 v188 v222 v226 (iota .tc S1x256 32 [1] iota_S1x256_d1_w32) k0_pay19 k0_pay20 v238 v247 v259 v264) (hBuf.view.readAt (Elt F) (Rect.unit (s := S3x768x256) ![1, 0, 0] S1x768x256.size r1).toLoadRect f16)⟩,
       ⟨Rect.unit (s := S3x768x256) ![0, 0, 0] S1x768x256.size h0, k0_pay26 (k0_pay25 v0 v188 v222 v226 (iota .tc S1x256 32 [1] iota_S1x256_d1_w32) k0_pay19 k0_pay20 v238 v247 v259 v264 (hBuf.view.readAt (Elt F) (Rect.unit (s := S3x768x256) ![0, 0, 0] S1x768x256.size r0).toLoadRect f16))⟩]) = slotH 1 a (hBuf.view.read (Elt F) f16)
    ∧ arg13.view.read (Elt F) (arg13.view.writes (Elt F) f13
      [⟨Rect.unit (s := S768x192) ![0, 0] S768x192.size hw, k0_pay51 (k0_pay32 v188 k0_pay19 (k0_pay22 v0 v188 v222 v226 (iota .tc S1x256 32 [1] iota_S1x256_d1_w32) k0_pay19 k0_pay20 v238 v247 v259 v264) (k0_pay27 v188 (k0_pay23 (F := F)) (k0_pay24 v0 v188 v222 v226 (iota .tc S1x256 32 [1] iota_S1x256_d1_w32) k0_pay19 k0_pay20 v238 v247 v259 v264)) (k0_pay28 k0_pay19 (k0_pay22 v0 v188 v222 v226 (iota .tc S1x256 32 [1] iota_S1x256_d1_w32) k0_pay19 k0_pay20 v238 v247 v259 v264)) (Scalar.addi (Scalar.subi 4294967280#32 v188) 256#32) (Scalar.select (Scalar.cmpi .eq 256#32 0#32) 1#32 256#32))
        (arg13.view.readAt (Elt F) (Rect.unit (s := S768x192) ![0, 0] S768x192.size rw).toLoadRect f13)⟩]) = slotG δ a (arg13.view.read (Elt F) f13) := by
  subst hδ ha
  refine ⟨read_slotH hBuf.view f16 1 _ _ _ _ h0 h1 h2 ?_ ?_ ?_, (read_whole arg13.view f13 _ (by decide) _ _ _).trans ?_⟩
  · rw [show hBuf.view.readAt (Elt F) (Rect.unit (s := S3x768x256) ![0, 0, 0] S1x768x256.size r0).toLoadRect f16 = _ from rdPlane hBuf f16 0 r0]; rfl
  · rw [show hBuf.view.readAt (Elt F) (Rect.unit (s := S3x768x256) ![1, 0, 0] S1x768x256.size r1).toLoadRect f16 = _ from rdPlane hBuf f16 1 r1]; rfl
  · rw [show hBuf.view.readAt (Elt F) (Rect.unit (s := S3x768x256) ![2, 0, 0] S1x768x256.size r2).toLoadRect f16 = _ from rdPlane hBuf f16 2 r2]; rfl
  · rw [rdWhole arg13.view f13 _ (by decide)]; rfl

/-- What slot 2's stores leave in the kept and in the returned activations. -/
theorem slot2_final {v0 v188 v222 v259 v264 : BitVec 32} {v226 : FVec F S768x256 .f32} {v238 : Elt F .f32} {v247 : FVec F S1x256 .f32}
    {a : FVec F S768x256 .f32} {δ : BitVec 32} (f16 : hBuf.view.ty.Contents (Elt F)) (f13 : arg13.view.ty.Contents (Elt F))
    (h0 h1 h2 r0 r1 r2 hw rw)
    (hδ : v188 = δ) (ha : k0_pay37 v0 v188 v222 v226 (iota .tc S1x256 32 [1] iota_S1x256_d1_w32) k0_pay34 k0_pay35 v238 v247 v259 v264 = a) :
    hBuf.view.read (Elt F) (hBuf.view.writes (Elt F) f16
      [⟨Rect.unit (s := S3x768x256) ![2, 0, 0] S1x768x256.size h2, k0_pay46 k0_pay34 (k0_pay37 v0 v188 v222 v226 (iota .tc S1x256 32 [1] iota_S1x256_d1_w32) k0_pay34 k0_pay35 v238 v247 v259 v264) (hBuf.view.readAt (Elt F) (Rect.unit (s := S3x768x256) ![2, 0, 0] S1x768x256.size r2).toLoadRect f16)⟩,
       ⟨Rect.unit (s := S3x768x256) ![1, 0, 0] S1x768x256.size h1, k0_pay44 k0_pay34 (k0_pay37 v0 v188 v222 v226 (iota .tc S1x256 32 [1] iota_S1x256_d1_w32) k0_pay34 k0_pay35 v238 v247 v259 v264) (hBuf.view.readAt (Elt F) (Rect.unit (s := S3x768x256) ![1, 0, 0] S1x768x256.size r1).toLoadRect f16)⟩,
       ⟨Rect.unit (s := S3x768x256) ![0, 0, 0] S1x768x256.size h0, k0_pay41 (k0_pay40 v0 v188 v222 v226 (iota .tc S1x256 32 [1] iota_S1x256_d1_w32) k0_pay34 k0_pay35 v238 v247 v259 v264 (hBuf.view.readAt (Elt F) (Rect.unit (s := S3x768x256) ![0, 0, 0] S1x768x256.size r0).toLoadRect f16))⟩]) = slotH 2 a (hBuf.view.read (Elt F) f16)
    ∧ arg13.view.read (Elt F) (arg13.view.writes (Elt F) f13
      [⟨Rect.unit (s := S768x192) ![0, 0] S768x192.size hw, k0_pay52 (k0_pay47 v188 k0_pay34 (k0_pay37 v0 v188 v222 v226 (iota .tc S1x256 32 [1] iota_S1x256_d1_w32) k0_pay34 k0_pay35 v238 v247 v259 v264) (k0_pay42 v188 (k0_pay38 (F := F)) (k0_pay39 v0 v188 v222 v226 (iota .tc S1x256 32 [1] iota_S1x256_d1_w32) k0_pay34 k0_pay35 v238 v247 v259 v264)) (k0_pay43 k0_pay34 (k0_pay37 v0 v188 v222 v226 (iota .tc S1x256 32 [1] iota_S1x256_d1_w32) k0_pay34 k0_pay35 v238 v247 v259 v264)) (Scalar.addi (Scalar.subi 4294967280#32 v188) 256#32) 256#32 (Scalar.cmpi .eq 256#32 0#32))
        (arg13.view.readAt (Elt F) (Rect.unit (s := S768x192) ![0, 0] S768x192.size rw).toLoadRect f13)⟩]) = slotG δ a (arg13.view.read (Elt F) f13) := by
  subst hδ ha
  refine ⟨read_slotH hBuf.view f16 2 _ _ _ _ h0 h1 h2 ?_ ?_ ?_, (read_whole arg13.view f13 _ (by decide) _ _ _).trans ?_⟩
  · rw [show hBuf.view.readAt (Elt F) (Rect.unit (s := S3x768x256) ![0, 0, 0] S1x768x256.size r0).toLoadRect f16 = _ from rdPlane hBuf f16 0 r0]; rfl
  · rw [show hBuf.view.readAt (Elt F) (Rect.unit (s := S3x768x256) ![1, 0, 0] S1x768x256.size r1).toLoadRect f16 = _ from rdPlane hBuf f16 1 r1]; rfl
  · rw [show hBuf.view.readAt (Elt F) (Rect.unit (s := S3x768x256) ![2, 0, 0] S1x768x256.size r2).toLoadRect f16 = _ from rdPlane hBuf f16 2 r2]; rfl
  · rw [rdWhole arg13.view f13 _ (by decide)]; rfl

/-- What a grid point does for slot 0. -/
def slot0 (i : grid0.Coords) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 : BitVec 32) (k0_h2 : k0_cond2 i = 1#1) :
    Prog (TpuEff nD τ sig (Elt F) Λ₀ .tc) PUnit := do
  if k0_h3 : k0_cond3 i v6 v9 v12 v13 v27 v30 v33 v34 v48 v51 v54 v55 v69 v72 v75 v76 v90 v93 v96 v97 = 1#1 then do
      let ⟨v184, k0_hw23, v188⟩ : Σ' (v184 : Elt F .i32) (k0_hw23 : k0_chk23 i v6 v9 v12 v13 v27 v30 v33 v34 v48 v51 v54 v55 v69 v72 v75 v76 v90 v93 v96 v97 v184), BitVec 32 ← k0_part4 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v102 k0_h2 k0_h3
      let ⟨v222, v226, v227, v234, v236, v238, v247⟩ : Σ' (v222 : Elt F .i32) (v226 : FVec F S768x256 .f32) (v227 : IVec S1x256 32) (v234 : IVec S1x256 32) (v236 : IVec S1x256 1) (v238 : Elt F .f32), FVec F S1x256 .f32 ← k0_part5 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v102 k0_h2 k0_h3 v184 k0_hw23
      let ⟨v282, v283, v289, v294⟩ : Σ' (v282 : FVec F S768x256 .f32) (v283 : FVec F S768x256 .f32) (v289 : FVec F S768x256 .f32), FVec F S768x256 .bf16 ← k0_part6 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v0 v6 v9 v12 v13 v27 v30 v33 v34 v48 v51 v54 v55 v69 v72 v75 v76 v90 v93 v96 v97 k0_hw21 v102 k0_h2 k0_h3 v188 v222 v226 v227 v234 v236 v238 v247
      let ⟨v311, v317, v328, v330⟩ : Σ' (v311 : FVec F S768x256 .f32) (v317 : FVec F S768x256 .f32) (v328 : BitVec 32), BitVec 32 ← k0_part7 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v283 v289 v294
      let v369 : FVec F S768x256 .f32 ← k0_part8 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v311 v317 v328 v330
      let v370 : Vec F S768x192 .bf16 ← Prog.lift (.load arg13 (Rect.unit (s := S768x192) ![0, 0] S768x192.size inb_S768x192_S768x192_0_0).toLoadRect (View.loadsAt_vmem h_S768x192))
      let v376 : Vec F S768x192 .bf16 ← Prog.lift (.load arg13 (Rect.unit (s := S768x192) ![0, 0] S768x192.size inb_S768x192_S768x192_0_0).toLoadRect (View.loadsAt_vmem h_S768x192))
      Prog.lift (.store arg13 (Rect.unit (s := S768x192) ![0, 0] S768x192.size inb_S768x192_S768x192_0_0) (k0_pay50 v369 v370) Finset.univ (View.stores_vmem h_S768x192 (harg13.storeExact_slice rfl _ packedbf16_S768x192_S768x192_0_0) (fun _ => rfl)) (.inl rfl))
      pure ⟨⟩
  else do
    pure ⟨⟩

set_option sl_exec.dmaWindow true in
theorem slot0_run (c : Dev nD) (i : grid0.Coords) (v0) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102) (k0_h2 : k0_cond2 i = 1#1) (f2 f3 f4 f5 f6 f7 fA f13 f14 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : ZeroTailOf aWin.view f14) :
    iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ pt c arg13 f13 ∗ pt c aWin f14 ∗ pt c hBuf f16
      ∗ idle c 15 ∗ idle c 16 ∗ idle c 17 ∗ owes (c : Thread nD τ) 0 W)
      ⊢ wp frame (wpE (defs₀ (F := F)) Variants.none c none) Set.univ (slot0 (F := F) arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v102 k0_h2)
        (fun _ => iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ idle c 15 ∗ idle c 16 ∗ idle c 17
      ∗ ∃ g13 g14 g16 W', pt c arg13 g13 ∗ pt c aWin g14 ∗ pt c hBuf g16 ∗ owes (c : Thread nD τ) 0 W'
      ∗ ⌜ZeroTailOf aWin.view g14⌝
      ∗ ⌜hBuf.view.read (Elt F) g16 = (if k0_cond3 i v6 v9 v12 v13 v27 v30 v33 v34 v48 v51 v54 v55 v69 v72 v75 v76 v90 v93 v96 v97 = 1#1 then
            slotH 0 (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 0#32)) (hBuf.view.read (Elt F) f16)
            else hBuf.view.read (Elt F) f16)
        ∧ arg13.view.read (Elt F) g13 = (if k0_cond3 i v6 v9 v12 v13 v27 v30 v33 v34 v48 v51 v54 v55 v69 v72 v75 v76 v90 v93 v96 v97 = 1#1 then
            slotG (lag (tabs arg2 arg3 arg4 arg5 arg6 f2 f3 f4 f5 f6) (slotAt i v6 v9 v12 v13 v27 v30 v33 v34 v48 v51 v54 v55 v69 v72 v75 v76 v90 v93 v96 v97 0#32)) (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 0#32)) (arg13.view.read (Elt F) f13)
            else arg13.view.read (Elt F) f13)⌝)) := by
  unfold slot0
  by_cases k0_h3 : k0_cond3 i v6 v9 v12 v13 v27 v30 v33 v34 v48 v51 v54 v55 v69 v72 v75 v76 v90 v93 v96 v97 = 1#1
  · rw [dif_pos k0_h3, if_pos k0_h3, if_pos k0_h3]
    iintro ⟨H2, H3, H4, H5, H6, H7, HA, HA0, HA1, HA2, H13, H14, H16, S0, S1, S2, HO⟩
    sl_exec (disch := first | exact chkIdx' (hd3 _ _) | exact chk23_of (hd4 _ _) | exact chkSeg (hd3 _ _))
    sl_step
    have hseg : ∀ h x, arg3.view.readAt (Elt F) (Rect.unit (s := S5) (k0_off21 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 0#32).toNat :=
      fun h x => rd1 arg3 f3 _ (slotAt i v6 v9 v12 v13 v27 v30 v33 v34 v48 v51 v54 v55 v69 v72 v75 v76 v90 v93 v96 v97 0#32).toNat rfl h (by decide) x
    have hseg' : ∀ h x, arg3.view.readAt (Elt F) (Rect.unit (s := S5) (k0_off26 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 0#32).toNat :=
      fun h x => rd1 arg3 f3 _ (slotAt i v6 v9 v12 v13 v27 v30 v33 v34 v48 v51 v54 v55 v69 v72 v75 v76 v90 v93 v96 v97 0#32).toNat rfl h (by decide) x
    have hlo : ∀ h x, arg2.view.readAt (Elt F) (Rect.unit (s := S6) (k0_off31 i v6 v9 v12 v13 v27 v30 v33 v34 v48 v51 v54 v55 v69 v72 v75 v76 v90 v93 v96 v97) S1.size h).toLoadRect f2 x
        = (tabs arg2 arg3 arg4 arg5 arg6 f2 f3 f4 f5 f6).off (slotAt i v6 v9 v12 v13 v27 v30 v33 v34 v48 v51 v54 v55 v69 v72 v75 v76 v90 v93 v96 v97 0#32).toNat :=
      fun h x => rd1 arg2 f2 _ (slotAt i v6 v9 v12 v13 v27 v30 v33 v34 v48 v51 v54 v55 v69 v72 v75 v76 v90 v93 v96 v97 0#32).toNat rfl h (by decide) x
    have hhi : ∀ h x, arg2.view.readAt (Elt F) (Rect.unit (s := S6) (k0_off32 i v6 v9 v12 v13 v27 v30 v33 v34 v48 v51 v54 v55 v69 v72 v75 v76 v90 v93 v96 v97) S1.size h).toLoadRect f2 x
        = (tabs arg2 arg3 arg4 arg5 arg6 f2 f3 f4 f5 f6).off (Scalar.addi (slotAt i v6 v9 v12 v13 v27 v30 v33 v34 v48 v51 v54 v55 v69 v72 v75 v76 v90 v93 v96 v97 0#32) 1#32).toNat :=
      fun h x => rd1 arg2 f2 _ (Scalar.addi (slotAt i v6 v9 v12 v13 v27 v30 v33 v34 v48 v51 v54 v55 v69 v72 v75 v76 v90 v93 v96 v97 0#32) 1#32).toNat rfl h (by decide) x
    have hst : ∀ v, v = (tabs arg2 arg3 arg4 arg5 arg6 f2 f3 f4 f5 f6).seg (slotAt i v6 v9 v12 v13 v27 v30 v33 v34 v48 v51 v54 v55 v69 v72 v75 v76 v90 v93 v96 v97 0#32).toNat →
        ∀ h x, arg4.view.readAt (Elt F) (Rect.unit (s := S7) (k0_off22 v) S1.size h).toLoadRect f4 x
        = (tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 0#32).toNat).toNat :=
      fun v hv h x => rd1 arg4 f4 _ ((tabs arg2 arg3 arg4 arg5 arg6 f2 f3 f4 f5 f6).seg (slotAt i v6 v9 v12 v13 v27 v30 v33 v34 v48 v51 v54 v55 v69 v72 v75 v76 v90 v93 v96 v97 0#32).toNat).toNat (congrArg BitVec.toNat hv) h (by decide) x
    have hrk : ∀ v, v = (tabs arg2 arg3 arg4 arg5 arg6 f2 f3 f4 f5 f6).seg (slotAt i v6 v9 v12 v13 v27 v30 v33 v34 v48 v51 v54 v55 v69 v72 v75 v76 v90 v93 v96 v97 0#32).toNat →
        ∀ h x, arg5.view.readAt (Elt F) (Rect.unit (s := S7) (k0_off27 v) S1.size h).toLoadRect f5 x
        = (tabs arg2 arg3 arg4 arg5 arg6 f2 f3 f4 f5 f6).rank ((tabs arg2 arg3 arg4 arg5 arg6 f2 f3 f4 f5 f6).seg (slotAt i v6 v9 v12 v13 v27 v30 v33 v34 v48 v51 v54 v55 v69 v72 v75 v76 v90 v93 v96 v97 0#32).toNat).toNat :=
      fun v hv h x => rd1 arg5 f5 _ ((tabs arg2 arg3 arg4 arg5 arg6 f2 f3 f4 f5 f6).seg (slotAt i v6 v9 v12 v13 v27 v30 v33 v34 v48 v51 v54 v55 v69 v72 v75 v76 v90 v93 v96 v97 0#32).toNat).toNat (congrArg BitVec.toNat hv) h (by decide) x
    have hs0 : ∀ v, v = (tabs arg2 arg3 arg4 arg5 arg6 f2 f3 f4 f5 f6).seg (slotAt i v6 v9 v12 v13 v27 v30 v33 v34 v48 v51 v54 v55 v69 v72 v75 v76 v90 v93 v96 v97 0#32).toNat →
        ∀ h x, arg6.view.readAt (Elt F) (Rect.unit (s := S7x3) (k0_off28 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 0#32).toNat).toNat 0 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 0#32).toNat).toNat 0 (congrArg BitVec.toNat hv) rfl h x
    have hs1 : ∀ v, v = (tabs arg2 arg3 arg4 arg5 arg6 f2 f3 f4 f5 f6).seg (slotAt i v6 v9 v12 v13 v27 v30 v33 v34 v48 v51 v54 v55 v69 v72 v75 v76 v90 v93 v96 v97 0#32).toNat →
        ∀ h x, arg6.view.readAt (Elt F) (Rect.unit (s := S7x3) (k0_off29 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 0#32).toNat).toNat 1 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 0#32).toNat).toNat 1 (congrArg BitVec.toNat hv) rfl h x
    have hs2 : ∀ v, v = (tabs arg2 arg3 arg4 arg5 arg6 f2 f3 f4 f5 f6).seg (slotAt i v6 v9 v12 v13 v27 v30 v33 v34 v48 v51 v54 v55 v69 v72 v75 v76 v90 v93 v96 v97 0#32).toNat →
        ∀ h x, arg6.view.readAt (Elt F) (Rect.unit (s := S7x3) (k0_off30 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 0#32).toNat).toNat 2 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 0#32).toNat).toNat 2 (congrArg BitVec.toNat hv) rfl h x
    have hA := fun d0 d1 d2 h0 h1 h2 => read_winA aWin.view f14 hz (poolA.view.read (Elt F) fA)
      ((tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 0#32).toNat).toNat) d0 d1 d2 h0 h1 h2
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists _, _, _, _
    isplitl [H13]; · iexact H13
    isplitl [H14]; · iexact H14
    isplitl [H16]; · iexact H16
    isplitl [HO]; · iexact HO
    have e0 := fun v st (hv : v = st) h hs hq y => rdPoolA fA (k0_off23 v) 0 (base st).toNat (congrArg k0_off23 hv) h hs hq y
    have e1 := fun v st (hv : v = st) h hs hq y => rdPoolA fA (k0_off24 v) 1 (base st).toNat (congrArg k0_off24 hv) h hs hq y
    have e2 := fun v st (hv : v = st) h hs hq y => rdPoolA fA (k0_off25 v) 2 (base st).toNat (congrArg k0_off25 hv) h hs hq y
    isplitr
    · ipureintro
      exact winA_tail (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y))
    ipureintro
    refine slot0_final arg13 f16 f13 _ _ _ _ _ _ _ _ ?_ ?_
    · exact congrArg (fun w => Scalar.subi w (base w)) (hst _ (hseg _ _) _ _)
    · exact act_of (hst _ (hseg _ _) _ _) (hrk _ (hseg' _ _) _ _) (rdWhole arg7.view f7 ![0, 0] (by decide) _)
        ((rdWhole aWin.view _ ![0, 0] (by decide) _).trans (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y)))
        (hs0 _ (hseg' _ _) _ _) (hs1 _ (hseg' _ _) _ _) (hs2 _ (hseg' _ _) _ _) (hlo _ _) (hhi _ _)
  · rw [dif_neg k0_h3, if_neg k0_h3, if_neg k0_h3]
    iintro ⟨H2, H3, H4, H5, H6, H7, HA, HA0, HA1, HA2, H13, H14, H16, S0, S1, S2, HO⟩
    sl_step
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists f13, f14, f16, W
    isplitl [H13]; · iexact H13
    isplitl [H14]; · iexact H14
    isplitl [H16]; · iexact H16
    isplitl [HO]; · iexact HO
    isplitr; · ipureintro; exact hz
    ipureintro
    exact ⟨rfl, rfl⟩

/-- What a grid point does for slot 1. -/
def slot1 (i : grid0.Coords) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v105 : BitVec 32) (k0_h2 : k0_cond2 i = 1#1) :
    Prog (TpuEff nD τ sig (Elt F) Λ₀ .tc) PUnit := do
  if k0_h4 : k0_cond4 i v6 v9 v12 v13 v27 v30 v33 v34 v48 v51 v54 v55 v69 v72 v75 v76 v90 v93 v96 v97 = 1#1 then do
      let ⟨v184, k0_hw26, v188⟩ : Σ' (v184 : Elt F .i32) (k0_hw26 : k0_chk26 i v6 v9 v12 v13 v27 v30 v33 v34 v48 v51 v54 v55 v69 v72 v75 v76 v90 v93 v96 v97 v184), BitVec 32 ← k0_part9 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v105 k0_h2 k0_h4
      let ⟨v222, v226, v227, v234, v236, v238, v247⟩ : Σ' (v222 : Elt F .i32) (v226 : FVec F S768x256 .f32) (v227 : IVec S1x256 32) (v234 : IVec S1x256 32) (v236 : IVec S1x256 1) (v238 : Elt F .f32), FVec F S1x256 .f32 ← k0_part10 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v105 k0_h2 k0_h4 v184 k0_hw26
      let ⟨v282, v283, v289, v295⟩ : Σ' (v282 : FVec F S768x256 .f32) (v283 : FVec F S768x256 .f32) (v289 : FVec F S768x256 .f32), FVec F S768x256 .bf16 ← k0_part11 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v0 v6 v9 v12 v13 v27 v30 v33 v34 v48 v51 v54 v55 v69 v72 v75 v76 v90 v93 v96 v97 k0_hw21 v105 k0_h2 k0_h4 v188 v222 v226 v227 v234 v236 v238 v247
      let ⟨v312, v318, v328, v330⟩ : Σ' (v312 : FVec F S768x256 .f32) (v318 : FVec F S768x256 .f32) (v328 : BitVec 32), BitVec 32 ← k0_part12 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v283 v289 v295
      let v369 : FVec F S768x256 .f32 ← k0_part13 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v312 v318 v328 v330
      let v370 : Vec F S768x192 .bf16 ← Prog.lift (.load arg13 (Rect.unit (s := S768x192) ![0, 0] S768x192.size inb_S768x192_S768x192_0_0).toLoadRect (View.loadsAt_vmem h_S768x192))
      let v376 : Vec F S768x192 .bf16 ← Prog.lift (.load arg13 (Rect.unit (s := S768x192) ![0, 0] S768x192.size inb_S768x192_S768x192_0_0).toLoadRect (View.loadsAt_vmem h_S768x192))
      Prog.lift (.store arg13 (Rect.unit (s := S768x192) ![0, 0] S768x192.size inb_S768x192_S768x192_0_0) (k0_pay51 v369 v370) Finset.univ (View.stores_vmem h_S768x192 (harg13.storeExact_slice rfl _ packedbf16_S768x192_S768x192_0_0) (fun _ => rfl)) (.inl rfl))
      pure ⟨⟩
  else do
    pure ⟨⟩

set_option sl_exec.dmaWindow true in
theorem slot1_run (c : Dev nD) (i : grid0.Coords) (v0) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v105) (k0_h2 : k0_cond2 i = 1#1) (f2 f3 f4 f5 f6 f7 fA f13 f14 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : ZeroTailOf aWin.view f14) :
    iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ pt c arg13 f13 ∗ pt c aWin f14 ∗ pt c hBuf f16
      ∗ idle c 15 ∗ idle c 16 ∗ idle c 17 ∗ owes (c : Thread nD τ) 0 W)
      ⊢ wp frame (wpE (defs₀ (F := F)) Variants.none c none) Set.univ (slot1 (F := F) arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v105 k0_h2)
        (fun _ => iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ idle c 15 ∗ idle c 16 ∗ idle c 17
      ∗ ∃ g13 g14 g16 W', pt c arg13 g13 ∗ pt c aWin g14 ∗ pt c hBuf g16 ∗ owes (c : Thread nD τ) 0 W'
      ∗ ⌜ZeroTailOf aWin.view g14⌝
      ∗ ⌜hBuf.view.read (Elt F) g16 = (if k0_cond4 i v6 v9 v12 v13 v27 v30 v33 v34 v48 v51 v54 v55 v69 v72 v75 v76 v90 v93 v96 v97 = 1#1 then
            slotH 1 (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 1#32)) (hBuf.view.read (Elt F) f16)
            else hBuf.view.read (Elt F) f16)
        ∧ arg13.view.read (Elt F) g13 = (if k0_cond4 i v6 v9 v12 v13 v27 v30 v33 v34 v48 v51 v54 v55 v69 v72 v75 v76 v90 v93 v96 v97 = 1#1 then
            slotG (lag (tabs arg2 arg3 arg4 arg5 arg6 f2 f3 f4 f5 f6) (slotAt i v6 v9 v12 v13 v27 v30 v33 v34 v48 v51 v54 v55 v69 v72 v75 v76 v90 v93 v96 v97 1#32)) (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 1#32)) (arg13.view.read (Elt F) f13)
            else arg13.view.read (Elt F) f13)⌝)) := by
  unfold slot1
  by_cases k0_h4 : k0_cond4 i v6 v9 v12 v13 v27 v30 v33 v34 v48 v51 v54 v55 v69 v72 v75 v76 v90 v93 v96 v97 = 1#1
  · rw [dif_pos k0_h4, if_pos k0_h4, if_pos k0_h4]
    iintro ⟨H2, H3, H4, H5, H6, H7, HA, HA0, HA1, HA2, H13, H14, H16, S0, S1, S2, HO⟩
    sl_exec (disch := first | exact chkIdx' (hd3 _ _) | exact chk26_of (hd4 _ _) | exact chkSeg (hd3 _ _))
    sl_step
    have hseg : ∀ h x, arg3.view.readAt (Elt F) (Rect.unit (s := S5) (k0_off33 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 1#32).toNat :=
      fun h x => rd1 arg3 f3 _ (slotAt i v6 v9 v12 v13 v27 v30 v33 v34 v48 v51 v54 v55 v69 v72 v75 v76 v90 v93 v96 v97 1#32).toNat rfl h (by decide) x
    have hseg' : ∀ h x, arg3.view.readAt (Elt F) (Rect.unit (s := S5) (k0_off38 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 1#32).toNat :=
      fun h x => rd1 arg3 f3 _ (slotAt i v6 v9 v12 v13 v27 v30 v33 v34 v48 v51 v54 v55 v69 v72 v75 v76 v90 v93 v96 v97 1#32).toNat rfl h (by decide) x
    have hlo : ∀ h x, arg2.view.readAt (Elt F) (Rect.unit (s := S6) (k0_off43 i v6 v9 v12 v13 v27 v30 v33 v34 v48 v51 v54 v55 v69 v72 v75 v76 v90 v93 v96 v97) S1.size h).toLoadRect f2 x
        = (tabs arg2 arg3 arg4 arg5 arg6 f2 f3 f4 f5 f6).off (slotAt i v6 v9 v12 v13 v27 v30 v33 v34 v48 v51 v54 v55 v69 v72 v75 v76 v90 v93 v96 v97 1#32).toNat :=
      fun h x => rd1 arg2 f2 _ (slotAt i v6 v9 v12 v13 v27 v30 v33 v34 v48 v51 v54 v55 v69 v72 v75 v76 v90 v93 v96 v97 1#32).toNat rfl h (by decide) x
    have hhi : ∀ h x, arg2.view.readAt (Elt F) (Rect.unit (s := S6) (k0_off44 i v6 v9 v12 v13 v27 v30 v33 v34 v48 v51 v54 v55 v69 v72 v75 v76 v90 v93 v96 v97) S1.size h).toLoadRect f2 x
        = (tabs arg2 arg3 arg4 arg5 arg6 f2 f3 f4 f5 f6).off (Scalar.addi (slotAt i v6 v9 v12 v13 v27 v30 v33 v34 v48 v51 v54 v55 v69 v72 v75 v76 v90 v93 v96 v97 1#32) 1#32).toNat :=
      fun h x => rd1 arg2 f2 _ (Scalar.addi (slotAt i v6 v9 v12 v13 v27 v30 v33 v34 v48 v51 v54 v55 v69 v72 v75 v76 v90 v93 v96 v97 1#32) 1#32).toNat rfl h (by decide) x
    have hst : ∀ v, v = (tabs arg2 arg3 arg4 arg5 arg6 f2 f3 f4 f5 f6).seg (slotAt i v6 v9 v12 v13 v27 v30 v33 v34 v48 v51 v54 v55 v69 v72 v75 v76 v90 v93 v96 v97 1#32).toNat →
        ∀ h x, arg4.view.readAt (Elt F) (Rect.unit (s := S7) (k0_off34 v) S1.size h).toLoadRect f4 x
        = (tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 1#32).toNat).toNat :=
      fun v hv h x => rd1 arg4 f4 _ ((tabs arg2 arg3 arg4 arg5 arg6 f2 f3 f4 f5 f6).seg (slotAt i v6 v9 v12 v13 v27 v30 v33 v34 v48 v51 v54 v55 v69 v72 v75 v76 v90 v93 v96 v97 1#32).toNat).toNat (congrArg BitVec.toNat hv) h (by decide) x
    have hrk : ∀ v, v = (tabs arg2 arg3 arg4 arg5 arg6 f2 f3 f4 f5 f6).seg (slotAt i v6 v9 v12 v13 v27 v30 v33 v34 v48 v51 v54 v55 v69 v72 v75 v76 v90 v93 v96 v97 1#32).toNat →
        ∀ h x, arg5.view.readAt (Elt F) (Rect.unit (s := S7) (k0_off39 v) S1.size h).toLoadRect f5 x
        = (tabs arg2 arg3 arg4 arg5 arg6 f2 f3 f4 f5 f6).rank ((tabs arg2 arg3 arg4 arg5 arg6 f2 f3 f4 f5 f6).seg (slotAt i v6 v9 v12 v13 v27 v30 v33 v34 v48 v51 v54 v55 v69 v72 v75 v76 v90 v93 v96 v97 1#32).toNat).toNat :=
      fun v hv h x => rd1 arg5 f5 _ ((tabs arg2 arg3 arg4 arg5 arg6 f2 f3 f4 f5 f6).seg (slotAt i v6 v9 v12 v13 v27 v30 v33 v34 v48 v51 v54 v55 v69 v72 v75 v76 v90 v93 v96 v97 1#32).toNat).toNat (congrArg BitVec.toNat hv) h (by decide) x
    have hs0 : ∀ v, v = (tabs arg2 arg3 arg4 arg5 arg6 f2 f3 f4 f5 f6).seg (slotAt i v6 v9 v12 v13 v27 v30 v33 v34 v48 v51 v54 v55 v69 v72 v75 v76 v90 v93 v96 v97 1#32).toNat →
        ∀ h x, arg6.view.readAt (Elt F) (Rect.unit (s := S7x3) (k0_off40 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 1#32).toNat).toNat 0 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 1#32).toNat).toNat 0 (congrArg BitVec.toNat hv) rfl h x
    have hs1 : ∀ v, v = (tabs arg2 arg3 arg4 arg5 arg6 f2 f3 f4 f5 f6).seg (slotAt i v6 v9 v12 v13 v27 v30 v33 v34 v48 v51 v54 v55 v69 v72 v75 v76 v90 v93 v96 v97 1#32).toNat →
        ∀ h x, arg6.view.readAt (Elt F) (Rect.unit (s := S7x3) (k0_off41 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 1#32).toNat).toNat 1 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 1#32).toNat).toNat 1 (congrArg BitVec.toNat hv) rfl h x
    have hs2 : ∀ v, v = (tabs arg2 arg3 arg4 arg5 arg6 f2 f3 f4 f5 f6).seg (slotAt i v6 v9 v12 v13 v27 v30 v33 v34 v48 v51 v54 v55 v69 v72 v75 v76 v90 v93 v96 v97 1#32).toNat →
        ∀ h x, arg6.view.readAt (Elt F) (Rect.unit (s := S7x3) (k0_off42 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 1#32).toNat).toNat 2 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 1#32).toNat).toNat 2 (congrArg BitVec.toNat hv) rfl h x
    have hA := fun d0 d1 d2 h0 h1 h2 => read_winA aWin.view f14 hz (poolA.view.read (Elt F) fA)
      ((tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 1#32).toNat).toNat) d0 d1 d2 h0 h1 h2
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists _, _, _, _
    isplitl [H13]; · iexact H13
    isplitl [H14]; · iexact H14
    isplitl [H16]; · iexact H16
    isplitl [HO]; · iexact HO
    have e0 := fun v st (hv : v = st) h hs hq y => rdPoolA fA (k0_off35 v) 0 (base st).toNat (congrArg k0_off35 hv) h hs hq y
    have e1 := fun v st (hv : v = st) h hs hq y => rdPoolA fA (k0_off36 v) 1 (base st).toNat (congrArg k0_off36 hv) h hs hq y
    have e2 := fun v st (hv : v = st) h hs hq y => rdPoolA fA (k0_off37 v) 2 (base st).toNat (congrArg k0_off37 hv) h hs hq y
    isplitr
    · ipureintro
      exact winA_tail (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y))
    ipureintro
    refine slot1_final arg13 f16 f13 _ _ _ _ _ _ _ _ ?_ ?_
    · exact congrArg (fun w => Scalar.subi w (base w)) (hst _ (hseg _ _) _ _)
    · exact act_of (hst _ (hseg _ _) _ _) (hrk _ (hseg' _ _) _ _) (rdWhole arg7.view f7 ![0, 0] (by decide) _)
        ((rdWhole aWin.view _ ![0, 0] (by decide) _).trans (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y)))
        (hs0 _ (hseg' _ _) _ _) (hs1 _ (hseg' _ _) _ _) (hs2 _ (hseg' _ _) _ _) (hlo _ _) (hhi _ _)
  · rw [dif_neg k0_h4, if_neg k0_h4, if_neg k0_h4]
    iintro ⟨H2, H3, H4, H5, H6, H7, HA, HA0, HA1, HA2, H13, H14, H16, S0, S1, S2, HO⟩
    sl_step
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists f13, f14, f16, W
    isplitl [H13]; · iexact H13
    isplitl [H14]; · iexact H14
    isplitl [H16]; · iexact H16
    isplitl [HO]; · iexact HO
    isplitr; · ipureintro; exact hz
    ipureintro
    exact ⟨rfl, rfl⟩

/-- What a grid point does for slot 2. -/
def slot2 (i : grid0.Coords) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v108 : BitVec 32) (k0_h2 : k0_cond2 i = 1#1) :
    Prog (TpuEff nD τ sig (Elt F) Λ₀ .tc) PUnit := do
  if k0_h5 : k0_cond5 i v6 v9 v12 v13 v27 v30 v33 v34 v48 v51 v54 v55 v69 v72 v75 v76 v90 v93 v96 v97 = 1#1 then do
      let ⟨v184, k0_hw29, v188⟩ : Σ' (v184 : Elt F .i32) (k0_hw29 : k0_chk29 i v6 v9 v12 v13 v27 v30 v33 v34 v48 v51 v54 v55 v69 v72 v75 v76 v90 v93 v96 v97 v184), BitVec 32 ← k0_part14 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v108 k0_h2 k0_h5
      let ⟨v222, v226, v227, v234, v236, v238, v247⟩ : Σ' (v222 : Elt F .i32) (v226 : FVec F S768x256 .f32) (v227 : IVec S1x256 32) (v234 : IVec S1x256 32) (v236 : IVec S1x256 1) (v238 : Elt F .f32), FVec F S1x256 .f32 ← k0_part15 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v6 v9 v12 v13 v27 v30 v33 v34 v48 v51 v54 v55 v69 v72 v75 v76 v90 v93 v96 v97 k0_hw21 v108 k0_h2 k0_h5 v184 k0_hw29
      let ⟨v282, v283, v289, v295⟩ : Σ' (v282 : FVec F S768x256 .f32) (v283 : FVec F S768x256 .f32) (v289 : FVec F S768x256 .f32), FVec F S768x256 .bf16 ← k0_part16 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v0 v6 v9 v12 v13 v27 v30 v33 v34 v48 v51 v54 v55 v69 v72 v75 v76 v90 v93 v96 v97 k0_hw21 v108 k0_h2 k0_h5 v188 v222 v226 v227 v234 v236 v238 v247
      let ⟨v312, v318, v329, c256_i32_162, v330⟩ : Σ' (v312 : FVec F S768x256 .f32) (v318 : FVec F S768x256 .f32) (v329 : BitVec 32) (c256_i32_162 : BitVec 32), BitVec 1 ← k0_part17 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v283 v289 v295
      let v369 : FVec F S768x256 .f32 ← k0_part18 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v188 v234 v282 v312 v318 v329 c256_i32_162 v330
      let v370 : Vec F S768x192 .bf16 ← Prog.lift (.load arg13 (Rect.unit (s := S768x192) ![0, 0] S768x192.size inb_S768x192_S768x192_0_0).toLoadRect (View.loadsAt_vmem h_S768x192))
      let v376 : Vec F S768x192 .bf16 ← Prog.lift (.load arg13 (Rect.unit (s := S768x192) ![0, 0] S768x192.size inb_S768x192_S768x192_0_0).toLoadRect (View.loadsAt_vmem h_S768x192))
      Prog.lift (.store arg13 (Rect.unit (s := S768x192) ![0, 0] S768x192.size inb_S768x192_S768x192_0_0) (k0_pay52 v369 v370) Finset.univ (View.stores_vmem h_S768x192 (harg13.storeExact_slice rfl _ packedbf16_S768x192_S768x192_0_0) (fun _ => rfl)) (.inl rfl))
      pure ⟨⟩
  else do
    pure ⟨⟩

set_option sl_exec.dmaWindow true in
theorem slot2_run (c : Dev nD) (i : grid0.Coords) (v0) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v108) (k0_h2 : k0_cond2 i = 1#1) (f2 f3 f4 f5 f6 f7 fA f13 f14 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : ZeroTailOf aWin.view f14) :
    iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ pt c arg13 f13 ∗ pt c aWin f14 ∗ pt c hBuf f16
      ∗ idle c 15 ∗ idle c 16 ∗ idle c 17 ∗ owes (c : Thread nD τ) 0 W)
      ⊢ wp frame (wpE (defs₀ (F := F)) Variants.none c none) Set.univ (slot2 (F := F) arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v108 k0_h2)
        (fun _ => iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ idle c 15 ∗ idle c 16 ∗ idle c 17
      ∗ ∃ g13 g14 g16 W', pt c arg13 g13 ∗ pt c aWin g14 ∗ pt c hBuf g16 ∗ owes (c : Thread nD τ) 0 W'
      ∗ ⌜ZeroTailOf aWin.view g14⌝
      ∗ ⌜hBuf.view.read (Elt F) g16 = (if k0_cond5 i v6 v9 v12 v13 v27 v30 v33 v34 v48 v51 v54 v55 v69 v72 v75 v76 v90 v93 v96 v97 = 1#1 then
            slotH 2 (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 2#32)) (hBuf.view.read (Elt F) f16)
            else hBuf.view.read (Elt F) f16)
        ∧ arg13.view.read (Elt F) g13 = (if k0_cond5 i v6 v9 v12 v13 v27 v30 v33 v34 v48 v51 v54 v55 v69 v72 v75 v76 v90 v93 v96 v97 = 1#1 then
            slotG (lag (tabs arg2 arg3 arg4 arg5 arg6 f2 f3 f4 f5 f6) (slotAt i v6 v9 v12 v13 v27 v30 v33 v34 v48 v51 v54 v55 v69 v72 v75 v76 v90 v93 v96 v97 2#32)) (act v0 (arg7.view.read (Elt F) f7) (poolA.view.read (Elt F) fA) (tabs arg2 arg3 arg4 arg5 arg6 f2 f3 f4 f5 f6) (slotAt i v6 v9 v12 v13 v27 v30 v33 v34 v48 v51 v54 v55 v69 v72 v75 v76 v90 v93 v96 v97 2#32)) (arg13.view.read (Elt F) f13)
            else arg13.view.read (Elt F) f13)⌝)) := by
  unfold slot2
  by_cases k0_h5 : k0_cond5 i v6 v9 v12 v13 v27 v30 v33 v34 v48 v51 v54 v55 v69 v72 v75 v76 v90 v93 v96 v97 = 1#1
  · rw [dif_pos k0_h5, if_pos k0_h5, if_pos k0_h5]
    iintro ⟨H2, H3, H4, H5, H6, H7, HA, HA0, HA1, HA2, H13, H14, H16, S0, S1, S2, HO⟩
    sl_exec (disch := first | exact chkIdx' (hd3 _ _) | exact chk29_of (hd4 _ _) | exact chkSeg (hd3 _ _))
    sl_step
    have hseg : ∀ h x, arg3.view.readAt (Elt F) (Rect.unit (s := S5) (k0_off45 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 2#32).toNat :=
      fun h x => rd1 arg3 f3 _ (slotAt i v6 v9 v12 v13 v27 v30 v33 v34 v48 v51 v54 v55 v69 v72 v75 v76 v90 v93 v96 v97 2#32).toNat rfl h (by decide) x
    have hseg' : ∀ h x, arg3.view.readAt (Elt F) (Rect.unit (s := S5) (k0_off50 i v6 v9 v12 v13 v27 v30 v33 v34 v48 v51 v54 v55 v69 v72 v75 v76 v90 v93 v96 v97) S1.size h).toLoadRect f3 x
        = (tabs arg2 arg3 arg4 arg5 arg6 f2 f3 f4 f5 f6).seg (slotAt i v6 v9 v12 v13 v27 v30 v33 v34 v48 v51 v54 v55 v69 v72 v75 v76 v90 v93 v96 v97 2#32).toNat :=
      fun h x => rd1 arg3 f3 _ (slotAt i v6 v9 v12 v13 v27 v30 v33 v34 v48 v51 v54 v55 v69 v72 v75 v76 v90 v93 v96 v97 2#32).toNat rfl h (by decide) x
    have hlo : ∀ h x, arg2.view.readAt (Elt F) (Rect.unit (s := S6) (k0_off55 i v6 v9 v12 v13 v27 v30 v33 v34 v48 v51 v54 v55 v69 v72 v75 v76 v90 v93 v96 v97) S1.size h).toLoadRect f2 x
        = (tabs arg2 arg3 arg4 arg5 arg6 f2 f3 f4 f5 f6).off (slotAt i v6 v9 v12 v13 v27 v30 v33 v34 v48 v51 v54 v55 v69 v72 v75 v76 v90 v93 v96 v97 2#32).toNat :=
      fun h x => rd1 arg2 f2 _ (slotAt i v6 v9 v12 v13 v27 v30 v33 v34 v48 v51 v54 v55 v69 v72 v75 v76 v90 v93 v96 v97 2#32).toNat rfl h (by decide) x
    have hhi : ∀ h x, arg2.view.readAt (Elt F) (Rect.unit (s := S6) (k0_off56 i v6 v9 v12 v13 v27 v30 v33 v34 v48 v51 v54 v55 v69 v72 v75 v76 v90 v93 v96 v97) S1.size h).toLoadRect f2 x
        = (tabs arg2 arg3 arg4 arg5 arg6 f2 f3 f4 f5 f6).off (Scalar.addi (slotAt i v6 v9 v12 v13 v27 v30 v33 v34 v48 v51 v54 v55 v69 v72 v75 v76 v90 v93 v96 v97 2#32) 1#32).toNat :=
      fun h x => rd1 arg2 f2 _ (Scalar.addi (slotAt i v6 v9 v12 v13 v27 v30 v33 v34 v48 v51 v54 v55 v69 v72 v75 v76 v90 v93 v96 v97 2#32) 1#32).toNat rfl h (by decide) x
    have hst : ∀ v, v = (tabs arg2 arg3 arg4 arg5 arg6 f2 f3 f4 f5 f6).seg (slotAt i v6 v9 v12 v13 v27 v30 v33 v34 v48 v51 v54 v55 v69 v72 v75 v76 v90 v93 v96 v97 2#32).toNat →
        ∀ h x, arg4.view.readAt (Elt F) (Rect.unit (s := S7) (k0_off46 v) S1.size h).toLoadRect f4 x
        = (tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 2#32).toNat).toNat :=
      fun v hv h x => rd1 arg4 f4 _ ((tabs arg2 arg3 arg4 arg5 arg6 f2 f3 f4 f5 f6).seg (slotAt i v6 v9 v12 v13 v27 v30 v33 v34 v48 v51 v54 v55 v69 v72 v75 v76 v90 v93 v96 v97 2#32).toNat).toNat (congrArg BitVec.toNat hv) h (by decide) x
    have hrk : ∀ v, v = (tabs arg2 arg3 arg4 arg5 arg6 f2 f3 f4 f5 f6).seg (slotAt i v6 v9 v12 v13 v27 v30 v33 v34 v48 v51 v54 v55 v69 v72 v75 v76 v90 v93 v96 v97 2#32).toNat →
        ∀ h x, arg5.view.readAt (Elt F) (Rect.unit (s := S7) (k0_off51 v) S1.size h).toLoadRect f5 x
        = (tabs arg2 arg3 arg4 arg5 arg6 f2 f3 f4 f5 f6).rank ((tabs arg2 arg3 arg4 arg5 arg6 f2 f3 f4 f5 f6).seg (slotAt i v6 v9 v12 v13 v27 v30 v33 v34 v48 v51 v54 v55 v69 v72 v75 v76 v90 v93 v96 v97 2#32).toNat).toNat :=
      fun v hv h x => rd1 arg5 f5 _ ((tabs arg2 arg3 arg4 arg5 arg6 f2 f3 f4 f5 f6).seg (slotAt i v6 v9 v12 v13 v27 v30 v33 v34 v48 v51 v54 v55 v69 v72 v75 v76 v90 v93 v96 v97 2#32).toNat).toNat (congrArg BitVec.toNat hv) h (by decide) x
    have hs0 : ∀ v, v = (tabs arg2 arg3 arg4 arg5 arg6 f2 f3 f4 f5 f6).seg (slotAt i v6 v9 v12 v13 v27 v30 v33 v34 v48 v51 v54 v55 v69 v72 v75 v76 v90 v93 v96 v97 2#32).toNat →
        ∀ h x, arg6.view.readAt (Elt F) (Rect.unit (s := S7x3) (k0_off52 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 2#32).toNat).toNat 0 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 2#32).toNat).toNat 0 (congrArg BitVec.toNat hv) rfl h x
    have hs1 : ∀ v, v = (tabs arg2 arg3 arg4 arg5 arg6 f2 f3 f4 f5 f6).seg (slotAt i v6 v9 v12 v13 v27 v30 v33 v34 v48 v51 v54 v55 v69 v72 v75 v76 v90 v93 v96 v97 2#32).toNat →
        ∀ h x, arg6.view.readAt (Elt F) (Rect.unit (s := S7x3) (k0_off53 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 2#32).toNat).toNat 1 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 2#32).toNat).toNat 1 (congrArg BitVec.toNat hv) rfl h x
    have hs2 : ∀ v, v = (tabs arg2 arg3 arg4 arg5 arg6 f2 f3 f4 f5 f6).seg (slotAt i v6 v9 v12 v13 v27 v30 v33 v34 v48 v51 v54 v55 v69 v72 v75 v76 v90 v93 v96 v97 2#32).toNat →
        ∀ h x, arg6.view.readAt (Elt F) (Rect.unit (s := S7x3) (k0_off54 v) S1x1.size h).toLoadRect f6 x
        = (tabs arg2 arg3 arg4 arg5 arg6 f2 f3 f4 f5 f6).scal ((tabs arg2 arg3 arg4 arg5 arg6 f2 f3 f4 f5 f6).seg (slotAt i v6 v9 v12 v13 v27 v30 v33 v34 v48 v51 v54 v55 v69 v72 v75 v76 v90 v93 v96 v97 2#32).toNat).toNat 2 :=
      fun v hv h x => rd2 arg6 f6 _ ((tabs arg2 arg3 arg4 arg5 arg6 f2 f3 f4 f5 f6).seg (slotAt i v6 v9 v12 v13 v27 v30 v33 v34 v48 v51 v54 v55 v69 v72 v75 v76 v90 v93 v96 v97 2#32).toNat).toNat 2 (congrArg BitVec.toNat hv) rfl h x
    have hA := fun d0 d1 d2 h0 h1 h2 => read_winA aWin.view f14 hz (poolA.view.read (Elt F) fA)
      ((tabs arg2 arg3 arg4 arg5 arg6 f2 f3 f4 f5 f6).start ((tabs arg2 arg3 arg4 arg5 arg6 f2 f3 f4 f5 f6).seg (slotAt i v6 v9 v12 v13 v27 v30 v33 v34 v48 v51 v54 v55 v69 v72 v75 v76 v90 v93 v96 v97 2#32).toNat).toNat) d0 d1 d2 h0 h1 h2
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists _, _, _, _
    isplitl [H13]; · iexact H13
    isplitl [H14]; · iexact H14
    isplitl [H16]; · iexact H16
    isplitl [HO]; · iexact HO
    have e0 := fun v st (hv : v = st) h hs hq y => rdPoolA fA (k0_off47 v) 0 (base st).toNat (congrArg k0_off47 hv) h hs hq y
    have e1 := fun v st (hv : v = st) h hs hq y => rdPoolA fA (k0_off48 v) 1 (base st).toNat (congrArg k0_off48 hv) h hs hq y
    have e2 := fun v st (hv : v = st) h hs hq y => rdPoolA fA (k0_off49 v) 2 (base st).toNat (congrArg k0_off49 hv) h hs hq y
    isplitr
    · ipureintro
      exact winA_tail (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y))
    ipureintro
    refine slot2_final arg13 f16 f13 _ _ _ _ _ _ _ _ ?_ ?_
    · exact congrArg (fun w => Scalar.subi w (base w)) (hst _ (hseg _ _) _ _)
    · exact act_of (hst _ (hseg _ _) _ _) (hrk _ (hseg' _ _) _ _) (rdWhole arg7.view f7 ![0, 0] (by decide) _)
        ((rdWhole aWin.view _ ![0, 0] (by decide) _).trans (hA _ _ _ _ _ _ (fun y => e0 _ _ (hst _ (hseg _ _) _ _) _ _ _ y)
        (fun y => e1 _ _ (hst _ (hseg _ _) _ _) _ _ _ y) (fun y => e2 _ _ (hst _ (hseg _ _) _ _) _ _ _ y)))
        (hs0 _ (hseg' _ _) _ _) (hs1 _ (hseg' _ _) _ _) (hs2 _ (hseg' _ _) _ _) (hlo _ _) (hhi _ _)
  · rw [dif_neg k0_h5, if_neg k0_h5, if_neg k0_h5]
    iintro ⟨H2, H3, H4, H5, H6, H7, HA, HA0, HA1, HA2, H13, H14, H16, S0, S1, S2, HO⟩
    sl_step
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists f13, f14, f16, W
    isplitl [H13]; · iexact H13
    isplitl [H14]; · iexact H14
    isplitl [H16]; · iexact H16
    isplitl [HO]; · iexact HO
    isplitr; · ipureintro; exact hz
    ipureintro
    exact ⟨rfl, rfl⟩

end Cert.KernelIdeal.Hand

end

end
-- ==== Proof.First.lean ====
/-
  The work of the grid's first point: clear the first pool's window and fetch the five segments' windows of the second
  pool, all five transfers in flight together.
-/
module

public import proofs.«01_k».proof.Proof.Slots

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx

section Planes
variable {κ : Kind} {sp : Space}

/-- A write through the squeezed plane `o` of an array, read at that plane. -/
theorem sqPlane_hit {m n k : ℕ} {e : EltTy} (M : Memref sig κ sp ⟨3, ![m, n, k]⟩ e) (f : M.view.ty.Contents (Elt F)) (o : ℕ)
    (inb : ∀ a, (![o, 0, 0] : Fin 3 → ℕ) a + (⟨3, ![1, n, k]⟩ : Shape).size a ≤ (⟨3, ![m, n, k]⟩ : Shape).size a) (hs)
    (hq : (Rect.unit (s := ⟨3, ![m, n, k]⟩) ![o, 0, 0] (⟨3, ![1, n, k]⟩ : Shape).size inb).shape.Squeezes ⟨2, ![n, k]⟩)
    (w : (⟨2, ![n, k]⟩ : Shape).Idx → Elt F e) (g : Fin m) (r : Fin n) (l : Fin k) (h : g.val = o) :
    M.view.read (Elt F) (View.write (Elt F) ((M.slice (Rect.unit (s := ⟨3, ![m, n, k]⟩) ![o, 0, 0] (⟨3, ![1, n, k]⟩ : Shape).size inb) hs).squeeze ⟨2, ![n, k]⟩ hq).view f w Finset.univ) (ix3 g r l)
      = w (ix2 r l) := by
  have e1 := View.write_reshape_univ (v := (M.view.slice (Rect.unit (s := ⟨3, ![m, n, k]⟩) ![o, 0, 0] (⟨3, ![1, n, k]⟩ : Shape).size inb)))
    (Val := Elt F) hq.numel_eq f w
  refine (congrFun (congrArg (M.view.read (Elt F)) e1) _).trans ?_
  refine (hitPlane M.view f o inb (fun x => w ((Shape.reshapeEquiv hq.numel_eq).symm x)) [] g r l h).trans ?_
  refine congrArg w ((Equiv.symm_apply_eq _).2 (Shape.reshapeEquiv_eq_of_rowMajor _ ?_).symm)
  refine (Shape.rowMajor_val_three (d := ![1, n, k]) _).trans (Eq.trans ?_ (Shape.rowMajor_val_two (d := ![n, k]) _).symm)
  show (0 * n + r.val) * k + l.val = r.val * k + l.val
  rw [Nat.zero_mul, Nat.zero_add]

/-- A write through the squeezed plane `o` of an array, read at another plane. -/
theorem sqPlane_miss {m n k : ℕ} {e : EltTy} (M : Memref sig κ sp ⟨3, ![m, n, k]⟩ e) (f : M.view.ty.Contents (Elt F)) (o : ℕ)
    (inb : ∀ a, (![o, 0, 0] : Fin 3 → ℕ) a + (⟨3, ![1, n, k]⟩ : Shape).size a ≤ (⟨3, ![m, n, k]⟩ : Shape).size a) (hs)
    (hq : (Rect.unit (s := ⟨3, ![m, n, k]⟩) ![o, 0, 0] (⟨3, ![1, n, k]⟩ : Shape).size inb).shape.Squeezes ⟨2, ![n, k]⟩)
    (w : (⟨2, ![n, k]⟩ : Shape).Idx → Elt F e) (g : Fin m) (r : Fin n) (l : Fin k) (h : g.val ≠ o) :
    M.view.read (Elt F) (View.write (Elt F) ((M.slice (Rect.unit (s := ⟨3, ![m, n, k]⟩) ![o, 0, 0] (⟨3, ![1, n, k]⟩ : Shape).size inb) hs).squeeze ⟨2, ![n, k]⟩ hq).view f w Finset.univ) (ix3 g r l)
      = M.view.read (Elt F) f (ix3 g r l) := by
  have e1 := View.write_reshape_univ (v := (M.view.slice (Rect.unit (s := ⟨3, ![m, n, k]⟩) ![o, 0, 0] (⟨3, ![1, n, k]⟩ : Shape).size inb)))
    (Val := Elt F) hq.numel_eq f w
  refine (congrFun (congrArg (M.view.read (Elt F)) e1) _).trans ?_
  exact missPlane M.view f o inb (fun x => w ((Shape.reshapeEquiv hq.numel_eq).symm x)) [] g r l h

end Planes

/-- The five windows landed leave the windows of the second pool. -/
theorem read_winB (f : bWin.view.ty.Contents (Elt F)) (Q : Vec F S600x16384 .bf16) (T : Tab F)
    (d0 d1 d2 d3 d4 : S80x16384.Idx → Elt F .bf16) (h0 h1 h2 h3 h4 k0 k1 k2 k3 k4 q0 q1 q2 q3 q4)
    (e0 : ∀ y, d0 y = Q (ix2 ⟨((base (T.start (T.seg 0).toNat)).toNat + (y 0).val) % 600, Nat.mod_lt _ (by decide)⟩ (y 1)))
    (e1 : ∀ y, d1 y = Q (ix2 ⟨((base (T.start (T.seg 1).toNat)).toNat + (y 0).val) % 600, Nat.mod_lt _ (by decide)⟩ (y 1)))
    (e2 : ∀ y, d2 y = Q (ix2 ⟨((base (T.start (T.seg 2).toNat)).toNat + (y 0).val) % 600, Nat.mod_lt _ (by decide)⟩ (y 1)))
    (e3 : ∀ y, d3 y = Q (ix2 ⟨((base (T.start (T.seg 3).toNat)).toNat + (y 0).val) % 600, Nat.mod_lt _ (by decide)⟩ (y 1)))
    (e4 : ∀ y, d4 y = Q (ix2 ⟨((base (T.start (T.seg 4).toNat)).toNat + (y 0).val) % 600, Nat.mod_lt _ (by decide)⟩ (y 1))) :
    bWin.view.read (Elt F) (View.write (Elt F) ((bWin.slice (Rect.unit (s := S5x80x16384) ![4, 0, 0] S1x80x16384.size h4) k4).squeeze S80x16384 q4).view
      (View.write (Elt F) ((bWin.slice (Rect.unit (s := S5x80x16384) ![3, 0, 0] S1x80x16384.size h3) k3).squeeze S80x16384 q3).view
      (View.write (Elt F) ((bWin.slice (Rect.unit (s := S5x80x16384) ![2, 0, 0] S1x80x16384.size h2) k2).squeeze S80x16384 q2).view
      (View.write (Elt F) ((bWin.slice (Rect.unit (s := S5x80x16384) ![1, 0, 0] S1x80x16384.size h1) k1).squeeze S80x16384 q1).view
      (View.write (Elt F) ((bWin.slice (Rect.unit (s := S5x80x16384) ![0, 0, 0] S1x80x16384.size h0) k0).squeeze S80x16384 q0).view
      f d0 Finset.univ) d1 Finset.univ) d2 Finset.univ) d3 Finset.univ) d4 Finset.univ) = winB Q T := by
  funext j
  obtain ⟨g, r, l, rfl⟩ : ∃ g r l, j = ix3 g r l := ⟨_, _, _, eq_ix3 j⟩
  match g with
  | ⟨0, _⟩ => exact ((sqPlane_miss bWin _ 4 _ _ _ _ _ r l (by show (0 : ℕ) ≠ 4; decide)).trans ((sqPlane_miss bWin _ 3 _ _ _ _ _ r l (by show (0 : ℕ) ≠ 3; decide)).trans ((sqPlane_miss bWin _ 2 _ _ _ _ _ r l (by show (0 : ℕ) ≠ 2; decide)).trans ((sqPlane_miss bWin _ 1 _ _ _ _ _ r l (by show (0 : ℕ) ≠ 1; decide)).trans ((sqPlane_hit bWin _ 0 _ _ _ _ _ r l rfl).trans (e0 _))))))
  | ⟨1, _⟩ => exact ((sqPlane_miss bWin _ 4 _ _ _ _ _ r l (by show (1 : ℕ) ≠ 4; decide)).trans ((sqPlane_miss bWin _ 3 _ _ _ _ _ r l (by show (1 : ℕ) ≠ 3; decide)).trans ((sqPlane_miss bWin _ 2 _ _ _ _ _ r l (by show (1 : ℕ) ≠ 2; decide)).trans ((sqPlane_hit bWin _ 1 _ _ _ _ _ r l rfl).trans (e1 _)))))
  | ⟨2, _⟩ => exact ((sqPlane_miss bWin _ 4 _ _ _ _ _ r l (by show (2 : ℕ) ≠ 4; decide)).trans ((sqPlane_miss bWin _ 3 _ _ _ _ _ r l (by show (2 : ℕ) ≠ 3; decide)).trans ((sqPlane_hit bWin _ 2 _ _ _ _ _ r l rfl).trans (e2 _))))
  | ⟨3, _⟩ => exact ((sqPlane_miss bWin _ 4 _ _ _ _ _ r l (by show (3 : ℕ) ≠ 4; decide)).trans ((sqPlane_hit bWin _ 3 _ _ _ _ _ r l rfl).trans (e3 _)))
  | ⟨4, _⟩ => exact ((sqPlane_hit bWin _ 4 _ _ _ _ _ r l rfl).trans (e4 _))

variable (arg2 : Memref sig .tc .smem S6 .i32) (harg2 : arg2.IsWhole) (arg3 : Memref sig .tc .smem S5 .i32) (harg3 : arg3.IsWhole)
  (arg4 : Memref sig .tc .smem S7 .i32) (harg4 : arg4.IsWhole) (arg5 : Memref sig .tc .smem S7 .i32) (harg5 : arg5.IsWhole)
  (arg6 : Memref sig .tc .smem S7x3 .f32) (harg6 : arg6.IsWhole) (arg7 : Memref sig .tc .vmem S768x6144 .bf16) (harg7 : arg7.IsWhole)
  (arg8 : Memref sig .tc .vmem S768x512 .i32) (harg8 : arg8.IsWhole) (arg9 : Memref sig .tc .vmem S48x512 .bf16) (harg9 : arg9.IsWhole)
  (arg12 : Memref sig .tc .vmem S768x512 .bf16) (harg12 : arg12.IsWhole) (arg13 : Memref sig .tc .vmem S768x192 .bf16) (harg13 : arg13.IsWhole)

/-- What the grid's first point does before its slots. -/
def first (i : grid0.Coords) : Prog (TpuEff nD τ sig (Elt F) Λ₀ .tc) PUnit := do
  if k0_h1 : k0_cond1 i = 1#1 then do
    let ⟨v194, k0_hw6, v195⟩ : Σ' (v194 : Elt F .i32) (k0_hw6 : k0_chk6 i v194), BitVec 32 ← k0_part1 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 k0_h1
    let v225 : Elt F .i32 ← k0_part2 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 k0_h1 v194 k0_hw6 v195
    let ⟨v249, k0_hw16⟩ : Σ' (v249 : Elt F .i32), k0_chk16 i v249 ← k0_part3 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 k0_h1 v225
    let v255 : Memref sig .tc .vmem S1x80x16384 .bf16 := bWin.slice (Rect.unit (s := S5x80x16384) ![2, 0, 0] S1x80x16384.size inb_S5x80x16384_S1x80x16384_2_0_0) (fun _ => rfl)
    let v256 : Memref sig .tc .vmem S80x16384 .bf16 := v255.squeeze S80x16384 squeezes_S1x80x16384_S80x16384
    let v257 : Memref sig .tc .hbm S80x16384 .bf16 := poolB.slice (Rect.unit (s := S600x16384) (k0_off16 v249) S80x16384.size (k0_off16_inb i v249 k0_hw16 k0_h1)) (fun _ => rfl)
    let v253 : DmaSems sig S1 := cc0_scratch3.slice (Rect.unit (s := S5) ![2] S1.size inb_S5_S1_2)
    let v254 : DmaSems sig S_ := v253.squeeze S_ squeezes_S1_S_
    Prog.lift (.waitDma2 v254.sem v257 v256 ((Memref.isWhole_whole main_arg4).wordExact_slice rfl _ (k0_off16_wordsbf16 i v249 k0_hw16 k0_h1)) (((Memref.isWhole_whole cc0_scratch1).wordExact_slice rfl _ wordsbf16_S5x80x16384_S1x80x16384_2_0_0).reshape _ _))
    let v258 : Elt F .i32 ← smemLoad arg3 (Rect.unit (s := S5) ![3] S1.size inb_S5_S1_3) numel1_S1 rfl
    have k0_hw17 : k0_chk17 i v258 := (← Prog.lift (TpuEff.assume (k0_chk17 i v258) (k0_chk17.dec i v258))).down

    let v260 : Elt F .i32 ← smemLoad arg4 (Rect.unit (s := S7) (k0_off17 v258) S1.size (k0_off17_inb i v258 k0_hw17 k0_h1)) numel1_S1 rfl
    have k0_hw18 : k0_chk18 i v260 := (← Prog.lift (TpuEff.assume (k0_chk18 i v260) (k0_chk18.dec i v260))).down

    let v264 : DmaSems sig S1 := cc0_scratch3.slice (Rect.unit (s := S5) ![3] S1.size inb_S5_S1_3)
    let v265 : DmaSems sig S_ := v264.squeeze S_ squeezes_S1_S_
    let v266 : Memref sig .tc .vmem S1x80x16384 .bf16 := bWin.slice (Rect.unit (s := S5x80x16384) ![3, 0, 0] S1x80x16384.size inb_S5x80x16384_S1x80x16384_3_0_0) (fun _ => rfl)
    let v267 : Memref sig .tc .vmem S80x16384 .bf16 := v266.squeeze S80x16384 squeezes_S1x80x16384_S80x16384
    let v268 : Memref sig .tc .hbm S80x16384 .bf16 := poolB.slice (Rect.unit (s := S600x16384) (k0_off18 v260) S80x16384.size (k0_off18_inb i v260 k0_hw18 k0_h1)) (fun _ => rfl)
    Prog.lift (.waitDma2 v265.sem v268 v267 ((Memref.isWhole_whole main_arg4).wordExact_slice rfl _ (k0_off18_wordsbf16 i v260 k0_hw18 k0_h1)) (((Memref.isWhole_whole cc0_scratch1).wordExact_slice rfl _ wordsbf16_S5x80x16384_S1x80x16384_3_0_0).reshape _ _))
    let v269 : Elt F .i32 ← smemLoad arg3 (Rect.unit (s := S5) ![4] S1.size inb_S5_S1_4) numel1_S1 rfl
    have k0_hw19 : k0_chk19 i v269 := (← Prog.lift (TpuEff.assume (k0_chk19 i v269) (k0_chk19.dec i v269))).down

    let v271 : Elt F .i32 ← smemLoad arg4 (Rect.unit (s := S7) (k0_off19 v269) S1.size (k0_off19_inb i v269 k0_hw19 k0_h1)) numel1_S1 rfl
    have k0_hw20 : k0_chk20 i v271 := (← Prog.lift (TpuEff.assume (k0_chk20 i v271) (k0_chk20.dec i v271))).down

    let v275 : DmaSems sig S1 := cc0_scratch3.slice (Rect.unit (s := S5) ![4] S1.size inb_S5_S1_4)
    let v276 : DmaSems sig S_ := v275.squeeze S_ squeezes_S1_S_
    let v277 : Memref sig .tc .vmem S1x80x16384 .bf16 := bWin.slice (Rect.unit (s := S5x80x16384) ![4, 0, 0] S1x80x16384.size inb_S5x80x16384_S1x80x16384_4_0_0) (fun _ => rfl)
    let v278 : Memref sig .tc .vmem S80x16384 .bf16 := v277.squeeze S80x16384 squeezes_S1x80x16384_S80x16384
    let v279 : Memref sig .tc .hbm S80x16384 .bf16 := poolB.slice (Rect.unit (s := S600x16384) (k0_off20 v271) S80x16384.size (k0_off20_inb i v271 k0_hw20 k0_h1)) (fun _ => rfl)
    Prog.lift (.waitDma2 v276.sem v279 v278 ((Memref.isWhole_whole main_arg4).wordExact_slice rfl _ (k0_off20_wordsbf16 i v271 k0_hw20 k0_h1)) (((Memref.isWhole_whole cc0_scratch1).wordExact_slice rfl _ wordsbf16_S5x80x16384_S1x80x16384_4_0_0).reshape _ _))
    pure ⟨⟩
  else do
    pure ⟨⟩

set_option sl_exec.dmaWindow true in
theorem first_run (c : Dev nD) (i : grid0.Coords) (T : Tab F) (f3 f4 fB f14 f15) (W : Waits sig Unit)
    (hd3 : ∀ r x, (arg3.view.readAt (Elt F) r f3 x : BitVec 32).toNat < 7)
    (hd4 : ∀ r x, (arg4.view.readAt (Elt F) r f4 x : BitVec 32).toNat < 2 ^ 31)
    (hT3 : ∀ k, T.seg k = arg3.view.read (Elt F) f3 (ix1 ⟨k % 5, Nat.mod_lt _ (by decide)⟩))
    (hT4 : ∀ k, T.start k = arg4.view.read (Elt F) f4 (ix1 ⟨k % 7, Nat.mod_lt _ (by decide)⟩))
    (hz : k0_cond1 i = 1#1 ∨ ZeroTailOf aWin.view f14) :
    iprop(pt c arg3 f3 ∗ pt c arg4 f4
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ pt c aWin f14 ∗ pt c bWin f15
      ∗ idle c 15 ∗ idle c 16 ∗ idle c 17 ∗ idle c 18 ∗ idle c 19 ∗ owes (c : Thread nD τ) 0 W)
      ⊢ wp frame (wpE (defs₀ (F := F)) Variants.none c none) Set.univ (first (F := F) arg2 harg2 arg3 harg3 arg4 harg4 arg5 harg5 arg6 harg6 arg7 harg7 arg8 harg8 arg9 harg9 arg12 harg12 arg13 harg13 i)
        (fun _ => iprop(pt c arg3 f3 ∗ pt c arg4 f4
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ idle c 15 ∗ idle c 16 ∗ idle c 17 ∗ idle c 18 ∗ idle c 19
      ∗ ∃ g14 g15 W', pt c aWin g14 ∗ pt c bWin g15 ∗ owes (c : Thread nD τ) 0 W'
      ∗ ⌜ZeroTailOf aWin.view g14⌝
      ∗ ⌜bWin.view.read (Elt F) g15 = (if k0_cond1 i = 1#1 then winB (poolB.view.read (Elt F) fB) T else bWin.view.read (Elt F) f15)⌝)) := by
  unfold first
  by_cases k0_h1 : k0_cond1 i = 1#1
  · rw [dif_pos k0_h1, if_pos k0_h1]
    iintro ⟨H3, H4, HB, HB0, HB1, HB2, HB3, HB4, H14, H15, S0, S1, S2, S3, S4, HO⟩
    sl_exec (disch := first | exact chkIdx (hd3 _ _) | exact chkB (hd4 _ _))
    sl_step
    isplitl [H3]; · iexact H3
    isplitl [H4]; · iexact H4
    isplitl [HB]; · iexact HB
    isplitl [HB0]; · iexact HB0
    isplitl [HB1]; · iexact HB1
    isplitl [HB2]; · iexact HB2
    isplitl [HB3]; · iexact HB3
    isplitl [HB4]; · iexact HB4
    isplitl [S0]; · iexact S0
    isplitl [S1]; · iexact S1
    isplitl [S2]; · iexact S2
    isplitl [S3]; · iexact S3
    isplitl [S4]; · iexact S4
    iexists _, _, _
    isplitl [H14]; · iexact H14
    isplitl [H15]; · iexact H15
    isplitl [HO]; · iexact HO
    have hseg : ∀ (k : ℕ) (hk : k < 5) h x, arg3.view.readAt (Elt F) (Rect.unit (s := S5) ![k] S1.size h).toLoadRect f3 x = T.seg k :=
      fun k hk h x => (rd1 arg3 f3 _ k rfl h (by decide) x).trans (hT3 k).symm
    have hst : ∀ (off : BitVec 32 → Fin 1 → ℕ) (hoff : ∀ v, off v 0 = v.toNat) (v k : BitVec 32), v = k →
        ∀ h x, arg4.view.readAt (Elt F) (Rect.unit (s := S7) (off v) S1.size h).toLoadRect f4 x = T.start k.toNat :=
      fun off hoff v k hv h x => (rd1 arg4 f4 _ k.toNat ((hoff v).trans (congrArg BitVec.toNat hv)) h (by decide) x).trans (hT4 _).symm
    have e : ∀ (off : BitVec 32 → Fin 2 → ℕ) (hoff : ∀ v, off v = ![(base v).toNat, 0]) (v st : BitVec 32) (hv : v = st) h hs y,
        (poolB.slice (Rect.unit (s := S600x16384) (off v) S80x16384.size h) hs).view.read (Elt F) fB y
        = poolB.view.read (Elt F) fB (ix2 ⟨((base st).toNat + (y 0).val) % 600, Nat.mod_lt _ (by decide)⟩ (y 1)) :=
      fun off hoff v st hv h hs y => rdPoolB fB (off v) (base st).toNat ((hoff v).trans (by rw [hv])) h hs y
    isplitr
    · ipureintro
      exact fun j hj => congrFun (read_whole aWin.view f14 ![0, 0] (by decide) _ _ _) j
    ipureintro
    exact read_winB f15 (poolB.view.read (Elt F) fB) T _ _ _ _ _ _ _ _ _ _ _ _ _ _ _ _ _ _ _ _
      (fun y => e k0_off2 (fun _ => rfl) _ _ (hst k0_off1 (fun _ => rfl) _ _ (hseg 0 (by decide) _ _) _ _) _ _ y)
      (fun y => e k0_off4 (fun _ => rfl) _ _ (hst k0_off3 (fun _ => rfl) _ _ (hseg 1 (by decide) _ _) _ _) _ _ y)
      (fun y => e k0_off6 (fun _ => rfl) _ _ (hst k0_off5 (fun _ => rfl) _ _ (hseg 2 (by decide) _ _) _ _) _ _ y)
      (fun y => e k0_off8 (fun _ => rfl) _ _ (hst k0_off7 (fun _ => rfl) _ _ (hseg 3 (by decide) _ _) _ _) _ _ y)
      (fun y => e k0_off10 (fun _ => rfl) _ _ (hst k0_off9 (fun _ => rfl) _ _ (hseg 4 (by decide) _ _) _ _) _ _ y)
  · rw [dif_neg k0_h1, if_neg k0_h1]
    iintro ⟨H3, H4, HB, HB0, HB1, HB2, HB3, HB4, H14, H15, S0, S1, S2, S3, S4, HO⟩
    sl_step
    isplitl [H3]; · iexact H3
    isplitl [H4]; · iexact H4
    isplitl [HB]; · iexact HB
    isplitl [HB0]; · iexact HB0
    isplitl [HB1]; · iexact HB1
    isplitl [HB2]; · iexact HB2
    isplitl [HB3]; · iexact HB3
    isplitl [HB4]; · iexact HB4
    isplitl [S0]; · iexact S0
    isplitl [S1]; · iexact S1
    isplitl [S2]; · iexact S2
    isplitl [S3]; · iexact S3
    isplitl [S4]; · iexact S4
    iexists f14, f15, W
    isplitl [H14]; · iexact H14
    isplitl [H15]; · iexact H15
    isplitl [HO]; · iexact HO
    isplitr; · ipureintro; exact hz.resolve_left k0_h1
    ipureintro
    rfl

end Cert.KernelIdeal.Hand

end

end
-- ==== Proof.Stage.lean ====
/-
  A grid point with column block 0 clears the kept and the returned activations, then serves its three slots.
-/
module

public import proofs.«01_k».proof.Proof.First

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx

/-- The kept activations a row block's first point leaves. -/
def hOf (i : grid0.Coords) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (v0 : BitVec 32) (x : Vec F S768x6144 .bf16) (P : Vec F S3x600x6144 .bf16) (T : Tab F) : Vec F S3x768x256 .bf16 :=
  have H1 : Vec F S3x768x256 .bf16 := if k0_cond3 i v6 v9 v12 v13 v27 v30 v33 v34 v48 v51 v54 v55 v69 v72 v75 v76 v90 v93 v96 v97 = 1#1 then slotH 0 (act v0 x P T (slotAt i v6 v9 v12 v13 v27 v30 v33 v34 v48 v51 v54 v55 v69 v72 v75 v76 v90 v93 v96 v97 0#32)) k0_pay48 else k0_pay48
  have H2 : Vec F S3x768x256 .bf16 := if k0_cond4 i v6 v9 v12 v13 v27 v30 v33 v34 v48 v51 v54 v55 v69 v72 v75 v76 v90 v93 v96 v97 = 1#1 then slotH 1 (act v0 x P T (slotAt i v6 v9 v12 v13 v27 v30 v33 v34 v48 v51 v54 v55 v69 v72 v75 v76 v90 v93 v96 v97 1#32)) H1 else H1
  if k0_cond5 i v6 v9 v12 v13 v27 v30 v33 v34 v48 v51 v54 v55 v69 v72 v75 v76 v90 v93 v96 v97 = 1#1 then slotH 2 (act v0 x P T (slotAt i v6 v9 v12 v13 v27 v30 v33 v34 v48 v51 v54 v55 v69 v72 v75 v76 v90 v93 v96 v97 2#32)) H2 else H2

/-- The returned activations a row block's first point leaves. -/
def gOf (i : grid0.Coords) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (v0 : BitVec 32) (x : Vec F S768x6144 .bf16) (P : Vec F S3x600x6144 .bf16) (T : Tab F) : Vec F S768x192 .bf16 :=
  have G1 : Vec F S768x192 .bf16 := if k0_cond3 i v6 v9 v12 v13 v27 v30 v33 v34 v48 v51 v54 v55 v69 v72 v75 v76 v90 v93 v96 v97 = 1#1 then slotG (lag T (slotAt i v6 v9 v12 v13 v27 v30 v33 v34 v48 v51 v54 v55 v69 v72 v75 v76 v90 v93 v96 v97 0#32)) (act v0 x P T (slotAt i v6 v9 v12 v13 v27 v30 v33 v34 v48 v51 v54 v55 v69 v72 v75 v76 v90 v93 v96 v97 0#32)) k0_pay49 else k0_pay49
  have G2 : Vec F S768x192 .bf16 := if k0_cond4 i v6 v9 v12 v13 v27 v30 v33 v34 v48 v51 v54 v55 v69 v72 v75 v76 v90 v93 v96 v97 = 1#1 then slotG (lag T (slotAt i v6 v9 v12 v13 v27 v30 v33 v34 v48 v51 v54 v55 v69 v72 v75 v76 v90 v93 v96 v97 1#32)) (act v0 x P T (slotAt i v6 v9 v12 v13 v27 v30 v33 v34 v48 v51 v54 v55 v69 v72 v75 v76 v90 v93 v96 v97 1#32)) G1 else G1
  if k0_cond5 i v6 v9 v12 v13 v27 v30 v33 v34 v48 v51 v54 v55 v69 v72 v75 v76 v90 v93 v96 v97 = 1#1 then slotG (lag T (slotAt i v6 v9 v12 v13 v27 v30 v33 v34 v48 v51 v54 v55 v69 v72 v75 v76 v90 v93 v96 v97 2#32)) (act v0 x P T (slotAt i v6 v9 v12 v13 v27 v30 v33 v34 v48 v51 v54 v55 v69 v72 v75 v76 v90 v93 v96 v97 2#32)) G2 else G2

variable (arg2 : Memref sig .tc .smem S6 .i32) (harg2 : arg2.IsWhole) (arg3 : Memref sig .tc .smem S5 .i32) (harg3 : arg3.IsWhole)
  (arg4 : Memref sig .tc .smem S7 .i32) (harg4 : arg4.IsWhole) (arg5 : Memref sig .tc .smem S7 .i32) (harg5 : arg5.IsWhole)
  (arg6 : Memref sig .tc .smem S7x3 .f32) (harg6 : arg6.IsWhole) (arg7 : Memref sig .tc .vmem S768x6144 .bf16) (harg7 : arg7.IsWhole)
  (arg8 : Memref sig .tc .vmem S768x512 .i32) (harg8 : arg8.IsWhole) (arg9 : Memref sig .tc .vmem S48x512 .bf16) (harg9 : arg9.IsWhole)
  (arg12 : Memref sig .tc .vmem S768x512 .bf16) (harg12 : arg12.IsWhole) (arg13 : Memref sig .tc .vmem S768x192 .bf16) (harg13 : arg13.IsWhole)

/-- What a grid point does for its slots. -/
def stage (i : grid0.Coords) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 v105 v108 : BitVec 32) :
    Prog (TpuEff nD τ sig (Elt F) Λ₀ .tc) PUnit := do
  if k0_h2 : k0_cond2 i = 1#1 then do
    let v167 : Vec F S3x768x256 .bf16 ← Prog.lift (.load hBuf (Rect.unit (s := S3x768x256) ![0, 0, 0] S3x768x256.size inb_S3x768x256_S3x768x256_0_0_0).toLoadRect (View.loadsAt_vmem h_S3x768x256))

    Prog.lift (.store hBuf (Rect.unit (s := S3x768x256) ![0, 0, 0] S3x768x256.size inb_S3x768x256_S3x768x256_0_0_0) (k0_pay48 (F := F)) Finset.univ (View.stores_vmem h_S3x768x256 ((Memref.isWhole_whole cc0_scratch2).storeExact_slice rfl _ packedbf16_S3x768x256_S3x768x256_0_0_0) (fun _ => rfl)) (.inl rfl))
    let v171 : Vec F S768x192 .bf16 ← Prog.lift (.load arg13 (Rect.unit (s := S768x192) ![0, 0] S768x192.size inb_S768x192_S768x192_0_0).toLoadRect (View.loadsAt_vmem h_S768x192))
    Prog.lift (.store arg13 (Rect.unit (s := S768x192) ![0, 0] S768x192.size inb_S768x192_S768x192_0_0) (k0_pay49 (F := F)) Finset.univ (View.stores_vmem h_S768x192 (harg13.storeExact_slice rfl _ packedbf16_S768x192_S768x192_0_0) (fun _ => rfl)) (.inl rfl))

    slot0 arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v102 k0_h2

    slot1 arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v105 k0_h2

    slot2 arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v108 k0_h2
    pure ⟨⟩
  else do
    pure ⟨⟩

theorem stage_run (c : Dev nD) (i : grid0.Coords) (v0) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 v105 v108) (f2 f3 f4 f5 f6 f7 fA f13 f14 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : ZeroTailOf aWin.view f14) :
    iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ pt c arg13 f13 ∗ pt c aWin f14 ∗ pt c hBuf f16
      ∗ idle c 15 ∗ idle c 16 ∗ idle c 17 ∗ owes (c : Thread nD τ) 0 W)
      ⊢ wp frame (wpE (defs₀ (F := F)) Variants.none c none) Set.univ (stage (F := F) arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v102 v105 v108)
        (fun _ => iprop(pt c arg2 f2 ∗ pt c arg3 f3 ∗ pt c arg4 f4 ∗ pt c arg5 f5 ∗ pt c arg6 f6 ∗ pt c arg7 f7
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ idle c 15 ∗ idle c 16 ∗ idle c 17
      ∗ ∃ g13 g14 g16 W', pt c arg13 g13 ∗ pt c aWin g14 ∗ pt c hBuf g16 ∗ owes (c : Thread nD τ) 0 W'
      ∗ ⌜ZeroTailOf aWin.view g14⌝
      ∗ ⌜hBuf.view.read (Elt F) g16 = (if k0_cond2 i = 1#1 then
            hOf i v6 v9 v12 v13 v27 v30 v33 v34 v48 v51 v54 v55 v69 v72 v75 v76 v90 v93 v96 v97 v0 (arg7.view.read (Elt F) f7) (poolA.view.read (Elt F) fA) (tabs arg2 arg3 arg4 arg5 arg6 f2 f3 f4 f5 f6)
            else hBuf.view.read (Elt F) f16)
        ∧ arg13.view.read (Elt F) g13 = (if k0_cond2 i = 1#1 then
            gOf i v6 v9 v12 v13 v27 v30 v33 v34 v48 v51 v54 v55 v69 v72 v75 v76 v90 v93 v96 v97 v0 (arg7.view.read (Elt F) f7) (poolA.view.read (Elt F) fA) (tabs arg2 arg3 arg4 arg5 arg6 f2 f3 f4 f5 f6)
            else arg13.view.read (Elt F) f13)⌝)) := by
  unfold stage
  by_cases k0_h2 : k0_cond2 i = 1#1
  · rw [dif_pos k0_h2, if_pos k0_h2, if_pos k0_h2]
    have h0 := fun f13 f14 f16 W hz => slot0_run arg2 harg2 arg3 harg3 arg4 harg4 arg5 harg5 arg6 harg6 arg7 harg7 arg8 harg8 arg9 harg9 arg12 harg12 arg13 harg13 c i v0 v6 v9 v12 v13 v27 v30 v33 v34 v48 v51 v54 v55 v69 v72 v75 v76 v90 v93 v96 v97 k0_hw21 v102 k0_h2 f2 f3 f4 f5 f6 f7 fA f13 f14 f16 W hd3 hd4 hz
    have h1 := fun f13 f14 f16 W hz => slot1_run arg2 harg2 arg3 harg3 arg4 harg4 arg5 harg5 arg6 harg6 arg7 harg7 arg8 harg8 arg9 harg9 arg12 harg12 arg13 harg13 c i v0 v6 v9 v12 v13 v27 v30 v33 v34 v48 v51 v54 v55 v69 v72 v75 v76 v90 v93 v96 v97 k0_hw21 v105 k0_h2 f2 f3 f4 f5 f6 f7 fA f13 f14 f16 W hd3 hd4 hz
    have h2 := fun f13 f14 f16 W hz => slot2_run arg2 harg2 arg3 harg3 arg4 harg4 arg5 harg5 arg6 harg6 arg7 harg7 arg8 harg8 arg9 harg9 arg12 harg12 arg13 harg13 c i v0 v6 v9 v12 v13 v27 v30 v33 v34 v48 v51 v54 v55 v69 v72 v75 v76 v90 v93 v96 v97 k0_hw21 v108 k0_h2 f2 f3 f4 f5 f6 f7 fA f13 f14 f16 W hd3 hd4 hz
    iintro ⟨H2, H3, H4, H5, H6, H7, HA, HA0, HA1, HA2, H13, H14, H16, S0, S1, S2, HO⟩
    sl_exec
    sl_step
    isplitl [Hslot2_0]; · iexact Hslot2_0
    isplitl [Hslot2_1]; · iexact Hslot2_1
    isplitl [Hslot2_2]; · iexact Hslot2_2
    isplitl [Hslot2_3]; · iexact Hslot2_3
    isplitl [Hslot2_4]; · iexact Hslot2_4
    isplitl [Hslot2_5]; · iexact Hslot2_5
    isplitl [Hslot2_6]; · iexact Hslot2_6
    isplitl [Hslot2_7]; · iexact Hslot2_7
    isplitl [Hslot2_8]; · iexact Hslot2_8
    isplitl [Hslot2_9]; · iexact Hslot2_9
    isplitl [Hslot2_10]; · iexact Hslot2_10
    isplitl [Hslot2_11]; · iexact Hslot2_11
    isplitl [Hslot2_12]; · iexact Hslot2_12
    iexists _, _, _, _
    isplitl [Hslot2_13]; · iexact Hslot2_13
    isplitl [Hslot2_14]; · iexact Hslot2_14
    isplitl [Hslot2_15]; · iexact Hslot2_15
    isplitl [Hslot2_16]; · iexact Hslot2_16
    isplitr; · ipureintro; exact hslot2_17
    ipureintro
    have eH := read_whole hBuf.view f16 ![0, 0, 0] (by decide) inb_S3x768x256_S3x768x256_0_0_0 (k0_pay48 (F := F)) []
    have eG := read_whole arg13.view f13 ![0, 0] (by decide) inb_S768x192_S768x192_0_0 (k0_pay49 (F := F)) []
    constructor
    · rw [hslot2_18.1, hslot1_18.1, hslot0_18.1, eH]; rfl
    · rw [hslot2_18.2, hslot1_18.2, hslot0_18.2, eG]; rfl
  · rw [dif_neg k0_h2, if_neg k0_h2, if_neg k0_h2]
    iintro ⟨H2, H3, H4, H5, H6, H7, HA, HA0, HA1, HA2, H13, H14, H16, S0, S1, S2, HO⟩
    sl_step
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HA0]; · iexact HA0
    isplitl [HA1]; · iexact HA1
    isplitl [HA2]; · iexact HA2
    isplitl [S0]; · iexact S0
    isplitl [S1]; · iexact S1
    isplitl [S2]; · iexact S2
    iexists f13, f14, f16, W
    isplitl [H13]; · iexact H13
    isplitl [H14]; · iexact H14
    isplitl [H16]; · iexact H16
    isplitl [HO]; · iexact HO
    isplitr; · ipureintro; exact hz
    ipureintro
    exact ⟨rfl, rfl⟩

end Cert.KernelIdeal.Hand

end

end
-- ==== Proof.Body.lean ====
/-
  The kernel's body at one grid point: from any contents of the buffers it works on to the contents it leaves.
-/
module

public import proofs.«01_k».proof.Proof.Stage

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Idealize.ShloMosaic.ValueIdx

/-- The segment slot `q` serves at a grid point, from the tables. -/
def segAt (i : grid0.Coords) (T : Tab F) (q : BitVec 32) : BitVec 32 := slotAt i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) q

/-- The kept activations of a row block, from the tables. -/
def hAt (i : grid0.Coords) (x : Vec F S768x6144 .bf16) (P : Vec F S3x600x6144 .bf16) (T : Tab F) : Vec F S3x768x256 .bf16 :=
  hOf i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) (row0 i) x P T

/-- The returned activations of a row block, from the tables. -/
def gAt (i : grid0.Coords) (x : Vec F S768x6144 .bf16) (P : Vec F S3x600x6144 .bf16) (T : Tab F) : Vec F S768x192 .bf16 :=
  gOf i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) (row0 i) x P T

/-- The output slice a column block belongs to. -/
def colOf (i : grid0.Coords) : Fin 3 := if (i 1).val < 16 then 0 else if (i 1).val < 24 then 1 else 2

/-- The tile of the second pool's windows one slot multiplies with at a grid point. -/
def tileB (B : Vec F S5x80x16384 .bf16) (w : BitVec 32) (i : grid0.Coords) : Vec F S1x80x512 .bf16 := fun y =>
  B (ix3 ⟨w.toNat % 5, Nat.mod_lt _ (by decide)⟩ (y 1) ⟨((i 1).val * 512 + (y 2).val) % 16384, Nat.mod_lt _ (by decide)⟩)

/-- The output tile of a grid point. -/
def yAt (i : grid0.Coords) (wd : Vec F S768x512 .i32) (sc : Vec F S48x512 .bf16) (x : Vec F S768x6144 .bf16)
    (B : Vec F S5x80x16384 .bf16) (H : Vec F S3x768x256 .bf16) (T : Tab F) : Vec F S768x512 .bf16 :=
  k0_pay1 (k0_pay53 wd sc x) (k0_pay54 (tileB B (segAt i T 0#32) i)) (tileB B (segAt i T 1#32) i) (tileB B (segAt i T 2#32) i)
    (planeOf (colOf i) H)

theorem hOf_at {i : grid0.Coords} {T : Tab F} {v6 : Elt F .i32} {v9 : Elt F .i32} {v12 : Elt F .i32} {v13 : Elt F .i32} {v27 : Elt F .i32} {v30 : Elt F .i32} {v33 : Elt F .i32} {v34 : Elt F .i32} {v48 : Elt F .i32} {v51 : Elt F .i32} {v54 : Elt F .i32} {v55 : Elt F .i32} {v69 : Elt F .i32} {v72 : Elt F .i32} {v75 : Elt F .i32} {v76 : Elt F .i32} {v90 : Elt F .i32} {v93 : Elt F .i32} {v96 : Elt F .i32} {v97 : Elt F .i32}
    (e6 : v6 = T.off 0) (e9 : v9 = T.off 1) (e12 : v12 = T.off 1) (e13 : v13 = T.off 0) (e27 : v27 = T.off 1) (e30 : v30 = T.off 2) (e33 : v33 = T.off 2) (e34 : v34 = T.off 1) (e48 : v48 = T.off 2) (e51 : v51 = T.off 3) (e54 : v54 = T.off 3) (e55 : v55 = T.off 2) (e69 : v69 = T.off 3) (e72 : v72 = T.off 4) (e75 : v75 = T.off 4) (e76 : v76 = T.off 3) (e90 : v90 = T.off 4) (e93 : v93 = T.off 5) (e96 : v96 = T.off 5) (e97 : v97 = T.off 4) (x : Vec F S768x6144 .bf16) (P : Vec F S3x600x6144 .bf16) : hOf i v6 v9 v12 v13 v27 v30 v33 v34 v48 v51 v54 v55 v69 v72 v75 v76 v90 v93 v96 v97 (row0 i) x P T = hAt i x P T := by
  subst e6 e9 e12 e13 e27 e30 e33 e34 e48 e51 e54 e55 e69 e72 e75 e76 e90 e93 e96 e97
  rfl

theorem gOf_at {i : grid0.Coords} {T : Tab F} {v6 : Elt F .i32} {v9 : Elt F .i32} {v12 : Elt F .i32} {v13 : Elt F .i32} {v27 : Elt F .i32} {v30 : Elt F .i32} {v33 : Elt F .i32} {v34 : Elt F .i32} {v48 : Elt F .i32} {v51 : Elt F .i32} {v54 : Elt F .i32} {v55 : Elt F .i32} {v69 : Elt F .i32} {v72 : Elt F .i32} {v75 : Elt F .i32} {v76 : Elt F .i32} {v90 : Elt F .i32} {v93 : Elt F .i32} {v96 : Elt F .i32} {v97 : Elt F .i32}
    (e6 : v6 = T.off 0) (e9 : v9 = T.off 1) (e12 : v12 = T.off 1) (e13 : v13 = T.off 0) (e27 : v27 = T.off 1) (e30 : v30 = T.off 2) (e33 : v33 = T.off 2) (e34 : v34 = T.off 1) (e48 : v48 = T.off 2) (e51 : v51 = T.off 3) (e54 : v54 = T.off 3) (e55 : v55 = T.off 2) (e69 : v69 = T.off 3) (e72 : v72 = T.off 4) (e75 : v75 = T.off 4) (e76 : v76 = T.off 3) (e90 : v90 = T.off 4) (e93 : v93 = T.off 5) (e96 : v96 = T.off 5) (e97 : v97 = T.off 4) (x : Vec F S768x6144 .bf16) (P : Vec F S3x600x6144 .bf16) : gOf i v6 v9 v12 v13 v27 v30 v33 v34 v48 v51 v54 v55 v69 v72 v75 v76 v90 v93 v96 v97 (row0 i) x P T = gAt i x P T := by
  subst e6 e9 e12 e13 e27 e30 e33 e34 e48 e51 e54 e55 e69 e72 e75 e76 e90 e93 e96 e97
  rfl

theorem slotAt_at {i : grid0.Coords} {T : Tab F} {v6 : Elt F .i32} {v9 : Elt F .i32} {v12 : Elt F .i32} {v13 : Elt F .i32} {v27 : Elt F .i32} {v30 : Elt F .i32} {v33 : Elt F .i32} {v34 : Elt F .i32} {v48 : Elt F .i32} {v51 : Elt F .i32} {v54 : Elt F .i32} {v55 : Elt F .i32} {v69 : Elt F .i32} {v72 : Elt F .i32} {v75 : Elt F .i32} {v76 : Elt F .i32} {v90 : Elt F .i32} {v93 : Elt F .i32} {v96 : Elt F .i32} {v97 : Elt F .i32}
    (e6 : v6 = T.off 0) (e9 : v9 = T.off 1) (e12 : v12 = T.off 1) (e13 : v13 = T.off 0) (e27 : v27 = T.off 1) (e30 : v30 = T.off 2) (e33 : v33 = T.off 2) (e34 : v34 = T.off 1) (e48 : v48 = T.off 2) (e51 : v51 = T.off 3) (e54 : v54 = T.off 3) (e55 : v55 = T.off 2) (e69 : v69 = T.off 3) (e72 : v72 = T.off 4) (e75 : v75 = T.off 4) (e76 : v76 = T.off 3) (e90 : v90 = T.off 4) (e93 : v93 = T.off 5) (e96 : v96 = T.off 5) (e97 : v97 = T.off 4) (q : BitVec 32) : slotAt i v6 v9 v12 v13 v27 v30 v33 v34 v48 v51 v54 v55 v69 v72 v75 v76 v90 v93 v96 v97 q = segAt i T q := by
  subst e6 e9 e12 e13 e27 e30 e33 e34 e48 e51 e54 e55 e69 e72 e75 e76 e90 e93 e96 e97
  rfl

theorem yAt_of {i : grid0.Coords} {wd wd' : Vec F S768x512 .i32} {sc sc' : Vec F S48x512 .bf16} {x x' : Vec F S768x6144 .bf16}
    {B : Vec F S5x80x16384 .bf16} {H : Vec F S3x768x256 .bf16} {T : Tab F} {t0 t1 t2 : Vec F S1x80x512 .bf16} {h : Vec F S1x768x256 .bf16}
    (ew : wd' = wd) (es : sc' = sc) (ex : x' = x) (e0 : t0 = tileB B (segAt i T 0#32) i) (e1 : t1 = tileB B (segAt i T 1#32) i)
    (e2 : t2 = tileB B (segAt i T 2#32) i) (eh : h = planeOf (colOf i) H) :
    k0_pay1 (k0_pay53 wd' sc' x') (k0_pay54 t0) t1 t2 h = yAt i wd sc x B H T := by
  subst ew es ex e0 e1 e2 eh
  rfl

theorem col_val (i : grid0.Coords) : (Scalar.muli (BitVec.ofNat 32 (i 1).val) 512#32).toNat = (i 1).val * 512 := by
  have h : (i 1).val < 32 := (i 1).isLt
  show (BitVec.ofNat 32 (i 1).val * 512#32).toNat = _
  rw [BitVec.toNat_mul, BitVec.toNat_ofNat, show (512#32 : BitVec 32).toNat = 512 from rfl]
  omega

/-- A tile loaded from the windows of the second pool. -/
theorem rdTile (f : bWin.view.ty.Contents (Elt F)) (i : grid0.Coords) (w w' : BitVec 32) (hw : w.toNat < 5) (hww : w = w') (off : Fin 3 → ℕ)
    (hoff : off = ![w.toNat, 0, (Scalar.muli (BitVec.ofNat 32 (i 1).val) 512#32).toNat])
    (h : ∀ a, off a + S1x80x512.size a ≤ S5x80x16384.size a) :
    bWin.view.readAt (Elt F) (Rect.unit (s := S5x80x16384) off S1x80x512.size h).toLoadRect f
      = tileB (bWin.view.read (Elt F) f) w' i := by
  subst hoff hww
  have hi : (i 1).val < 32 := (i 1).isLt
  funext y
  have hy : (y 2).val < 512 := (y 2).isLt
  have hy0 : (y 0).val < 1 := (y 0).isLt
  rw [View.readAt_apply]
  unfold tileB
  refine congrArg _ (funext fun a => Fin.ext ?_)
  match a with
  | ⟨0, _⟩ =>
    show w.toNat + 1 * (y 0).val = w.toNat % 5
    rw [Nat.mod_eq_of_lt hw]; omega
  | ⟨1, _⟩ => show 0 + 1 * (y 1).val = (y 1).val; omega
  | ⟨2, _⟩ =>
    show (Scalar.muli (BitVec.ofNat 32 (i 1).val) 512#32).toNat + 1 * (y 2).val = ((i 1).val * 512 + (y 2).val) % 16384
    have hc := col_val i
    rw [Nat.mod_eq_of_lt (by omega)]; omega

theorem off58_eq (i : grid0.Coords) : k0_off58 i = ![(colOf i).val, 0, 0] := by
  have h : ∀ n : Fin 32, (Scalar.select (Scalar.cmpi .slt (BitVec.ofNat 32 n.val) 16#32) (0#32 : BitVec 32)
      (Scalar.select (Scalar.cmpi .slt (BitVec.ofNat 32 n.val) 24#32) 1#32 2#32)).toNat
      = ((if n.val < 16 then 0 else if n.val < 24 then 1 else 2 : Fin 3)).val := by decide
  exact congrArg (fun k : ℕ => (![k, 0, 0] : Fin 3 → ℕ)) (h (i 1))

/-- The plane of the kept activations loaded at a grid point. -/
theorem rdCol (f : hBuf.view.ty.Contents (Elt F)) (i : grid0.Coords) (h : ∀ a, k0_off58 i a + S1x768x256.size a ≤ S3x768x256.size a) :
    hBuf.view.readAt (Elt F) (Rect.unit (s := S3x768x256) (k0_off58 i) S1x768x256.size h).toLoadRect f
      = planeOf (colOf i) (hBuf.view.read (Elt F) f) := by
  revert h
  rw [off58_eq]
  exact fun h => rdPlane hBuf f (colOf i) h

variable (arg2 : Memref sig .tc .smem S6 .i32) (harg2 : arg2.IsWhole) (arg3 : Memref sig .tc .smem S5 .i32) (harg3 : arg3.IsWhole)
  (arg4 : Memref sig .tc .smem S7 .i32) (harg4 : arg4.IsWhole) (arg5 : Memref sig .tc .smem S7 .i32) (harg5 : arg5.IsWhole)
  (arg6 : Memref sig .tc .smem S7x3 .f32) (harg6 : arg6.IsWhole) (arg7 : Memref sig .tc .vmem S768x6144 .bf16) (harg7 : arg7.IsWhole)
  (arg8 : Memref sig .tc .vmem S768x512 .i32) (harg8 : arg8.IsWhole) (arg9 : Memref sig .tc .vmem S48x512 .bf16) (harg9 : arg9.IsWhole)
  (arg12 : Memref sig .tc .vmem S768x512 .bf16) (harg12 : arg12.IsWhole) (arg13 : Memref sig .tc .vmem S768x192 .bf16) (harg13 : arg13.IsWhole)

/-- The body's first part, its work for the grid's first point named. -/
def part19 (i : grid0.Coords)  :
    Prog (TpuEff nD τ sig (Elt F) Λ₀ .tc) (Σ' (arg1 : BitVec 32) (v0 : BitVec 32) (v6 : Elt F .i32) (v9 : Elt F .i32) (v12 : Elt F .i32) (v13 : Elt F .i32) (v18 : BitVec 32) (v21 : BitVec 32) (v24 : BitVec 32) (v26 : BitVec 32) (v27 : Elt F .i32) (v29 : BitVec 1) (v30 : Elt F .i32), BitVec 1) := do
  let arg0 : BitVec 32 := BitVec.ofNat 32 (i 0).val
  let arg1 : BitVec 32 := BitVec.ofNat 32 (i 1).val
  let v0 : BitVec 32 := Scalar.muli arg0 768#32

  first arg2 harg2 arg3 harg3 arg4 harg4 arg5 harg5 arg6 harg6 arg7 harg7 arg8 harg8 arg9 harg9 arg12 harg12 arg13 harg13 i
  let v6 : Elt F .i32 ← smemLoad arg2 (Rect.unit (s := S6) ![0] S1.size inb_S6_S1_0) numel1_S1 rfl
  let v7 : BitVec 32 := Scalar.addi v0 768#32
  let v8 : BitVec 1 := Scalar.cmpi .slt v6 v7
  let v9 : Elt F .i32 ← smemLoad arg2 (Rect.unit (s := S6) ![1] S1.size inb_S6_S1_1) numel1_S1 rfl
  let v10 : BitVec 1 := Scalar.cmpi .sgt v9 v0
  let v11 : BitVec 1 := Scalar.andi v8 v10
  let v12 : Elt F .i32 ← smemLoad arg2 (Rect.unit (s := S6) ![1] S1.size inb_S6_S1_1) numel1_S1 rfl
  let v13 : Elt F .i32 ← smemLoad arg2 (Rect.unit (s := S6) ![0] S1.size inb_S6_S1_0) numel1_S1 rfl
  let v14 : BitVec 1 := Scalar.cmpi .sgt v12 v13
  let v15 : BitVec 1 := Scalar.andi v11 v14
  let v16 : BitVec 1 := Scalar.cmpi .eq 0#32 0#32
  let v17 : BitVec 1 := Scalar.andi v15 v16
  let v18 : BitVec 32 := Scalar.select v17 0#32 0#32
  let v19 : BitVec 1 := Scalar.cmpi .eq 0#32 1#32
  let v20 : BitVec 1 := Scalar.andi v15 v19
  let v21 : BitVec 32 := Scalar.select v20 0#32 0#32
  let v22 : BitVec 1 := Scalar.cmpi .eq 0#32 2#32
  let v23 : BitVec 1 := Scalar.andi v15 v22
  let v24 : BitVec 32 := Scalar.select v23 0#32 0#32
  let v25 : BitVec 32 := Scalar.extui v15
  let v26 : BitVec 32 := Scalar.addi 0#32 v25
  let v27 : Elt F .i32 ← smemLoad arg2 (Rect.unit (s := S6) ![1] S1.size inb_S6_S1_1) numel1_S1 rfl
  let v28 : BitVec 32 := Scalar.addi v0 768#32
  let v29 : BitVec 1 := Scalar.cmpi .slt v27 v28
  let v30 : Elt F .i32 ← smemLoad arg2 (Rect.unit (s := S6) ![2] S1.size inb_S6_S1_2) numel1_S1 rfl
  let v31 : BitVec 1 := Scalar.cmpi .sgt v30 v0
  pure ⟨arg1, v0, v6, v9, v12, v13, v18, v21, v24, v26, v27, v29, v30, v31⟩

/-- The body's fourth part, its work for the slots named. -/
def part22 (i : grid0.Coords)  (arg1 : BitVec 32) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v89 : BitVec 32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 : BitVec 32) (v105 : BitVec 32) (v108 : BitVec 32) (v109 : BitVec 32) :
    Prog (TpuEff nD τ sig (Elt F) Λ₀ .tc) (Σ' (v138 : FVec F S768x512 .f32) (v142 : BitVec 32) (v144 : BitVec 32), FVec F S80x512 .bf16) := do

  stage arg2 harg2 arg3 harg3 arg4 harg4 arg5 harg5 arg6 harg6 arg7 harg7 arg8 harg8 arg9 harg9 arg12 harg12 arg13 harg13 i v0 v6 v9 v12 v13 v27 v30 v33 v34 v48 v51 v54 v55 v69 v72 v75 v76 v90 v93 v96 v97 k0_hw21 v102 v105 v108
  let v114 : Vec F S768x512 .i32 ← Prog.lift (.load arg8 (Rect.unit (s := S768x512) ![0, 0] S768x512.size inb_S768x512_S768x512_0_0).toLoadRect (View.loadsAt_vmem h_S768x512))
  let v131 : Vec F S48x512 .bf16 ← Prog.lift (.load arg9 (Rect.unit (s := S48x512) ![0, 0] S48x512.size inb_S48x512_S48x512_0_0).toLoadRect (View.loadsAt_vmem h_S48x512))
  let v136 : Vec F S768x6144 .bf16 ← Prog.lift (.load arg7 (Rect.unit (s := S768x6144) ![0, 0] S768x6144.size inb_S768x6144_S768x6144_0_0).toLoadRect (View.loadsAt_vmem h_S768x6144))
  let v139 : BitVec 1 := Scalar.cmpi .slt arg1 16#32
  let v140 : BitVec 1 := Scalar.cmpi .slt arg1 24#32
  let v141 : BitVec 32 := Scalar.select v140 1#32 2#32
  let v142 : BitVec 32 := Scalar.select v139 0#32 v141
  let v143 : BitVec 32 := Scalar.muli arg1 512#32
  let v144 : BitVec 32 := v143

  let v147 : Vec F S1x80x512 .bf16 ← Prog.lift (.load bWin (Rect.unit (s := S5x80x16384) (k0_off57 i v6 v9 v12 v13 v27 v30 v33 v34 v48 v51 v54 v55 v69 v72 v75 v76 v90 v93 v96 v97 0#32 0#32 0#32 0#32 0#32) S1x80x512.size (k0_off57_inb i v6 v9 v12 v13 v27 v30 v33 v34 v48 v51 v54 v55 v69 v72 v75 v76 v90 v93 v96 v97 k0_hw21 0)).toLoadRect (View.loadsAt_vmem h_S1x80x512))
  pure ⟨k0_pay53 v114 v131 v136, v142, v144, k0_pay54 v147⟩

/-- The body over those parts. -/
def body (i : grid0.Coords)  :
    Prog (TpuEff nD τ sig (Elt F) Λ₀ .tc) PUnit := do
  let ⟨arg1, v0, v6, v9, v12, v13, v18, v21, v24, v26, v27, v29, v30, v31⟩ : Σ' (arg1 : BitVec 32) (v0 : BitVec 32) (v6 : Elt F .i32) (v9 : Elt F .i32) (v12 : Elt F .i32) (v13 : Elt F .i32) (v18 : BitVec 32) (v21 : BitVec 32) (v24 : BitVec 32) (v26 : BitVec 32) (v27 : Elt F .i32) (v29 : BitVec 1) (v30 : Elt F .i32), BitVec 1 ← part19 arg2 harg2 arg3 harg3 arg4 harg4 arg5 harg5 arg6 harg6 arg7 harg7 arg8 harg8 arg9 harg9 arg12 harg12 arg13 harg13 i
  let ⟨v33, v34, v48, v51, v54, v55, v60, v63, v66, v68, v69, v70⟩ : Σ' (v33 : Elt F .i32) (v34 : Elt F .i32) (v48 : Elt F .i32) (v51 : Elt F .i32) (v54 : Elt F .i32) (v55 : Elt F .i32) (v60 : BitVec 32) (v63 : BitVec 32) (v66 : BitVec 32) (v68 : BitVec 32) (v69 : Elt F .i32), BitVec 32 ← k0_part20 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v0 v18 v21 v24 v26 v29 v31
  let ⟨v72, v75, v76, v89, v90, v93, v96, v97, k0_hw21, v102, v105, v108, v109⟩ : Σ' (v72 : Elt F .i32) (v75 : Elt F .i32) (v76 : Elt F .i32) (v89 : BitVec 32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 : BitVec 32) (v105 : BitVec 32) (v108 : BitVec 32), BitVec 32 ← k0_part21 i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 v0 v6 v9 v12 v13 v27 v30 v33 v34 v48 v51 v54 v55 v60 v63 v66 v68 v69 v70
  let ⟨v138, v142, v144, v148⟩ : Σ' (v138 : FVec F S768x512 .f32) (v142 : BitVec 32) (v144 : BitVec 32), FVec F S80x512 .bf16 ← part22 arg2 harg2 arg3 harg3 arg4 harg4 arg5 harg5 arg6 harg6 arg7 harg7 arg8 harg8 arg9 harg9 arg12 harg12 arg13 harg13 i arg1 v0 v6 v9 v12 v13 v27 v30 v33 v34 v48 v51 v54 v55 v69 v72 v75 v76 v89 v90 v93 v96 v97 k0_hw21 v102 v105 v108 v109

  let v151 : Vec F S1x80x512 .bf16 ← Prog.lift (.load bWin (Rect.unit (s := S5x80x16384) (k0_off57 i v6 v9 v12 v13 v27 v30 v33 v34 v48 v51 v54 v55 v69 v72 v75 v76 v90 v93 v96 v97 1#32 1#32 1#32 1#32 1#32) S1x80x512.size (k0_off57_inb i v6 v9 v12 v13 v27 v30 v33 v34 v48 v51 v54 v55 v69 v72 v75 v76 v90 v93 v96 v97 k0_hw21 1)).toLoadRect (View.loadsAt_vmem h_S1x80x512))

  let v155 : Vec F S1x80x512 .bf16 ← Prog.lift (.load bWin (Rect.unit (s := S5x80x16384) (k0_off57 i v6 v9 v12 v13 v27 v30 v33 v34 v48 v51 v54 v55 v69 v72 v75 v76 v90 v93 v96 v97 2#32 2#32 2#32 2#32 2#32) S1x80x512.size (k0_off57_inb i v6 v9 v12 v13 v27 v30 v33 v34 v48 v51 v54 v55 v69 v72 v75 v76 v90 v93 v96 v97 k0_hw21 2)).toLoadRect (View.loadsAt_vmem h_S1x80x512))

  let v160 : Vec F S1x768x256 .bf16 ← Prog.lift (.load hBuf (Rect.unit (s := S3x768x256) (k0_off58 i) S1x768x256.size (k0_off58_inb i)).toLoadRect (View.loadsAt_vmem h_S1x768x256))
  let v165 : Vec F S768x512 .bf16 ← Prog.lift (.load arg12 (Rect.unit (s := S768x512) ![0, 0] S768x512.size inb_S768x512_S768x512_0_0).toLoadRect (View.loadsAt_vmem h_S768x512))
  Prog.lift (.store arg12 (Rect.unit (s := S768x512) ![0, 0] S768x512.size inb_S768x512_S768x512_0_0) (k0_pay1 v138 v148 v151 v155 v160) Finset.univ (View.stores_vmem h_S768x512 (harg12.storeExact_slice rfl _ packedbf16_S768x512_S768x512_0_0) (fun _ => rfl)) (.inl rfl))
  pure ⟨⟩

theorem dite_bind' {m : Type → Type 1} [Monad m] {α β : Type} {c : Prop} [Decidable c] (f : c → m α) (g : ¬ c → m α) (k : α → m β) :
    ((if h : c then f h else g h) >>= k) = if h : c then f h >>= k else g h >>= k := by
  split <;> rfl

set_option maxRecDepth 65536 in
theorem part19_eq (i : grid0.Coords) : k0_part19 (F := F) i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 = part19 arg2 harg2 arg3 harg3 arg4 harg4 arg5 harg5 arg6 harg6 arg7 harg7 arg8 harg8 arg9 harg9 arg12 harg12 arg13 harg13 i := by
  rw [k0_part19_eq_skeleton]
  unfold k0_part19_skel part19 first
  by_cases h : k0_cond1 i = 1#1
  · simp only [dif_pos h, bind_assoc, pure_bind]
  · simp only [dif_neg h, bind_assoc, pure_bind]

set_option maxRecDepth 65536 in
theorem part22_eq (i : grid0.Coords) (arg1 : BitVec 32) (v0 : BitVec 32) (v6 : Elt F .i32) (v9 : Elt F .i32) (v12 : Elt F .i32) (v13 : Elt F .i32) (v27 : Elt F .i32) (v30 : Elt F .i32) (v33 : Elt F .i32) (v34 : Elt F .i32) (v48 : Elt F .i32) (v51 : Elt F .i32) (v54 : Elt F .i32) (v55 : Elt F .i32) (v69 : Elt F .i32) (v72 : Elt F .i32) (v75 : Elt F .i32) (v76 : Elt F .i32) (v89 : BitVec 32) (v90 : Elt F .i32) (v93 : Elt F .i32) (v96 : Elt F .i32) (v97 : Elt F .i32) (k0_hw21 : k0_chk21 i v6 v9 v12 v13 v27 v30 v33 v34 v48 v51 v54 v55 v69 v72 v75 v76 v90 v93 v96 v97) (v102 : BitVec 32) (v105 : BitVec 32) (v108 : BitVec 32) (v109 : BitVec 32) : k0_part22 (F := F) i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 arg1 v0 v6 v9 v12 v13 v27 v30 v33 v34 v48 v51 v54 v55 v69 v72 v75 v76 v89 v90 v93 v96 v97 k0_hw21 v102 v105 v108 v109 = part22 arg2 harg2 arg3 harg3 arg4 harg4 arg5 harg5 arg6 harg6 arg7 harg7 arg8 harg8 arg9 harg9 arg12 harg12 arg13 harg13 i arg1 v0 v6 v9 v12 v13 v27 v30 v33 v34 v48 v51 v54 v55 v69 v72 v75 v76 v89 v90 v93 v96 v97 k0_hw21 v102 v105 v108 v109 := by
  rw [k0_part22_eq_skeleton]
  unfold k0_part22_skel part22 stage
  by_cases h : k0_cond2 i = 1#1
  · simp only [dif_pos h, bind_assoc, pure_bind]
    unfold slot0 slot1 slot2
    simp only [dite_bind', bind_assoc, pure_bind]
  · simp only [dif_neg h, bind_assoc, pure_bind]

set_option maxRecDepth 65536 in
theorem body_eq (i : grid0.Coords) : cc0_multislice_lora_int4 (F := F) i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3 = body arg2 harg2 arg3 harg3 arg4 harg4 arg5 harg5 arg6 harg6 arg7 harg7 arg8 harg8 arg9 harg9 arg12 harg12 arg13 harg13 i := by
  rw [cc0_multislice_lora_int4_eq_skeleton]
  unfold cc0_multislice_lora_int4_skel body
  simp only [part19_eq, part22_eq]

/-- The body at one grid point. -/
theorem body_run (c : Dev nD) (i : grid0.Coords) (f2 f3 f4 f5 f6 f7 f8 f9 fA fB f12 f13 f14 f15 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : k0_cond1 i = 1#1 ∨ ZeroTailOf aWin.view f14) :
    iprop(pt c arg2 f2 ∗ pt c arg3 f3 ∗ pt c arg4 f4 ∗ pt c arg5 f5 ∗ pt c arg6 f6 ∗ pt c arg7 f7 ∗ pt c arg8 f8 ∗ pt c arg9 f9
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ pt c arg12 f12 ∗ pt c arg13 f13 ∗ pt c aWin f14 ∗ pt c bWin f15 ∗ pt c hBuf f16
      ∗ idle c 15 ∗ idle c 16 ∗ idle c 17 ∗ idle c 18 ∗ idle c 19 ∗ owes (c : Thread nD τ) 0 W)
      ⊢ wp frame (wpE (defs₀ (F := F)) Variants.none c none) Set.univ (cc0_multislice_lora_int4 (F := F) i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3)
        (fun _ => iprop(pt c arg2 f2 ∗ pt c arg3 f3 ∗ pt c arg4 f4 ∗ pt c arg5 f5 ∗ pt c arg6 f6 ∗ pt c arg7 f7 ∗ pt c arg8 f8 ∗ pt c arg9 f9
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ idle c 15 ∗ idle c 16 ∗ idle c 17 ∗ idle c 18 ∗ idle c 19
      ∗ ∃ g12 g13 g14 g15 g16 W', pt c arg12 g12 ∗ pt c arg13 g13 ∗ pt c aWin g14 ∗ pt c bWin g15 ∗ pt c hBuf g16 ∗ owes (c : Thread nD τ) 0 W'
      ∗ ⌜ZeroTailOf aWin.view g14⌝
      ∗ ⌜bWin.view.read (Elt F) g15 = (if k0_cond1 i = 1#1 then winB (poolB.view.read (Elt F) fB) (tabs arg2 arg3 arg4 arg5 arg6 f2 f3 f4 f5 f6) else bWin.view.read (Elt F) f15)
        ∧ hBuf.view.read (Elt F) g16 = (if k0_cond2 i = 1#1 then
            hAt i (arg7.view.read (Elt F) f7) (poolA.view.read (Elt F) fA) (tabs arg2 arg3 arg4 arg5 arg6 f2 f3 f4 f5 f6) else hBuf.view.read (Elt F) f16)
        ∧ arg13.view.read (Elt F) g13 = (if k0_cond2 i = 1#1 then
            gAt i (arg7.view.read (Elt F) f7) (poolA.view.read (Elt F) fA) (tabs arg2 arg3 arg4 arg5 arg6 f2 f3 f4 f5 f6) else arg13.view.read (Elt F) f13)
        ∧ arg12.view.read (Elt F) g12 = yAt i (arg8.view.read (Elt F) f8) (arg9.view.read (Elt F) f9) (arg7.view.read (Elt F) f7)
            (bWin.view.read (Elt F) g15) (hBuf.view.read (Elt F) g16) (tabs arg2 arg3 arg4 arg5 arg6 f2 f3 f4 f5 f6)⌝)) := by
  rw [body_eq]
  have h0 := fun f14 f15 W hz => first_run arg2 harg2 arg3 harg3 arg4 harg4 arg5 harg5 arg6 harg6 arg7 harg7 arg8 harg8 arg9 harg9 arg12 harg12 arg13 harg13 c i (tabs arg2 arg3 arg4 arg5 arg6 f2 f3 f4 f5 f6) f3 f4 fB f14 f15 W hd3 hd4 (fun _ => rfl) (fun _ => rfl) hz
  have h1 := fun v0 v6 v9 v12 v13 v27 v30 v33 v34 v48 v51 v54 v55 v69 v72 v75 v76 v90 v93 v96 v97 k0_hw21 v102 v105 v108 f13 f14 f16 W hz => stage_run arg2 harg2 arg3 harg3 arg4 harg4 arg5 harg5 arg6 harg6 arg7 harg7 arg8 harg8 arg9 harg9 arg12 harg12 arg13 harg13 c i v0 v6 v9 v12 v13 v27 v30 v33 v34 v48 v51 v54 v55 v69 v72 v75 v76 v90 v93 v96 v97 k0_hw21 v102 v105 v108 f2 f3 f4 f5 f6 f7 fA f13 f14 f16 W hd3 hd4 hz
  iintro ⟨H2, H3, H4, H5, H6, H7, H8, H9, HA, HA0, HA1, HA2, HB, HB0, HB1, HB2, HB3, HB4, H12, H13, H14, H15, H16, S0, S1, S2, S3, S4, HO⟩
  unfold body
  sl_exec (disch := exact chk21_all _ _ _ _ _ _ _ _ _ _ _ _ _ _ _ _ _ _ _ _ _)
  sl_step
  isplitl [Hstage_0]; · iexact Hstage_0
  isplitl [Hstage_1]; · iexact Hstage_1
  isplitl [Hstage_2]; · iexact Hstage_2
  isplitl [Hstage_3]; · iexact Hstage_3
  isplitl [Hstage_4]; · iexact Hstage_4
  isplitl [Hstage_5]; · iexact Hstage_5
  isplitl [H8]; · iexact H8
  isplitl [H9]; · iexact H9
  isplitl [Hstage_6]; · iexact Hstage_6
  isplitl [Hstage_7]; · iexact Hstage_7
  isplitl [Hstage_8]; · iexact Hstage_8
  isplitl [Hstage_9]; · iexact Hstage_9
  isplitl [Hfirst_2]; · iexact Hfirst_2
  isplitl [Hfirst_3]; · iexact Hfirst_3
  isplitl [Hfirst_4]; · iexact Hfirst_4
  isplitl [Hfirst_5]; · iexact Hfirst_5
  isplitl [Hfirst_6]; · iexact Hfirst_6
  isplitl [Hfirst_7]; · iexact Hfirst_7
  isplitl [Hstage_10]; · iexact Hstage_10
  isplitl [Hstage_11]; · iexact Hstage_11
  isplitl [Hstage_12]; · iexact Hstage_12
  isplitl [Hfirst_11]; · iexact Hfirst_11
  isplitl [Hfirst_12]; · iexact Hfirst_12
  iexists _, _, _, _, _, _
  isplitl [H12]; · iexact H12
  isplitl [Hstage_13]; · iexact Hstage_13
  isplitl [Hstage_14]; · iexact Hstage_14
  isplitl [Hfirst_14]; · iexact Hfirst_14
  isplitl [Hstage_15]; · iexact Hstage_15
  isplitl [Hstage_16]; · iexact Hstage_16
  isplitr; · ipureintro; exact hstage_17
  ipureintro
  have hoff : ∀ (k : ℕ) (hk : k < 6) h x, arg2.view.readAt (Elt F) (Rect.unit (s := S6) ![k] S1.size h).toLoadRect f2 x = (tabs arg2 arg3 arg4 arg5 arg6 f2 f3 f4 f5 f6).off k :=
    fun k hk h x => rd1 arg2 f2 _ k rfl h (by decide) x
  refine ⟨hfirst_17, hstage_18.1.trans ?_, hstage_18.2.trans ?_, (read_whole arg12.view f12 ![0, 0] (by decide) _ _ _).trans ?_⟩
  · exact congrArg (fun z => if k0_cond2 i = 1#1 then z else hBuf.view.read (Elt F) f16) (hOf_at (hoff 0 (by decide) _ _) (hoff 1 (by decide) _ _) (hoff 1 (by decide) _ _) (hoff 0 (by decide) _ _) (hoff 1 (by decide) _ _) (hoff 2 (by decide) _ _) (hoff 2 (by decide) _ _) (hoff 1 (by decide) _ _) (hoff 2 (by decide) _ _) (hoff 3 (by decide) _ _) (hoff 3 (by decide) _ _) (hoff 2 (by decide) _ _) (hoff 3 (by decide) _ _) (hoff 4 (by decide) _ _) (hoff 4 (by decide) _ _) (hoff 3 (by decide) _ _) (hoff 4 (by decide) _ _) (hoff 5 (by decide) _ _) (hoff 5 (by decide) _ _) (hoff 4 (by decide) _ _) _ _)
  · exact congrArg (fun z => if k0_cond2 i = 1#1 then z else arg13.view.read (Elt F) f13) (gOf_at (hoff 0 (by decide) _ _) (hoff 1 (by decide) _ _) (hoff 1 (by decide) _ _) (hoff 0 (by decide) _ _) (hoff 1 (by decide) _ _) (hoff 2 (by decide) _ _) (hoff 2 (by decide) _ _) (hoff 1 (by decide) _ _) (hoff 2 (by decide) _ _) (hoff 3 (by decide) _ _) (hoff 3 (by decide) _ _) (hoff 2 (by decide) _ _) (hoff 3 (by decide) _ _) (hoff 4 (by decide) _ _) (hoff 4 (by decide) _ _) (hoff 3 (by decide) _ _) (hoff 4 (by decide) _ _) (hoff 5 (by decide) _ _) (hoff 5 (by decide) _ _) (hoff 4 (by decide) _ _) _ _)
  · exact yAt_of (rdWhole arg8.view f8 ![0, 0] (by decide) _) (rdWhole arg9.view f9 ![0, 0] (by decide) _) (rdWhole arg7.view f7 ![0, 0] (by decide) _)
      (rdTile g15first_1 i _ _ (slotAt_lt i _ _ _ _ _ _ _ _ _ _ _ _ _ _ _ _ _ _ _ _ 0#32) (slotAt_at (hoff 0 (by decide) _ _) (hoff 1 (by decide) _ _) (hoff 1 (by decide) _ _) (hoff 0 (by decide) _ _) (hoff 1 (by decide) _ _) (hoff 2 (by decide) _ _) (hoff 2 (by decide) _ _) (hoff 1 (by decide) _ _) (hoff 2 (by decide) _ _) (hoff 3 (by decide) _ _) (hoff 3 (by decide) _ _) (hoff 2 (by decide) _ _) (hoff 3 (by decide) _ _) (hoff 4 (by decide) _ _) (hoff 4 (by decide) _ _) (hoff 3 (by decide) _ _) (hoff 4 (by decide) _ _) (hoff 5 (by decide) _ _) (hoff 5 (by decide) _ _) (hoff 4 (by decide) _ _) 0#32) _ rfl _)
      (rdTile g15first_1 i _ _ (slotAt_lt i _ _ _ _ _ _ _ _ _ _ _ _ _ _ _ _ _ _ _ _ 1#32) (slotAt_at (hoff 0 (by decide) _ _) (hoff 1 (by decide) _ _) (hoff 1 (by decide) _ _) (hoff 0 (by decide) _ _) (hoff 1 (by decide) _ _) (hoff 2 (by decide) _ _) (hoff 2 (by decide) _ _) (hoff 1 (by decide) _ _) (hoff 2 (by decide) _ _) (hoff 3 (by decide) _ _) (hoff 3 (by decide) _ _) (hoff 2 (by decide) _ _) (hoff 3 (by decide) _ _) (hoff 4 (by decide) _ _) (hoff 4 (by decide) _ _) (hoff 3 (by decide) _ _) (hoff 4 (by decide) _ _) (hoff 5 (by decide) _ _) (hoff 5 (by decide) _ _) (hoff 4 (by decide) _ _) 1#32) _ rfl _)
      (rdTile g15first_1 i _ _ (slotAt_lt i _ _ _ _ _ _ _ _ _ _ _ _ _ _ _ _ _ _ _ _ 2#32) (slotAt_at (hoff 0 (by decide) _ _) (hoff 1 (by decide) _ _) (hoff 1 (by decide) _ _) (hoff 0 (by decide) _ _) (hoff 1 (by decide) _ _) (hoff 2 (by decide) _ _) (hoff 2 (by decide) _ _) (hoff 1 (by decide) _ _) (hoff 2 (by decide) _ _) (hoff 3 (by decide) _ _) (hoff 3 (by decide) _ _) (hoff 2 (by decide) _ _) (hoff 3 (by decide) _ _) (hoff 4 (by decide) _ _) (hoff 4 (by decide) _ _) (hoff 3 (by decide) _ _) (hoff 4 (by decide) _ _) (hoff 5 (by decide) _ _) (hoff 5 (by decide) _ _) (hoff 4 (by decide) _ _) 2#32) _ rfl _)
      (rdCol g16stage_2 i _)

end Cert.KernelIdeal.Hand

end

end
-- ==== Proof.Run.lean ====
/-
  The whole run of the kernel: what the buffers it works on hold between the points of its grid, and from any memory
  whose tables stay in their ranges to the end of the program.
-/
module

public import proofs.«01_k».proof.Proof.Body
public import proofs.«01_k».proof.Proof.Gen.KernelIdeal.Frame
public import Idealize.ShloMosaic.Lib.Pipeline.Frame
public import Idealize.ShloMosaic.Lib.Pipeline.TableIdle
public import Idealize.ShloMosaic.Lib.Pipeline.Value

@[expose] public section

noncomputable section

namespace Cert.KernelIdeal.Hand

open Cert.KernelIdeal Cert.KernelIdeal.Gen Cert.LoraWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and the two pools it reads in place -/

abbrev osem0 : Fin 5 → SemLoc sig := fun j =>
  (![SemLoc.dma 15, SemLoc.dma 16, SemLoc.dma 17, SemLoc.dma 18, SemLoc.dma 19] : Fin 5 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(idle c 15 ∗ idle c 16 ∗ idle c 17 ∗ idle c 18 ∗ idle c 19) := by
  rw [Pipeline.ownSems0_eq_of_list c osem0 [0, 1, 2, 3, 4] (by decide) (by decide)]; rfl

/-- The two pools: no window's array. -/
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c poolA (V m c main_arg3) ∗ pt c poolB (V m c main_arg4)) := by
  rw [BI.bigSep_eq_bigSepL_of_eq [main_arg3, main_arg4] (by decide) (by decide)]; rfl

theorem PhiD0_eq (c : Dev nD) :
    (Pipeline.ΦD osem0 spec0 H0 (V m) c : sProp 𝕄)
      = iprop(((∃ f, pt c aWin f) ∗ (∃ f, pt c bWin f) ∗ (∃ f, pt c hBuf f)) ∗ (∃ r, prngReg c r)
          ∗ (idle c 15 ∗ idle c 16 ∗ idle c 17 ∗ idle c 18 ∗ idle c 19)
          ∗ (pt c poolA (V m c main_arg3) ∗ pt c poolB (V m c main_arg4))) := by
  rw [Pipeline.ΦD_eq, scopedRest0_eq, ownSems00_eq, hbmPts0_eq]

/-- The first pool's buffer, cut into the shares its three copies read at. -/
theorem poolA_split (c : Dev nD) (f) :
    (pt c poolA f : sProp 𝕄) ⊣⊢ iprop(ptq c (Transfers.shareDrop fullShare 3) poolA f
      ∗ ptq c (Transfers.shareTokN fullShare 0) poolA f ∗ ptq c (Transfers.shareTokN fullShare 1) poolA f
      ∗ ptq c (Transfers.shareTokN fullShare 2) poolA f) := by
  have h : (pt c poolA f : sProp 𝕄) ⊣⊢ iprop(ptq c (Transfers.shareDrop fullShare 3) poolA f
      ∗ BI.bigSep (Finset.range 3) (fun i => ptq c (Transfers.shareTokN fullShare i) poolA f)) := Transfers.pointsTo_toks_range fullShare 3
  rw [BI.bigSep_eq_bigSepL_of_eq [0, 1, 2] (by decide) (by decide)] at h
  exact h

/-- The second pool's buffer, cut into the shares its five copies read at. -/
theorem poolB_split (c : Dev nD) (f) :
    (pt c poolB f : sProp 𝕄) ⊣⊢ iprop(ptq c (Transfers.shareDrop fullShare 5) poolB f
      ∗ ptq c (Transfers.shareTokN fullShare 0) poolB f ∗ ptq c (Transfers.shareTokN fullShare 1) poolB f
      ∗ ptq c (Transfers.shareTokN fullShare 2) poolB f ∗ ptq c (Transfers.shareTokN fullShare 3) poolB f
      ∗ ptq c (Transfers.shareTokN fullShare 4) poolB f) := by
  have h : (pt c poolB f : sProp 𝕄) ⊣⊢ iprop(ptq c (Transfers.shareDrop fullShare 5) poolB f
      ∗ BI.bigSep (Finset.range 5) (fun i => ptq c (Transfers.shareTokN fullShare i) poolB f)) := Transfers.pointsTo_toks_range fullShare 5
  rw [BI.bigSep_eq_bigSepL_of_eq [0, 1, 2, 3, 4] (by decide) (by decide)] at h
  exact h

/-- A memref over a whole buffer, held at some contents. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-! ## What the buffers hold -/

/-- The tables as launched. -/
def T0 (c : Dev nD) : Tab F :=
  tabOf (V m c main_arg8) (V m c main_arg9) (V m c main_arg5) (V m c main_arg6) (V m c main_arg7)

/-- The first point of row block `b`. -/
def rowPt (b : ℕ) : Fin cfg0.N := ⟨b % 9 * 32, by rw [show cfg0.N = 288 from N_0]; have := Nat.mod_lt b (show 0 < 9 by decide); omega⟩

/-- The row block of `x` at a point. -/
def xAt (c : Dev nD) (t : Fin cfg0.N) : Vec F S768x6144 .bf16 := iblk m c 5 t
/-- The tile of packed words at a point. -/
def wAt (c : Dev nD) (t : Fin cfg0.N) : Vec F S768x512 .i32 := iblk m c 6 t
/-- The tile of scales at a point. -/
def sAt (c : Dev nD) (t : Fin cfg0.N) : Vec F S48x512 .bf16 := iblk m c 7 t
def pA (c : Dev nD) : Vec F S3x600x6144 .bf16 := V m c main_arg3
def pB (c : Dev nD) : Vec F S600x16384 .bf16 := V m c main_arg4

/-- The kept activations of row block `b`. -/
def HB (c : Dev nD) (b : ℕ) : Vec F S3x768x256 .bf16 := hAt (grid0.coords (rowPt b)) (xAt m c (rowPt b)) (pA m c) (T0 m c)
/-- The returned activations of row block `b`. -/
def GB (c : Dev nD) (b : ℕ) : Vec F S768x192 .bf16 := gAt (grid0.coords (rowPt b)) (xAt m c (rowPt b)) (pA m c) (T0 m c)
/-- The windows of the second pool. -/
def BW (c : Dev nD) : Vec F S5x80x16384 .bf16 := winB (pB m c) (T0 m c)
/-- The output tile of a point. -/
def YB (c : Dev nD) (t : Fin cfg0.N) : Vec F S768x512 .bf16 :=
  yAt (grid0.coords t) (wAt m c t) (sAt m c t) (xAt m c t) (BW m c) (HB m c (t.val / 32)) (T0 m c)

/-- Between the points. -/
def Inv (c : Dev nD) (n : ℕ) : sProp 𝕄 :=
  iprop(((∃ f, ⌜0 < n → ZeroTailOf aWin.view f⌝ ∗ pt c aWin f) ∗ (∃ f, ⌜0 < n → bWin.view.read (Elt F) f = BW m c⌝ ∗ pt c bWin f)
      ∗ (∃ f, ⌜n % 32 ≠ 0 → hBuf.view.read (Elt F) f = HB m c (n / 32)⌝ ∗ pt c hBuf f)) ∗ (∃ r, prngReg c r)
    ∗ (idle c 15 ∗ idle c 16 ∗ idle c 17 ∗ idle c 18 ∗ idle c 19)
    ∗ (pt c poolA (V m c main_arg3) ∗ pt c poolB (V m c main_arg4)))

/-- What the windows hold after each point. -/
def dats (_ : Fin 1) (c : Dev nD) : Dat τ (Elt F) Unit ℕ (Pipeline.UD sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => YB m c t
    | 9 => fun t => GB m c (t.val / 32)
    | ⟨_ + 10, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by
    rw [show (dats m 0 c).after 2 t = iblk m c 2 t from rfl]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by
    rw [show (dats m 0 c).after 3 t = iblk m c 3 t from rfl]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by
    rw [show (dats m 0 c).after 4 t = iblk m c 4 t from rfl]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by
    rw [show (dats m 0 c).after 5 t = iblk m c 5 t from rfl]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by
    rw [show (dats m 0 c).after 6 t = iblk m c 6 t from rfl]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by
    rw [show (dats m 0 c).after 7 t = iblk m c 7 t from rfl]; unfold Dat.blockOf iblk; rw [A_eq]; try rfl) t d).trans
    (by unfold Dat.fetched Dat.blockOf iblk; rw [A_eq]; try rfl)

/-! ## The grid -/

theorem coord0 (t : Fin cfg0.N) : (grid0.coords t 0).val = t.val / 32 := by
  have h := Pipeline.Grid.coords_val (G := grid0) t 0 (S := 32) (B := 9) (by decide) (by decide)
  have h2 : t.val < 288 := N_0 ▸ t.isLt
  rw [h]; omega
theorem coord1 (t : Fin cfg0.N) : (grid0.coords t 1).val = t.val % 32 := by
  have h := Pipeline.Grid.coords_val (G := grid0) t 1 (S := 1) (B := 32) (by decide) (by decide)
  rw [h]; omega

theorem cond2_iff (i : grid0.Coords) : k0_cond2 i = 1#1 ↔ (i 1).val = 0 := by
  have h : ∀ n : Fin 32, Scalar.cmpi .ne (Scalar.extui (Scalar.cmpi .eq (BitVec.ofNat 32 n.val) 0#32)) (0#32 : BitVec 32) = 1#1 ↔ n.val = 0 := by
    decide
  exact h (i 1)

theorem cond1_iff (i : grid0.Coords) : k0_cond1 i = 1#1 ↔ (i 0).val = 0 ∧ (i 1).val = 0 := by
  have h : ∀ (a : Fin 9) (n : Fin 32), Scalar.cmpi .ne (Scalar.extui (Scalar.andi (Scalar.cmpi .eq (BitVec.ofNat 32 a.val) 0#32)
      (Scalar.cmpi .eq (BitVec.ofNat 32 n.val) 0#32))) (0#32 : BitVec 32) = 1#1 ↔ a.val = 0 ∧ n.val = 0 := by decide
  exact h (i 0) (i 1)

theorem fresh9 (n : ℕ) (h : n ≤ cfg0.N) : cfg0.fresh 9 n = decide (n % 32 = 0) := by
  refine cfg0.fresh_tab 9 (fun n => decide (n % 32 = 0)) rfl (fun t => ?_) n h
  have h1 : cfg0.idle 9 (cfg0.grid.coords t) = !decide (t.val % 32 = 0) := by
    show (!(k0_cond2 (grid0.coords t) == 1#1)) = _
    congr 1
    rw [Bool.eq_iff_iff, beq_iff_eq, cond2_iff, coord1, decide_eq_true_iff]
  have h2 : (cfg0.win 9).flush t = decide (t.val % 32 = 31) := by
    rw [Bool.eq_iff_iff, flush0_9, decide_eq_true_iff]
  rw [h1, h2, Bool.eq_iff_iff]
  simp only [decide_eq_true_iff, Bool.or_eq_true, Bool.and_eq_true, Bool.not_eq_true', decide_eq_false_iff_not]
  omega

theorem before0_9 (c : Dev nD) (t : Fin cfg0.N) (ht : t.val % 32 ≠ 0) (d) :
    (dats m 0 c).before 9 t d = GB m c (t.val / 32) := by
  rw [(dats m 0 c).before_out_traj 9 rfl (fun _ _ => rfl) (fun t h0 hi hf => ?_) t.val t rfl d, fresh9 _ t.isLt.le, if_neg (by simpa using ht)]
  · show GB m c ((t.val - 1) / 32) = GB m c (t.val / 32)
    rw [show (t.val - 1) / 32 = t.val / 32 by omega]
  · rw [fresh9 _ t.isLt.le] at hf
    have hf' : t.val % 32 ≠ 0 := by simpa using hf
    show GB m c (t.val / 32) = GB m c ((t.val - 1) / 32)
    rw [show (t.val - 1) / 32 = t.val / 32 by omega]

theorem iblk0 (c : Dev nD) (t : Fin cfg0.N) : iblk m c 0 t = V m c main_arg8 := by
  have hz : (fun a => (win0_0.index t) a * main_arg8.ty.shape.size a) = fun _ => 0 := funext fun a => by fin_cases a <;> rfl
  exact Memref.read_access_unit_zero (Elt F) main_arg8 hz (fun a => by fin_cases a <;> exact Nat.le_of_eq rfl) _

theorem iblk1 (c : Dev nD) (t : Fin cfg0.N) : iblk m c 1 t = V m c main_arg9 := by
  have hz : (fun a => (win0_1.index t) a * main_arg9.ty.shape.size a) = fun _ => 0 := funext fun a => by fin_cases a <;> rfl
  exact Memref.read_access_unit_zero (Elt F) main_arg9 hz (fun a => by fin_cases a <;> exact Nat.le_of_eq rfl) _

theorem iblk2 (c : Dev nD) (t : Fin cfg0.N) : iblk m c 2 t = V m c main_arg5 := by
  have hz : (fun a => (win0_2.index t) a * main_arg5.ty.shape.size a) = fun _ => 0 := funext fun a => by fin_cases a <;> rfl
  exact Memref.read_access_unit_zero (Elt F) main_arg5 hz (fun a => by fin_cases a <;> exact Nat.le_of_eq rfl) _

theorem iblk3 (c : Dev nD) (t : Fin cfg0.N) : iblk m c 3 t = V m c main_arg6 := by
  have hz : (fun a => (win0_3.index t) a * main_arg6.ty.shape.size a) = fun _ => 0 := funext fun a => by fin_cases a <;> rfl
  exact Memref.read_access_unit_zero (Elt F) main_arg6 hz (fun a => by fin_cases a <;> exact Nat.le_of_eq rfl) _

theorem iblk4 (c : Dev nD) (t : Fin cfg0.N) : iblk m c 4 t = V m c main_arg7 := by
  have hz : (fun a => (win0_4.index t) a * main_arg7.ty.shape.size a) = fun _ => 0 := funext fun a => by fin_cases a <;> rfl
  exact Memref.read_access_unit_zero (Elt F) main_arg7 hz (fun a => by fin_cases a <;> exact Nat.le_of_eq rfl) _

variable (arg2 : Memref sig .tc .smem S6 .i32) (harg2 : arg2.IsWhole) (arg3 : Memref sig .tc .smem S5 .i32) (harg3 : arg3.IsWhole)
  (arg4 : Memref sig .tc .smem S7 .i32) (harg4 : arg4.IsWhole) (arg5 : Memref sig .tc .smem S7 .i32) (harg5 : arg5.IsWhole)
  (arg6 : Memref sig .tc .smem S7x3 .f32) (harg6 : arg6.IsWhole) (arg7 : Memref sig .tc .vmem S768x6144 .bf16) (harg7 : arg7.IsWhole)
  (arg8 : Memref sig .tc .vmem S768x512 .i32) (harg8 : arg8.IsWhole) (arg9 : Memref sig .tc .vmem S48x512 .bf16) (harg9 : arg9.IsWhole)
  (arg12 : Memref sig .tc .vmem S768x512 .bf16) (harg12 : arg12.IsWhole) (arg13 : Memref sig .tc .vmem S768x192 .bf16) (harg13 : arg13.IsWhole)

/-- The body at one grid point, before any goal. -/
theorem body_run_k (c : Dev nD) (i : grid0.Coords) (f2 f3 f4 f5 f6 f7 f8 f9 fA fB f12 f13 f14 f15 f16) (W : Waits sig Unit)
    (hd3 : ∀ r x, (arg3.view.readAt (Elt F) r f3 x : BitVec 32).toNat < 7)
    (hd4 : ∀ r x, (arg4.view.readAt (Elt F) r f4 x : BitVec 32).toNat < 2 ^ 31) (hz : k0_cond1 i = 1#1 ∨ ZeroTailOf aWin.view f14) (K : PUnit → sProp 𝕄) :
    iprop(iprop(pt c arg2 f2 ∗ pt c arg3 f3 ∗ pt c arg4 f4 ∗ pt c arg5 f5 ∗ pt c arg6 f6 ∗ pt c arg7 f7 ∗ pt c arg8 f8 ∗ pt c arg9 f9
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ pt c arg12 f12 ∗ pt c arg13 f13 ∗ pt c aWin f14 ∗ pt c bWin f15 ∗ pt c hBuf f16
      ∗ idle c 15 ∗ idle c 16 ∗ idle c 17 ∗ idle c 18 ∗ idle c 19 ∗ owes (c : Thread nD τ) 0 W) ∗ (iprop(pt c arg2 f2 ∗ pt c arg3 f3 ∗ pt c arg4 f4 ∗ pt c arg5 f5 ∗ pt c arg6 f6 ∗ pt c arg7 f7 ∗ pt c arg8 f8 ∗ pt c arg9 f9
      ∗ ptq c (Transfers.shareDrop fullShare 3) poolA fA
      ∗ ptq c (Transfers.shareTokN fullShare 0) poolA fA ∗ ptq c (Transfers.shareTokN fullShare 1) poolA fA
      ∗ ptq c (Transfers.shareTokN fullShare 2) poolA fA
      ∗ ptq c (Transfers.shareDrop fullShare 5) poolB fB
      ∗ ptq c (Transfers.shareTokN fullShare 0) poolB fB ∗ ptq c (Transfers.shareTokN fullShare 1) poolB fB
      ∗ ptq c (Transfers.shareTokN fullShare 2) poolB fB ∗ ptq c (Transfers.shareTokN fullShare 3) poolB fB
      ∗ ptq c (Transfers.shareTokN fullShare 4) poolB fB
      ∗ idle c 15 ∗ idle c 16 ∗ idle c 17 ∗ idle c 18 ∗ idle c 19
      ∗ ∃ g12 g13 g14 g15 g16 W', pt c arg12 g12 ∗ pt c arg13 g13 ∗ pt c aWin g14 ∗ pt c bWin g15 ∗ pt c hBuf g16 ∗ owes (c : Thread nD τ) 0 W'
      ∗ ⌜ZeroTailOf aWin.view g14⌝
      ∗ ⌜bWin.view.read (Elt F) g15 = (if k0_cond1 i = 1#1 then winB (poolB.view.read (Elt F) fB) (tabs arg2 arg3 arg4 arg5 arg6 f2 f3 f4 f5 f6) else bWin.view.read (Elt F) f15)
        ∧ hBuf.view.read (Elt F) g16 = (if k0_cond2 i = 1#1 then
            hAt i (arg7.view.read (Elt F) f7) (poolA.view.read (Elt F) fA) (tabs arg2 arg3 arg4 arg5 arg6 f2 f3 f4 f5 f6) else hBuf.view.read (Elt F) f16)
        ∧ arg13.view.read (Elt F) g13 = (if k0_cond2 i = 1#1 then
            gAt i (arg7.view.read (Elt F) f7) (poolA.view.read (Elt F) fA) (tabs arg2 arg3 arg4 arg5 arg6 f2 f3 f4 f5 f6) else arg13.view.read (Elt F) f13)
        ∧ arg12.view.read (Elt F) g12 = yAt i (arg8.view.read (Elt F) f8) (arg9.view.read (Elt F) f9) (arg7.view.read (Elt F) f7)
            (bWin.view.read (Elt F) g15) (hBuf.view.read (Elt F) g16) (tabs arg2 arg3 arg4 arg5 arg6 f2 f3 f4 f5 f6)⌝) -∗ K ⟨⟩))
      ⊢ wp frame (wpE (defs₀ (F := F)) Variants.none c none) Set.univ (cc0_multislice_lora_int4 (F := F) i arg2 harg2 arg3 harg3 arg4 harg4 arg5 harg5 arg6 harg6 arg7 harg7 arg8 harg8 arg9 harg9 poolA (Memref.isWhole_whole _) poolB (Memref.isWhole_whole _) arg12 harg12 arg13 harg13 aWin (Memref.isWhole_whole _) bWin (Memref.isWhole_whole _) hBuf (Memref.isWhole_whole _) cc0_scratch3) K :=
  (sep_mono (body_run arg2 harg2 arg3 harg3 arg4 harg4 arg5 harg5 arg6 harg6 arg7 harg7 arg8 harg8 arg9 harg9 arg12 harg12 arg13 harg13 c i f2 f3 f4 f5 f6 f7 f8 f9 fA fB f12 f13 f14 f15 f16 W hd3 hd4 hz) (forall_intro fun _ => .rfl)).trans
    (wp_wand_r _ _ _)

/-- What the returned activations' window is left with. -/
def leaves9 (c : Dev nD) (t : Fin cfg0.N) : sProp 𝕄 :=
  match cfg0.idle 9 (cfg0.grid.coords t) with
  | true =>
    match (cfg0.win 9).flush t with
    | false => iprop(∃ d, owns (c : Thread nD τ) ((cfg0.win 9).stage (cfg0.slots t 9)) fullShare ((dats m 0 c).before 9 t d))
    | true => owns (c : Thread nD τ) ((cfg0.win 9).stage (cfg0.slots t 9)) fullShare ((dats m 0 c).after 9 t)
  | false => owns (c : Thread nD τ) ((cfg0.win 9).stage (cfg0.slots t 9)) fullShare ((dats m 0 c).after 9 t)

theorem leaves9_intro (c : Dev nD) (t : Fin cfg0.N) :
    (owns (c : Thread nD τ) (st0_9 t) fullShare (GB m c (t.val / 32)) : sProp 𝕄) ⊢ leaves9 m c t := by
  unfold leaves9
  have hi : cfg0.idle 9 (cfg0.grid.coords t) = true → t.val % 32 ≠ 0 := fun h h0 => by
    have h1 : k0_cond2 (grid0.coords t) = 1#1 := (cond2_iff _).mpr ((coord1 t).trans h0)
    have h2 : (!(k0_cond2 (grid0.coords t) == 1#1)) = true := h
    rw [h1] at h2
    exact absurd h2 (by decide)
  cases h : cfg0.idle 9 (cfg0.grid.coords t)
  · exact .rfl
  · cases (cfg0.win 9).flush t
    · iintro H
      iexists GB m c (t.val / 32)
      rw [before0_9 m c t (hi h)]
      iexact H
    · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ leaves9 m c t)

variable (hseg : ∀ (c : Dev nD) j, (V m c main_arg9 j : BitVec 32).toNat < 7)
  (hstart : ∀ (c : Dev nD) j, (V m c main_arg5 j : BitVec 32).toNat < 2 ^ 31)

include hseg hstart in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl]
  unfold Dat.owesAt Pipeline.owesWithin
  rw [show (dats m 0 c).owed t.castSucc = 0 from rfl, show (dats m 0 c).owed t.succ = 0 from rfl]
  simp only [before0_0, before0_1, before0_2, before0_3, before0_4, before0_5, before0_6, before0_7]
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9))]
  unfold Inv
  iintro ⟨⟨⟨⟨%f14, %h14, H14⟩, ⟨%f15, %h15, H15⟩, ⟨%f16, %h16, H16⟩⟩, Hg, ⟨S0, S1, S2, S3, S4⟩, ⟨HA, HB⟩⟩, ⟨%W, %hW, HO⟩,
    ⟨%d0, %f2, %h2, H2⟩, ⟨%d1, %f3, %h3, H3⟩, ⟨%d2, %f4, %h4, H4⟩, ⟨%d3, %f5, %h5, H5⟩, ⟨%d4, %f6, %h6, H6⟩, ⟨%d5, %f7, %h7, H7⟩,
    ⟨%d6, %f8, %h8, H8⟩, ⟨%d7, %f9, %h9, H9⟩, ⟨%d8, %f12, %h12, H12⟩, ⟨%d9, %f13, %h13, H13⟩⟩
  have hd3 : ∀ r x, ((st0_1 t).view.readAt (Elt F) r f3 x : BitVec 32).toNat < 7 := fun r x => by
    rw [View.readAt_apply, h3, iblk1]; exact hseg c _
  have hd4 : ∀ r x, ((st0_2 t).view.readAt (Elt F) r f4 x : BitVec 32).toNat < 2 ^ 31 := fun r x => by
    rw [View.readAt_apply, h4, iblk2]; exact hstart c _
  have ht : t.val < 288 := N_0 ▸ t.isLt
  have hz : k0_cond1 (grid0.coords t) = 1#1 ∨ ZeroTailOf aWin.view f14 := by
    by_cases h0 : t.val = 0
    · exact Or.inl ((cond1_iff _).mpr ⟨(coord0 t).trans (by omega), (coord1 t).trans (by omega)⟩)
    · exact Or.inr (h14 (by omega))
  ihave ⟨HA, HA0, HA1, HA2⟩ := (poolA_split c _).1 $$ HA
  ihave ⟨HB, HB0, HB1, HB2, HB3, HB4⟩ := (poolB_split c _).1 $$ HB
  iapply (body_run_k (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9))
    c (grid0.coords t) f2 f3 f4 f5 f6 f7 f8 f9 (V m c main_arg3) (V m c main_arg4) f12 f13 f14 f15 f16 W hd3 hd4 hz _)
  isplitr [Hg]
  · iframe
  iintro ⟨H2, H3, H4, H5, H6, H7, H8, H9, HA, HA0, HA1, HA2, HB, HB0, HB1, HB2, HB3, HB4, S0, S1, S2, S3, S4,
    ⟨%g12, %g13, %g14, %g15, %g16, %W', H12, H13, H14, H15, H16, HO, %hzz, %hx⟩⟩
  obtain ⟨e15, e16, e13, e12⟩ := hx
  have eT : tabs (st0_0 t) (st0_1 t) (st0_2 t) (st0_3 t) (st0_4 t) f2 f3 f4 f5 f6 = T0 m c := by
    unfold T0
    rw [← iblk0 m c t, ← iblk1 m c t, ← iblk2 m c t, ← iblk3 m c t, ← iblk4 m c t, ← h2, ← h3, ← h4, ← h5, ← h6]
  rw [eT] at e15 e16 e13 e12
  have hr : t.val % 32 = 0 → rowPt (t.val / 32) = t := fun h => Fin.ext (by
    show t.val / 32 % 9 * 32 = t.val
    omega)
  have E15 : bWin.view.read (Elt F) g15 = BW m c := by
    rw [e15]
    by_cases h0 : t.val = 0
    · rw [if_pos ((cond1_iff _).mpr ⟨(coord0 t).trans (by omega), (coord1 t).trans (by omega)⟩)]; rfl
    · rw [if_neg (fun h => h0 (by
        have h1 := (cond1_iff _).mp h
        rw [coord0, coord1] at h1
        omega))]
      exact h15 (by omega)
  have E16 : hBuf.view.read (Elt F) g16 = HB m c (t.val / 32) := by
    rw [e16]
    by_cases h0 : t.val % 32 = 0
    · rw [if_pos ((cond2_iff _).mpr ((coord1 t).trans h0))]
      unfold HB xAt
      rw [hr h0, ← h7]; rfl
    · rw [if_neg (fun h => h0 ((coord1 t).symm.trans ((cond2_iff _).mp h)))]
      exact h16 h0
  have E13 : (st0_9 t).view.read (Elt F) g13 = GB m c (t.val / 32) := by
    rw [e13]
    by_cases h0 : t.val % 32 = 0
    · rw [if_pos ((cond2_iff _).mpr ((coord1 t).trans h0))]
      unfold GB xAt
      rw [hr h0, ← h7]; rfl
    · rw [if_neg (fun h => h0 ((coord1 t).symm.trans ((cond2_iff _).mp h))), h13, before0_9 m c t h0]
  have E12 : (st0_8 t).view.read (Elt F) g12 = YB m c t := by
    rw [e12, E15, E16, h7, h8, h9]; rfl
  isplitl [H14 H15 H16 Hg S0 S1 S2 S3 S4 HA HA0 HA1 HA2 HB HB0 HB1 HB2 HB3 HB4]
  · isplitl [H14 H15 H16]
    · isplitl [H14]
      · iexists g14; isplitr; · ipureintro; exact fun _ => hzz
        iexact H14
      isplitl [H15]
      · iexists g15; isplitr; · ipureintro; exact fun _ => E15
        iexact H15
      iexists g16; isplitr
      · ipureintro; intro h; rw [E16, show (t.val + 1) / 32 = t.val / 32 by omega]
      iexact H16
    isplitl [Hg]; · iexact Hg
    isplitl [S0 S1 S2 S3 S4]; · iframe
    isplitl [HA HA0 HA1 HA2]
    · iapply (poolA_split c _).2; iframe
    iapply (poolB_split c _).2; iframe
  isplitl [HO]
  · iexists W'; isplitr; · ipureintro; exact fun _ _ => Or.inl trivial
    iexact HO
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H12]
  · iexists g12; isplitr; · ipureintro; exact E12
    iexact H12
  iapply leaves9_intro
  rw [owns_pt c (st0_9 t) (hstage0_9 ((cfg0.slots t 9).cast nbuf0_9))]
  iexists g13; isplitr; · ipureintro; exact E13
  iexact H13

/-! ## The launch -/

theorem defs₀_row (t : Fin cfg0.N) : defs₀ (F := F) .tc cfg0.body (cfg0.bodyArgs t (cfg0.slots t)) = bodyAt0 t := by
  unfold defs₀; rw [Defs.onTc_tc]

include hseg hstart in
theorem body_obligation (c : Dev nD) : BodyObligation (dats (F := F) m 0 c) (defs₀ (F := F)) Variants.none () Set.univ := fun t => by
  rw [bigSep_W0, bigSep_W0, defs₀_row]
  exact triple_restated (sound_body m hseg hstart c t) rfl .rfl fun _ => .rfl

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem phi_in (c : Dev nD) : (Pipeline.ΦD osem0 spec0 H0 (V m) c : sProp 𝕄) ⊢ (dats m 0 c).Φ 0 := by
  rw [PhiD0_eq, show (dats m 0 c).Φ 0 = Inv m c 0 from rfl]
  unfold Inv
  iintro ⟨⟨⟨%f14, H14⟩, ⟨%f15, H15⟩, ⟨%f16, H16⟩⟩, HR⟩
  isplitr [HR]
  · isplitl [H14]
    · iexists f14; isplitr; · ipureintro; exact fun h => absurd h (lt_irrefl 0)
      iexact H14
    isplitl [H15]
    · iexists f15; isplitr; · ipureintro; exact fun h => absurd h (lt_irrefl 0)
      iexact H15
    iexists f16; isplitr; · ipureintro; exact fun h => absurd rfl h
    iexact H16
  iexact HR

theorem phi_out (c : Dev nD) : (dats m 0 c).Φ (Fin.last cfg0.N) ⊢ (Pipeline.ΦD osem0 spec0 H0 (V m) c : sProp 𝕄) := by
  rw [PhiD0_eq, show (dats m 0 c).Φ (Fin.last cfg0.N) = Inv m c cfg0.N from rfl]
  unfold Inv
  iintro ⟨⟨⟨%f14, -, H14⟩, ⟨%f15, -, H15⟩, ⟨%f16, -, H16⟩⟩, HR⟩
  isplitr [HR]
  · isplitl [H14]; · iexists f14; iexact H14
    isplitl [H15]; · iexists f15; iexact H15
    iexists f16; iexact H16
  iexact HR

set_option backward.isDefEq.respectTransparency.types false in
include hseg hstart in
/-- Every run of the program from a memory whose tables stay in their ranges ends, its arrays holding what the proof data say. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hseg hstart c).loose) (hshare := fun c => (dats m 0 c).share_full fun _ => rfl)
    (howed := fun _ _ => rfl) (V := V m) (hmain := hmainD m Variants.none) (hA := A_eq m)
    (hin := phi_in m) (hout := phi_out m)

include hseg hstart in
/-- The program leaves its arguments alone. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 6).trans (((dats m 0 c).arrAt_in 6 rfl _).trans ((A_eq m c 6).trans (V_main_arg1 m c))),
      ((h.1 c).1 7).trans (((dats m 0 c).arrAt_in 7 rfl _).trans ((A_eq m c 7).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 2).trans (((dats m 0 c).arrAt_in 2 rfl _).trans ((A_eq m c 2).trans (V_main_arg5 m c))),
      ((h.1 c).1 3).trans (((dats m 0 c).arrAt_in 3 rfl _).trans ((A_eq m c 3).trans (V_main_arg6 m c))),
      ((h.1 c).1 4).trans (((dats m 0 c).arrAt_in 4 rfl _).trans ((A_eq m c 4).trans (V_main_arg7 m c))),
      ((h.1 c).1 0).trans (((dats m 0 c).arrAt_in 0 rfl _).trans ((A_eq m c 0).trans (V_main_arg8 m c))),
      ((h.1 c).1 1).trans (((dats m 0 c).arrAt_in 1 rfl _).trans ((A_eq m c 1).trans (V_main_arg9 m c)))⟩, h.2⟩)
    (run_main m ρ hseg hstart)

include hseg hstart in
/-- The program's results are the arrays of its two output windows after the last point; it leaves its arguments alone. -/
theorem value_main :
    θ_run defs (onTc (τ := τ) (main (F := F))) ⟨m, fun _ => 0, ρ⟩ (fun r => ∀ c : Dev nD,
      r.2.mem ((c.tc : Thread nD τ).loc main_v1_0) = (dats m 0 c).arrAt 8 (cfgs 0).N
      ∧ r.2.mem ((c.tc : Thread nD τ).loc main_v1_1) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c).1 8, (h.1 c).1 9, ((h.1 c).2 main_arg0 (Pipeline.mem_restRefs_of main_arg0 (by decide) (by decide))).trans (V_main_arg0 m c),
      ((h.1 c).1 6).trans (((dats m 0 c).arrAt_in 6 rfl _).trans ((A_eq m c 6).trans (V_main_arg1 m c))),
      ((h.1 c).1 7).trans (((dats m 0 c).arrAt_in 7 rfl _).trans ((A_eq m c 7).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 2).trans (((dats m 0 c).arrAt_in 2 rfl _).trans ((A_eq m c 2).trans (V_main_arg5 m c))),
      ((h.1 c).1 3).trans (((dats m 0 c).arrAt_in 3 rfl _).trans ((A_eq m c 3).trans (V_main_arg6 m c))),
      ((h.1 c).1 4).trans (((dats m 0 c).arrAt_in 4 rfl _).trans ((A_eq m c 4).trans (V_main_arg7 m c))),
      ((h.1 c).1 0).trans (((dats m 0 c).arrAt_in 0 rfl _).trans ((A_eq m c 0).trans (V_main_arg8 m c))),
      ((h.1 c).1 1).trans (((dats m 0 c).arrAt_in 1 rfl _).trans ((A_eq m c 1).trans (V_main_arg9 m c)))⟩)
    (run_main m ρ hseg hstart)

end Cert.KernelIdeal.Hand

end

end
-- ==== Proof.Printed.lean ====
/-
  The program as printed and its idealization are one text: with no rewrite applied the two read the same
  at every float model. So what is proved of the idealization's text at any float model holds of the
  printed program at the model of bits.
-/
module

public import proofs.«01_k».proof.Proof.Run
public import proofs.«01_k».proof.Proof.Gen.Kernel

@[expose] public section

noncomputable section

namespace Cert.Printed

open Idealize.ShloMosaic Idealize.ShloMosaic.TcCoe Idealize.SL.Sem

variable {F : FTy → Type} [FloatOps F]

/-- One host program. -/
theorem main_eq : Cert.Kernel.main (F := F) = Cert.KernelIdeal.main (F := F) := rfl

set_option maxHeartbeats 20000000 in
set_option maxRecDepth 100000 in
/-- One kernel body. -/
theorem body_eq : Cert.Kernel.cc0_multislice_lora_int4 (F := F) = Cert.KernelIdeal.cc0_multislice_lora_int4 (F := F) := rfl

/-- One table of bodies. -/
theorem defs₀_eq : Cert.Kernel.defs₀ (F := F) = Cert.KernelIdeal.defs₀ (F := F) := by
  unfold Cert.Kernel.defs₀ Cert.KernelIdeal.defs₀
  rw [body_eq]
  refine congrArg Defs.onTc (funext fun l => funext fun a => ?_)
  match l, a with
  | 0, (t, s) => rfl
  | ⟨_ + 1, h⟩, _ => exact absurd h (Nat.not_lt.2 (Nat.le_add_left _ _))

/-- One table of everything the program calls. -/
theorem defs_eq : Cert.Kernel.defs (F := F) = Cert.KernelIdeal.defs (F := F) := by
  unfold Cert.Kernel.defs Cert.KernelIdeal.defs
  rw [defs₀_eq]
  rfl

end Cert.Printed

end

end
-- ==== Proof.Frames.lean ====
/-
  The frames. The kernel's is proved once, at any float model; the printed program's is that one read at
  the model of bits, and the idealization's that one read at the extended reals.
-/
module

public import proofs.«01_k».proof.Defs
public import proofs.«01_k».proof.Proof.Pool
public import proofs.«01_k».proof.Proof.Fits
public import proofs.«01_k».proof.Proof.Printed
public import proofs.«01_k».proof.Proof.Gen.ReferenceIdeal.Run

@[expose] public section

noncomputable section

namespace Cert.Proof

open Idealize.ShloMosaic Idealize.ShloMosaic.TcCoe Idealize.SL.Sem

/-- The idealized kernel ends, its arguments unchanged and its counters at zero. -/
theorem frame_KernelIdeal : Cert.quiescent_KernelIdeal (hKernelIdeal := Cert.KernelIdeal.Gen.facts) (hPre_in_pool := Cert.Pre_in_pool.facts) := by
  intro m g hpre
  exact Cert.KernelIdeal.Hand.frame_main (F := Ideal) m g
    (fun c j => by rw [Cert.KernelIdeal.Gen.V_main_arg9 m c]; exact (Cert.Pre_in_pool.decode _ _ _ _ _ _ _ _ _ _ (hpre c)).1 j)
    (fun c j => by rw [Cert.KernelIdeal.Gen.V_main_arg5 m c]; exact (Cert.Pre_in_pool.decode _ _ _ _ _ _ _ _ _ _ (hpre c)).2 j)

/-- The printed kernel ends, its arguments unchanged and its counters at zero. -/
theorem frame_Kernel : Cert.quiescent_Kernel (hKernel := Cert.Kernel.Gen.facts) (hPre_in_pool := Cert.Pre_in_pool.facts) := by
  intro m g hpre
  rw [Cert.Printed.defs_eq, Cert.Printed.main_eq]
  exact Cert.KernelIdeal.Hand.frame_main (F := Bits) m g
    (fun c j => by rw [Cert.KernelIdeal.Gen.V_main_arg9 m c]; exact (Cert.Pre_in_pool.decode _ _ _ _ _ _ _ _ _ _ (hpre c)).1 j)
    (fun c j => by rw [Cert.KernelIdeal.Gen.V_main_arg5 m c]; exact (Cert.Pre_in_pool.decode _ _ _ _ _ _ _ _ _ _ (hpre c)).2 j)

/-- The reference ends, its arguments unchanged and its counters at zero: it declares no semaphore. -/
theorem frame_ReferenceIdeal : Cert.quiescent_ReferenceIdeal (hReferenceIdeal := Cert.ReferenceIdeal.Gen.facts) := by
  intro m g _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The same of the idealized kernel under the second precondition, which says more. -/
theorem frame_KernelIdeal_fits : Cert.quiescent_KernelIdeal_pre_fits (hKernelIdeal := Cert.KernelIdeal.Gen.facts) (hPre_fits := Cert.Pre_fits.facts) := by
  intro m g hpre
  exact Cert.KernelIdeal.Hand.frame_main (F := Ideal) m g
    (fun c j => by rw [Cert.KernelIdeal.Gen.V_main_arg9 m c]; exact (Cert.Pre_fits.decode _ _ _ _ _ _ _ _ _ _ (hpre c)).1 j)
    (fun c j => by
      rw [Cert.KernelIdeal.Gen.V_main_arg5 m c]
      exact lt_of_le_of_lt ((Cert.Pre_fits.decode _ _ _ _ _ _ _ _ _ _ (hpre c)).2.1 j) (by decide))

/-- The same of the reference. -/
theorem frame_ReferenceIdeal_fits : Cert.quiescent_ReferenceIdeal_pre_fits (hReferenceIdeal := Cert.ReferenceIdeal.Gen.facts) (hPre_fits := Cert.Pre_fits.facts) := by
  intro m g _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m g)

end Cert.Proof

end

end
-- ==== Proof.Spec.lean ====
/-
  The numbers both programs compute, entry by entry, on the extended reals: a row's activation on one lane of a
  segment's adapter, the correction a row gets at an output column, and the base product with the unpacked weights.
-/
module

public import proofs.«01_k».proof.Proof.Block

@[expose] public section

noncomputable section

namespace Cert.Lora

open Idealize.ShloMosaic Cert.KernelIdeal.Hand

/-- The adapter of segment `s`. -/
def ad (T : Tab Ideal) (s : ℕ) : ℕ := (T.seg s).toNat

/-- Row `R` is one of segment `s`'s rows. -/
def InRow (T : Tab Ideal) (s : ℕ) (R : ℤ) : Prop := (T.off s).toInt ≤ R ∧ R < (T.off (s + 1)).toInt

instance (T : Tab Ideal) (s : ℕ) (R : ℤ) : Decidable (InRow T s R) := by unfold InRow; infer_instance

/-- Row `k` of a pool of 600 rows. -/
def row600 (k : ℕ) : Fin 600 := ⟨k % 600, Nat.mod_lt _ (by decide)⟩

/-- The activation of row `R`, whose entries are `x`, on lane `j` of group `g` of segment `s`'s adapter: zero unless the
    row is the segment's and the lane the adapter's. -/
def hv (T : Tab Ideal) (P : Fin 3 → Fin 600 → Fin 6144 → EReal) (x : Fin 6144 → EReal) (R : ℤ) (s : ℕ) (g : Fin 3) (j : ℕ) : EReal :=
  if InRow T s R ∧ (j : ℤ) < (T.rank (ad T s)).toInt then
    (∑ k : Fin 6144, x k * P g (row600 ((T.start (ad T s)).toNat + j)) k) * T.scal (ad T s) g
  else 0

/-- What segment `s` adds to row `R` at a column whose entries in the second pool are `Q`. -/
def dv (T : Tab Ideal) (P : Fin 3 → Fin 600 → Fin 6144 → EReal) (Q : Fin 600 → EReal) (x : Fin 6144 → EReal) (R : ℤ) (s : ℕ) (g : Fin 3) : EReal :=
  ∑ j : Fin 64, hv T P x R s g j.val * Q (row600 ((T.start (ad T s)).toNat + j.val))

/-- The group of a column. -/
def colGroup (n : ℕ) : Fin 3 := if n < 8192 then 0 else if n < 12288 then 1 else 2

/-- The four-bit field `j` of a word, as a signed number. -/
def nib (w : BitVec 32) (j : ℕ) : BitVec 32 := (w <<< (28 - 4 * j)).sshiftRight 28

/-- The product of a row with a column of unpacked weights: each word holds eight rows, each scale covers 128. -/
def bv (wd : Fin 768 → BitVec 32) (sc : Fin 48 → EReal) (x : Fin 6144 → EReal) : EReal :=
  ∑ k : Fin 6144, x k * (((nib (wd ⟨k.val / 8, by omega⟩) (k.val % 8)).toInt : ℝ) * sc ⟨k.val / 128, by omega⟩)

end Cert.Lora

end

end
-- ==== Proof.LaneWords.lean ====
/-
  Words of a lane number: its group of 80 lanes and its place in the group.
-/
module

public import proofs.«01_k».proof.Proof.Words
public import Idealize.ShloMosaic.Lib.Affine

@[expose] public section

namespace Cert.LoraWords

open Idealize.ShloMosaic

/-- The word of a lane's group as the kernel computes it. -/
def grp (L : ℕ) : BitVec 32 :=
  IntOp.addi (BitVec.setWidth 32 (Scalar.cmpi .sge (BitVec.ofNat 32 L) 80#32)) (BitVec.setWidth 32 (Scalar.cmpi .sge (BitVec.ofNat 32 L) 160#32))

theorem grp_fin : ∀ L : Fin 256, grp L.val = BitVec.ofNat 32 (min (L.val / 80) 2) := by decide +kernel

theorem grp_eq {L : ℕ} (h : L < 256) : grp L = BitVec.ofNat 32 (min (L / 80) 2) := grp_fin ⟨L, h⟩

/-- The word of a lane's place in its group. -/
def plc (L : ℕ) : BitVec 32 := IntOp.subi (BitVec.ofNat 32 L) (IntOp.muli (grp L) 80#32)

theorem plc_fin : ∀ L : Fin 256, plc L.val = BitVec.ofNat 32 (L.val - 80 * min (L.val / 80) 2) := by decide +kernel

theorem plc_eq {L : ℕ} (h : L < 256) : plc L = BitVec.ofNat 32 (L - 80 * min (L / 80) 2) := plc_fin ⟨L, h⟩

theorem toInt_small {a : ℕ} (ha : a < 2 ^ 30) : (BitVec.ofNat 32 a).toInt = (a : ℤ) := by
  have h : (BitVec.ofNat 32 a).toNat = a := by rw [BitVec.toNat_ofNat]; omega
  rw [BitVec.toInt_eq_toNat_of_lt (by rw [h]; omega), h]

/-- The difference of two small words. -/
theorem toInt_sub_small {a : ℕ} {δ : BitVec 32} (ha : a < 1024) (hd : δ.toNat < 1024) :
    (IntOp.subi (BitVec.ofNat 32 a) δ).toInt = (a : ℤ) - δ.toNat := by
  show (BitVec.ofNat 32 a - δ).toInt = _
  rw [BitVec.toInt_sub, BitVec.toInt_eq_toNat_of_lt (x := δ) (by omega), toInt_small (by omega), Int.bmod_def]
  omega

/-- The sum of two small words. -/
theorem toInt_add_small {a b : ℕ} (ha : a < 2 ^ 20) (hb : b < 2 ^ 20) :
    (IntOp.addi (BitVec.ofNat 32 a) (BitVec.ofNat 32 b)).toInt = (a : ℤ) + b := by
  show (BitVec.ofNat 32 a + BitVec.ofNat 32 b).toInt = _
  rw [BitVec.toInt_add, toInt_small (by omega), toInt_small (by omega), Int.bmod_def]
  omega

theorem select_eq_ite {α : Type} (c : BitVec 1) (a b : α) : Scalar.select c a b = if c = 1#1 then a else b := rfl

end Cert.LoraWords

end
-- ==== Proof.Act.lean ====
/-
  A slot's activations at an entry, on the extended reals: lane `δ + j` of group `g` holds the activation on the
  adapter's lane `j`, every other lane holds zero.
-/
module

public import proofs.«01_k».proof.Proof.Spec
public import proofs.«01_k».proof.Proof.LaneWords
public import proofs.«01_k».proof.Proof.Stage
public import Idealize.ShloMosaic.Lib.Pointwise

@[expose] public section

noncomputable section

namespace Cert.KernelIdeal.Hand

open Cert.KernelIdeal Cert.KernelIdeal.Gen Cert.LoraWords Cert.Lora
open Idealize.ShloMosaic Idealize.ShloMosaic.TcCoe Idealize.ShloMosaic.Tactic

/-- What the preconditions give of a segment `s`: its adapter's rows start early enough and are few enough. -/
structure SegFits (T : Tab Ideal) (s : ℕ) : Prop where
  start_le : (T.start (ad T s)).toNat ≤ 536
  rank_le : (T.rank (ad T s)).toInt ≤ 64
  sum_le : ((T.start (ad T s)).toNat : ℤ) + (T.rank (ad T s)).toInt ≤ 592

/-- How far into its window a segment's adapter starts. -/
def lagN (T : Tab Ideal) (s : ℕ) : ℕ := (T.start (ad T s)).toNat - (base (T.start (ad T s))).toNat

theorem base_add_lag {T : Tab Ideal} {s : ℕ} (h : SegFits T s) :
    (base (T.start (ad T s))).toNat + lagN T s = (T.start (ad T s)).toNat := by
  have := h.start_le
  unfold lagN
  rw [base_toNat (by omega)]
  omega

theorem lagN_le {T : Tab Ideal} {s : ℕ} (h : SegFits T s) : lagN T s ≤ 24 := by
  have := h.start_le
  unfold lagN
  rw [base_toNat (by omega)]
  omega

theorem lag_word {T : Tab Ideal} {s : ℕ} (h : SegFits T s) :
    (Scalar.subi (T.start (ad T s)) (base (T.start (ad T s)))).toNat = lagN T s := by
  have h1 := base_add_lag h
  have h2 : (T.start (ad T s)).toNat < 2 ^ 32 := (T.start (ad T s)).isLt
  show (T.start (ad T s) - base (T.start (ad T s))).toNat = _
  rw [BitVec.toNat_sub]
  omega

/-- An adapter's lane that is kept lies in the window. -/
theorem lane_lt {T : Tab Ideal} {s : ℕ} (h : SegFits T s) {j : ℕ} (hj : (j : ℤ) < (T.rank (ad T s)).toInt) :
    j < 64 ∧ lagN T s + j < 80 := by
  have h1 := base_add_lag h
  have h2 := h.start_le
  have h3 := h.rank_le
  have h4 := h.sum_le
  rw [base_toNat (by omega)] at h1
  omega

/-- The activations `f`, by group and lane, placed `δ` lanes up in groups of 80 lanes. -/
def lane (δ : ℕ) (f : Fin 3 → ℕ → EReal) (L : ℕ) : EReal :=
  if L < 240 ∧ δ ≤ L % 80 then f ⟨L / 80 % 3, Nat.mod_lt _ (by decide)⟩ (L % 80 - δ) else 0

/-- The rows and columns of the first pool. -/
def pF (P : Vec Ideal S3x600x6144 .bf16) : Fin 3 → Fin 600 → Fin 6144 → EReal := fun g a k => P (ix3 g a k)
/-- A row of a block. -/
def xF (x : Vec Ideal S768x6144 .bf16) (r : Fin 768) : Fin 6144 → EReal := fun k => x (ix2 r k)

theorem winA_apply (P : Vec Ideal S3x600x6144 .bf16) (st : BitVec 32) (L : Fin 256) (k : Fin 6144) (h : L.val < 240) :
    winA P st (ix2 L k) = pF P ⟨L.val / 80, Nat.div_lt_of_lt_mul h⟩ (row600 ((base st).toNat + L.val % 80)) k := by
  unfold winA pF row600
  rw [dif_pos (show ((ix2 L k : S256x6144.Idx) 0).val < 240 from h), ix3_eq_valueIdx]
  rfl

theorem act_read (v0 : BitVec 32) (x : Vec Ideal S768x6144 .bf16) (P : Vec Ideal S3x600x6144 .bf16) (T : Tab Ideal) (w : BitVec 32)
    (r : Fin 768) (L : Fin 256) :
    act v0 x P T w (ix2 r L) =
      Scalar.select (IntOp.andi (IntOp.andi (IntOp.andi
        (Scalar.cmpi .sge (IntOp.addi v0 (BitVec.ofNat 32 r.val)) (T.off w.toNat))
        (Scalar.cmpi .slt (IntOp.addi v0 (BitVec.ofNat 32 r.val)) (T.off (Scalar.addi w 1#32).toNat)))
        (Scalar.cmpi .sge (IntOp.subi (plc L.val) (Scalar.subi (T.start (T.seg w.toNat).toNat) (base (T.start (T.seg w.toNat).toNat)))) 0#32))
        (Scalar.cmpi .slt (IntOp.subi (plc L.val) (Scalar.subi (T.start (T.seg w.toNat).toNat) (base (T.start (T.seg w.toNat).toNat)))) (T.rank (T.seg w.toNat).toNat)))
      ((∑ k : Fin 6144, x (ix2 r k) * winA P (T.start (T.seg w.toNat).toNat) (ix2 L k) : EReal)
        * Scalar.select (Scalar.cmpi .eq (grp L.val) 0#32) (T.scal (T.seg w.toNat).toNat 0)
          (Scalar.select (Scalar.cmpi .eq (grp L.val) 1#32) (T.scal (T.seg w.toNat).toNat 1) (T.scal (T.seg w.toNat).toNat 2))) (0 : EReal) := by
  unfold act
  generalize T.scal (T.seg w.toNat).toNat 0 = s0
  generalize T.scal (T.seg w.toNat).toNat 1 = s1
  generalize T.scal (T.seg w.toNat).toNat 2 = s2
  generalize Scalar.subi (T.start (T.seg w.toNat).toNat) (base (T.start (T.seg w.toNat).toNat)) = δ
  generalize winA P (T.start (T.seg w.toNat).toNat) = A
  generalize T.rank (T.seg w.toNat).toNat = rk
  generalize T.off w.toNat = lo
  generalize T.off (Scalar.addi w 1#32).toNat = hi
  pointwise [k0_pay7, k0_pay4, k0_pay5, k0_pay6, k0_pay3]
  rfl

theorem scal3 (f : Fin 3 → EReal) (q : ℕ) (h : q < 3) :
    (if BitVec.ofNat 32 q = 0#32 then f 0 else if BitVec.ofNat 32 q = 1#32 then f 1 else f 2) = f ⟨q, h⟩ := by
  match q, h with
  | 0, _ => rfl
  | 1, _ => rfl
  | 2, _ => rfl

/-- A slot's activations at an entry. -/
theorem act_apply {T : Tab Ideal} {w : BitVec 32} (hw : w.toNat < 5) (hf : SegFits T w.toNat)
    (b : ℕ) (hb : b < 9) (x : Vec Ideal S768x6144 .bf16) (P : Vec Ideal S3x600x6144 .bf16) (r : Fin 768) (L : Fin 256) :
    act (BitVec.ofNat 32 (768 * b)) x P T w (ix2 r L)
      = lane (lagN T w.toNat) (fun g j => hv T (pF P) (xF x r) ((768 * b + r.val : ℕ) : ℤ) w.toNat g j) L.val := by
  have hL := L.isLt
  have hr := r.isLt
  have hlag := lag_word hf
  have hle := lagN_le hf
  have hbase := base_add_lag hf
  have hlane := fun j => @lane_lt T w.toNat hf j
  rw [act_read, select_eq_ite]
  have hw1 : (Scalar.addi w 1#32).toNat = w.toNat + 1 := by
    show (w + 1#32).toNat = _
    rw [BitVec.toNat_add, show (1#32 : BitVec 32).toNat = 1 from rfl]; omega
  rw [hw1]
  simp only [IntOp.andi_eq_one]
  rw [show (T.seg w.toNat).toNat = ad T w.toNat from rfl]
  rw [plc_eq hL, grp_eq hL]
  simp only [show ∀ a b : BitVec 32, (Scalar.cmpi .sge a b = 1#1 ↔ b.toInt ≤ a.toInt) from fun _ _ => IntOp.cmpi_sge,
    show ∀ a b : BitVec 32, (Scalar.cmpi .slt a b = 1#1 ↔ a.toInt < b.toInt) from fun _ _ => IntOp.cmpi_slt]
  rw [toInt_add_small (by omega) (by omega), toInt_sub_small (by omega) (by omega), hlag, show (0#32 : BitVec 32).toInt = 0 from rfl]
  unfold lane hv InRow
  by_cases hL2 : L.val < 240 ∧ lagN T w.toNat ≤ L.val % 80
  · rw [if_pos hL2]
    have e1 : min (L.val / 80) 2 = L.val / 80 := by omega
    have e2 : L.val - 80 * (L.val / 80) = L.val % 80 := by omega
    have e3 : (⟨L.val / 80 % 3, Nat.mod_lt _ (by decide)⟩ : Fin 3) = ⟨L.val / 80, by omega⟩ := Fin.ext (Nat.mod_eq_of_lt (by omega))
    rw [e1, e2, e3]
    have e4 : ((L.val % 80 : ℕ) : ℤ) - (lagN T w.toNat : ℤ) = ((L.val % 80 - lagN T w.toNat : ℕ) : ℤ) := by omega
    rw [e4]
    refine if_congr ⟨fun h => ⟨by push_cast; exact h.1.1, h.2⟩, fun h => ⟨⟨by push_cast at h; exact h.1, by omega⟩, h.2⟩⟩ ?_ rfl
    refine congrArg₂ (fun a b : EReal => a * b) ?_ ?_
    · refine Finset.sum_congr rfl fun k _ => ?_
      rw [winA_apply P _ L k hL2.1, show (base (T.start (ad T w.toNat))).toNat + L.val % 80
        = (T.start (ad T w.toNat)).toNat + (L.val % 80 - lagN T w.toNat) by omega]
      rfl
    · simp only [select_eq_ite, show ∀ a b : BitVec 32, (Scalar.cmpi .eq a b = 1#1 ↔ a = b) from fun _ _ => IntOp.cmpi_eq]
      exact scal3 (T.scal (ad T w.toNat)) (L.val / 80) (by omega)
  · rw [if_neg hL2, if_neg]
    rintro ⟨⟨⟨h1, h2⟩, h3⟩, h4⟩
    have h5 := hlane (L.val - 80 * min (L.val / 80) 2 - lagN T w.toNat) (by omega)
    omega

end Cert.KernelIdeal.Hand

end

end
-- ==== Proof.Kept.lean ====
/-
  What the slots leave at an entry, on the extended reals: in the kept activations a slot's group on the slot's 80 lanes,
  in the returned ones the adapter's lanes in groups of 64.
-/
module

public import proofs.«01_k».proof.Proof.Act
public import proofs.«01_k».proof.Proof.Body

@[expose] public section

noncomputable section

namespace Cert.KernelIdeal.Hand

open Cert.KernelIdeal Cert.KernelIdeal.Gen Cert.LoraWords Cert.Lora
open Idealize.ShloMosaic Idealize.ShloMosaic.TcCoe Idealize.ShloMosaic.Tactic

/-- Values `h` placed `δ` lanes into the lanes of slot `q`. -/
def slot3 (q δ : ℕ) (h : ℕ → EReal) (L : ℕ) : EReal :=
  if 80 * q ≤ L ∧ L < 80 * q + 80 ∧ δ ≤ L - 80 * q then h (L - 80 * q - δ) else 0

theorem grp_iff {g L : ℕ} (hg : g < 3) (hL : L < 256) : Scalar.cmpi .eq (grp L) (BitVec.ofNat 32 g) = 1#1 ↔ min (L / 80) 2 = g := by
  rw [show Scalar.cmpi .eq (grp L) (BitVec.ofNat 32 g) = 1#1 ↔ grp L = BitVec.ofNat 32 g from IntOp.cmpi_eq, grp_eq hL]
  constructor
  · intro h
    have := congrArg BitVec.toNat h
    rw [BitVec.toNat_ofNat, BitVec.toNat_ofNat] at this
    omega
  · rintro rfl
    rfl

variable {a : FVec Ideal S768x256 .f32} {f : Fin 3 → ℕ → EReal} {δ : ℕ} {r : Fin 768}

theorem part_read (g : BitVec 32) (a : FVec Ideal S768x256 .f32) (r : Fin 768) (L : Fin 256) :
    part g a (ix2 r L) = Scalar.select (Scalar.cmpi .eq (grp L.val) g) (a (ix2 r L)) (0 : EReal) := by
  pointwise [part, k0_pay4]
  rfl

theorem lane_group (g : ℕ) (hg : g < 3) (L : ℕ) (hL : L < 256) :
    (if min (L / 80) 2 = g then lane δ f L else 0) = slot3 g δ (f ⟨g, hg⟩) L := by
  unfold lane slot3
  by_cases h : 80 * g ≤ L ∧ L < 80 * g + 80 ∧ δ ≤ L - 80 * g
  · have e1 : L / 80 = g := by omega
    have e2 : L % 80 = L - 80 * g := by omega
    rw [if_pos h, if_pos (by omega), if_pos (by omega)]
    have e3 : (⟨L / 80 % 3, Nat.mod_lt _ (by decide)⟩ : Fin 3) = ⟨g, hg⟩ := Fin.ext (by show L / 80 % 3 = g; omega)
    rw [e3, e2]
  · rw [if_neg h]
    split_ifs with h1 h2
    · omega
    · rfl
    · rfl

/-- One group's lanes. -/
theorem part_apply (ha : ∀ L : Fin 256, a (ix2 r L) = lane δ f L.val) (g : ℕ) (hg : g < 3) (L : Fin 256) :
    part (BitVec.ofNat 32 g) a (ix2 r L) = slot3 g δ (f ⟨g, hg⟩) L.val := by
  rw [part_read, select_eq_ite, ← lane_group g hg L.val L.isLt]
  refine if_congr (grp_iff hg L.isLt) (ha L) rfl

theorem rot_read (k : BitVec 32) (a : FVec Ideal S768x256 .f32) (r : Fin 768) (L : Fin 256) :
    rot k a (ix2 r L) = a (ix2 r ⟨(L.val + 256 - k.toNat % 256) % 256, Nat.mod_lt _ (by decide)⟩) := by
  pointwise [rot]

theorem slot3_move {q g : ℕ} (h : ℕ → EReal) {L L' : ℕ} (hδ : δ ≤ 24)
    (e : (80 * q ≤ L ∧ L < 80 * q + 80 ∧ L' + 80 * q = L + 80 * g)
      ∨ (¬ (80 * q ≤ L ∧ L < 80 * q + 80) ∧ ¬ (80 * g ≤ L' ∧ L' < 80 * g + 80))) :
    slot3 g δ h L' = slot3 q δ h L := by
  unfold slot3
  rcases e with ⟨h1, h2, h3⟩ | ⟨h1, h2⟩
  · have e1 : L' - 80 * g = L - 80 * q := by omega
    rw [e1]
    exact if_congr (by omega) rfl rfl
  · rw [if_neg (by omega), if_neg (by omega)]

/-- A group moved to a slot's lanes. -/
theorem moved_apply (ha : ∀ L : Fin 256, a (ix2 r L) = lane δ f L.val) (hδ : δ ≤ 24) (q g : Fin 3) (L : Fin 256) :
    moved q g a (ix2 r L) = slot3 q.val δ (f g) L.val := by
  have hL := L.isLt
  have hp := fun g hg L => part_apply ha g hg L
  have h0 := hp 0 (by decide)
  have h1 := hp 1 (by decide)
  have h2 := hp 2 (by decide)
  match q, g with
  | 0, 0 => exact h0 L
  | 1, 1 => exact h1 L
  | 2, 2 => exact h2 L
  | 0, 1 => exact (rot_read 176#32 _ r L).trans ((h1 _).trans (slot3_move _ hδ (by
      show _ ∨ _; dsimp only; rw [show (176#32 : BitVec 32).toNat % 256 = 176 from rfl]; simp only [Fin.val_zero]; omega)))
  | 0, 2 => exact (rot_read 96#32 _ r L).trans ((h2 _).trans (slot3_move _ hδ (by
      show _ ∨ _; dsimp only; rw [show (96#32 : BitVec 32).toNat % 256 = 96 from rfl]; simp only [Fin.val_zero]; omega)))
  | 1, 0 => exact (rot_read 80#32 _ r L).trans ((h0 _).trans (slot3_move _ hδ (by
      show _ ∨ _; dsimp only; rw [show (80#32 : BitVec 32).toNat % 256 = 80 from rfl]; simp only [Fin.val_one]; omega)))
  | 1, 2 => exact (rot_read 176#32 _ r L).trans ((h2 _).trans (slot3_move _ hδ (by
      show _ ∨ _; dsimp only; rw [show (176#32 : BitVec 32).toNat % 256 = 176 from rfl]; simp only [Fin.val_one]; omega)))
  | 2, 0 => exact (rot_read 160#32 _ r L).trans ((h0 _).trans (slot3_move _ hδ (by
      show _ ∨ _; dsimp only; rw [show (160#32 : BitVec 32).toNat % 256 = 160 from rfl]; simp only [Fin.val_two]; omega)))
  | 2, 1 => exact (rot_read 80#32 _ r L).trans ((h1 _).trans (slot3_move _ hδ (by
      show _ ∨ _; dsimp only; rw [show (80#32 : BitVec 32).toNat % 256 = 80 from rfl]; simp only [Fin.val_two]; omega)))

theorem put_read (s : FVec Ideal S768x256 .f32) (H : Vec Ideal S1x768x256 .bf16) (r : Fin 768) (n : Fin 256) :
    put s H (ix3 0 r n) = (H (ix3 0 r n) + s (ix2 r n) : EReal) := by
  pointwise [put]

/-- The kept activations after a slot. -/
theorem slotH_apply (ha : ∀ L : Fin 256, a (ix2 r L) = lane δ f L.val) (hδ : δ ≤ 24) (q g : Fin 3)
    (H : Vec Ideal S3x768x256 .bf16) (L : Fin 256) :
    slotH q a H (ix3 g r L) = (H (ix3 g r L) + slot3 q.val δ (f g) L.val : EReal) := by
  have h := put_read (moved q g a) (planeOf g H) r L
  rw [moved_apply ha hδ] at h
  have e : slotH q a H (ix3 g r L) = put (moved q g a) (planeOf g H) (ix3 0 r L) := by
    rw [ix3_eq_valueIdx, ix3_eq_valueIdx]; rfl
  have e2 : planeOf g H (ix3 0 r L) = H (ix3 g r L) := by
    rw [ix3_eq_valueIdx, ix3_eq_valueIdx]; rfl
  rw [e, h, e2]

/-! ## The returned activations -/

/-- How far the lanes of a group are moved down, as the kernel computes it. -/
def turn (c δ : BitVec 32) : BitVec 32 :=
  let w := Scalar.select (Scalar.cmpi .eq 256#32 0#32) 1#32 256#32
  let v := Scalar.remsi (Scalar.addi (Scalar.subi c δ) 256#32) w
  Scalar.select (Scalar.andi (Scalar.xori (Scalar.cmpi .slt v 0#32) (Scalar.cmpi .slt w 0#32)) (Scalar.cmpi .ne v 0#32)) (Scalar.addi v w) v

theorem turn_toNat {c δ : BitVec 32} (h : 2 * (Scalar.addi (Scalar.subi c δ) 256#32).toNat < 2 ^ 32) :
    (turn c δ).toNat = (Scalar.addi (Scalar.subi c δ) 256#32).toNat % 256 := by
  have hv : (Scalar.remsi (Scalar.addi (Scalar.subi c δ) 256#32) 256#32).toNat = (Scalar.addi (Scalar.subi c δ) 256#32).toNat % 256 :=
    IntOp.toNat_remsi .scalar h 256 (by decide) (by decide)
  have hw : Scalar.select (Scalar.cmpi .eq (256#32 : BitVec 32) 0#32) 1#32 256#32 = 256#32 := by decide
  unfold turn
  dsimp only
  rw [hw, select_eq_ite, if_neg, hv]
  intro hc
  have h1 := (IntOp.andi_eq_one.mp hc).1
  have h2 : Scalar.cmpi .slt (256#32 : BitVec 32) 0#32 = 0#1 := by decide
  have h3 : Scalar.cmpi .slt (Scalar.remsi (Scalar.addi (Scalar.subi c δ) 256#32) 256#32) 0#32 = 0#1 := by
    refine (BitVec.eq_zero_or_eq_one _).resolve_right fun h4 => ?_
    have h5 := IntOp.cmpi_slt.mp h4
    rw [BitVec.toInt_eq_toNat_of_lt (by rw [hv]; omega), show (0#32 : BitVec 32).toInt = 0 from rfl] at h5
    omega
  rw [h2, h3] at h1
  exact absurd h1 (by decide)

theorem turn_fin {δ : ℕ} (h : δ ≤ 24) : (turn 0#32 (BitVec.ofNat 32 δ)).toNat = (256 - δ) % 256
    ∧ (turn 4294967280#32 (BitVec.ofNat 32 δ)).toNat = 240 - δ
    ∧ (turn 4294967264#32 (BitVec.ofNat 32 δ)).toNat = 224 - δ := by
  have e : ∀ c : BitVec 32, (Scalar.addi (Scalar.subi c (BitVec.ofNat 32 δ)) 256#32).toNat = (c.toNat + (2 ^ 32 - δ) + 256) % 2 ^ 32 := by
    intro c
    show (c - BitVec.ofNat 32 δ + 256#32).toNat = _
    rw [BitVec.toNat_add, BitVec.toNat_sub, BitVec.toNat_ofNat, BitVec.toNat_ofNat]
    omega
  have e0 := e 0#32
  have e1 := e 4294967280#32
  have e2 := e 4294967264#32
  rw [show (0#32 : BitVec 32).toNat = 0 from rfl] at e0
  rw [show (4294967280#32 : BitVec 32).toNat = 4294967280 from rfl] at e1
  rw [show (4294967264#32 : BitVec 32).toNat = 4294967264 from rfl] at e2
  refine ⟨?_, ?_, ?_⟩
  · rw [turn_toNat (by omega)]; omega
  · rw [turn_toNat (by omega)]; omega
  · rw [turn_toNat (by omega)]; omega

theorem slotG_eq (δ : BitVec 32) (a : FVec Ideal S768x256 .f32) (G : Vec Ideal S768x192 .bf16) :
    slotG δ a G = k0_pay50 (addf (addf (addf k0_pay8 (rot (turn 0#32 δ) (part 0#32 a))) (rot (turn 4294967280#32 δ) (part 1#32 a)))
      (rot (turn 4294967264#32 δ) (part 2#32 a))) G := by
  unfold slotG k0_pay17 k0_pay15 k0_pay12 k0_pay13 rot turn part
  dsimp only

theorem slotG_read (δ : BitVec 32) (a : FVec Ideal S768x256 .f32) (G : Vec Ideal S768x192 .bf16) (r : Fin 768) (l : Fin 192) :
    slotG δ a G (ix2 r l) = (G (ix2 r l)
      + (part 0#32 a (ix2 r ⟨(l.val + 256 - (turn 0#32 δ).toNat % 256) % 256, Nat.mod_lt _ (by decide)⟩)
        + part 1#32 a (ix2 r ⟨(l.val + 256 - (turn 4294967280#32 δ).toNat % 256) % 256, Nat.mod_lt _ (by decide)⟩)
        + part 2#32 a (ix2 r ⟨(l.val + 256 - (turn 4294967264#32 δ).toNat % 256) % 256, Nat.mod_lt _ (by decide)⟩)) : EReal) := by
  rw [slotG_eq]
  generalize turn 0#32 δ = t0
  generalize turn 4294967280#32 δ = t1
  generalize turn 4294967264#32 δ = t2
  generalize part 0#32 a = a0
  generalize part 1#32 a = a1
  generalize part 2#32 a = a2
  pointwise [k0_pay50, rot, k0_pay8]

theorem slot3_lane {g l : ℕ} (h : ℕ → EReal) (hg : g < 3) (hz : ∀ j, ¬ (j < 64 ∧ δ + j < 80) → h j = 0) :
    slot3 g δ h (l + 16 * g + δ) = if l / 64 = g then h (l % 64) else 0 := by
  unfold slot3
  split_ifs with h1 h2 h2
  · exact congrArg h (by omega)
  · exact hz _ (by omega)
  · exact (hz _ (by omega)).symm
  · rfl

theorem pick3 (f : Fin 3 → ℕ → EReal) (q : ℕ) (hq : q < 3) (j : ℕ) :
    ((if q = 0 then f ⟨0, by decide⟩ j else 0) + (if q = 1 then f ⟨1, by decide⟩ j else 0)
      + (if q = 2 then f ⟨2, by decide⟩ j else 0) : EReal) = f ⟨q, hq⟩ j := by
  match q, hq with
  | 0, _ => simp
  | 1, _ => simp
  | 2, _ => simp

/-- The returned activations after a slot. -/
theorem slotG_apply (ha : ∀ L : Fin 256, a (ix2 r L) = lane δ f L.val) (hδ : δ ≤ 24)
    (hz : ∀ g j, ¬ (j < 64 ∧ δ + j < 80) → f g j = 0) (w : BitVec 32) (hw : w.toNat = δ)
    (G : Vec Ideal S768x192 .bf16) (l : Fin 192) :
    slotG w a G (ix2 r l) = (G (ix2 r l) + f ⟨l.val / 64, by omega⟩ (l.val % 64) : EReal) := by
  have hl := l.isLt
  have hwd : w = BitVec.ofNat 32 δ := by rw [← hw, BitVec.ofNat_toNat, BitVec.setWidth_eq]
  obtain ⟨t0, t1, t2⟩ := turn_fin hδ
  rw [slotG_read, hwd]
  congr 1
  have p0 := part_apply ha 0 (by decide) ⟨(l.val + 256 - (turn 0#32 (BitVec.ofNat 32 δ)).toNat % 256) % 256, Nat.mod_lt _ (by decide)⟩
  have p1 := part_apply ha 1 (by decide) ⟨(l.val + 256 - (turn 4294967280#32 (BitVec.ofNat 32 δ)).toNat % 256) % 256, Nat.mod_lt _ (by decide)⟩
  have p2 := part_apply ha 2 (by decide) ⟨(l.val + 256 - (turn 4294967264#32 (BitVec.ofNat 32 δ)).toNat % 256) % 256, Nat.mod_lt _ (by decide)⟩
  rw [p0, p1, p2]
  dsimp only
  rw [t0, t1, t2, show (l.val + 256 - (256 - δ) % 256 % 256) % 256 = l.val + 16 * 0 + δ by omega,
    show (l.val + 256 - (240 - δ) % 256) % 256 = l.val + 16 * 1 + δ by omega,
    show (l.val + 256 - (224 - δ) % 256) % 256 = l.val + 16 * 2 + δ by omega,
    slot3_lane _ (by decide) (hz _), slot3_lane _ (by decide) (hz _), slot3_lane _ (by decide) (hz _)]
  exact pick3 f (l.val / 64) (by omega) (l.val % 64)

end Cert.KernelIdeal.Hand

end

end
-- ==== Proof.LaneSum.lean ====
/-
  The sum over the kept activations' 256 lanes is the slots' sums over an adapter's 64 lanes.
-/
module

public import proofs.«01_k».proof.Proof.Kept

@[expose] public section

noncomputable section

namespace Cert.KernelIdeal.Hand

open Cert.KernelIdeal Cert.KernelIdeal.Gen Cert.LoraWords Cert.Lora
open Idealize.ShloMosaic

/-- A window's rows from the adapter's first on are the adapter's rows. -/
theorem shift_sum (δ : ℕ) (hδ : δ ≤ 24) (h B : ℕ → EReal) (hz : ∀ j, ¬ (j < 64 ∧ δ + j < 80) → h j = 0) :
    ∑ i ∈ Finset.range 80, (if δ ≤ i then h (i - δ) else 0) * B i = ∑ j : Fin 64, h j.val * B (δ + j.val) := by
  rw [← Finset.sum_range (fun j => h j * B (δ + j))]
  have e80 : (80 : ℕ) = δ + (80 - δ) := by omega
  rw [e80, Finset.sum_range_add]
  rw [Finset.sum_eq_zero (s := Finset.range δ) (fun i hi => by
    rw [if_neg (by have := Finset.mem_range.mp hi; omega), zero_mul]), zero_add]
  have e1 : ∀ n, 80 - δ ≤ n ∨ 64 ≤ n → ∑ j ∈ Finset.range n, h j * B (δ + j) = ∑ j ∈ Finset.range 80, h j * B (δ + j) ∨ n > 80 := by
    intro n hn
    by_cases hn2 : n > 80
    · exact Or.inr hn2
    · left
      refine Finset.sum_subset (Finset.range_subset_range.mpr (by omega)) fun j _ hj => ?_
      have : n ≤ j := Nat.le_of_not_lt fun hlt => hj (Finset.mem_range.mpr hlt)
      rw [hz j (by omega), zero_mul]
  have e2 : ∑ x ∈ Finset.range (80 - δ), (if δ ≤ δ + x then h (δ + x - δ) else 0) * B (δ + x)
      = ∑ j ∈ Finset.range (80 - δ), h j * B (δ + j) := by
    refine Finset.sum_congr rfl fun j _ => ?_
    rw [if_pos (by omega), Nat.add_sub_cancel_left]
  rw [e2, (e1 (80 - δ) (Or.inl le_rfl)).resolve_right (by omega), (e1 64 (Or.inr le_rfl)).resolve_right (by omega)]

theorem slot3_at (q p δ : ℕ) (h : ℕ → EReal) (i : ℕ) (hi : i < 80) :
    slot3 q δ h (80 * p + i) = if q = p then (if δ ≤ i then h (i - δ) else 0) else 0 := by
  unfold slot3
  split_ifs with h1 h2 h3 h3 h3
  · exact congrArg h (by omega)
  all_goals first | rfl | (exfalso; omega)

/-- The rows of the windows, one below the other. -/
def rows3 (B : ℕ → ℕ → EReal) (L : ℕ) : EReal :=
  if L < 80 then B 0 L else if L - 80 < 80 then B 1 (L - 80) else if L - 80 - 80 < 80 then B 2 (L - 80 - 80) else 0

theorem lanes_sum (c : ℕ → Prop) [DecidablePred c] (δ : ℕ → ℕ) (hδ : ∀ q < 3, δ q ≤ 24) (h : ℕ → ℕ → EReal)
    (hz : ∀ q < 3, ∀ j, ¬ (j < 64 ∧ δ q + j < 80) → h q j = 0) (B : ℕ → ℕ → EReal) :
    ∑ L : Fin 256, ((if c 0 then slot3 0 (δ 0) (h 0) L.val else 0) + (if c 1 then slot3 1 (δ 1) (h 1) L.val else 0)
        + (if c 2 then slot3 2 (δ 2) (h 2) L.val else 0)) * rows3 B L.val
      = (if c 0 then ∑ j : Fin 64, h 0 j.val * B 0 (δ 0 + j.val) else 0)
        + (if c 1 then ∑ j : Fin 64, h 1 j.val * B 1 (δ 1 + j.val) else 0)
        + (if c 2 then ∑ j : Fin 64, h 2 j.val * B 2 (δ 2 + j.val) else 0) := by
  rw [← Finset.sum_range (fun L => ((if c 0 then slot3 0 (δ 0) (h 0) L else 0) + (if c 1 then slot3 1 (δ 1) (h 1) L else 0)
        + (if c 2 then slot3 2 (δ 2) (h 2) L else 0)) * rows3 B L)]
  rw [show (256 : ℕ) = 80 + 80 + 80 + 16 from rfl, Finset.sum_range_add, Finset.sum_range_add, Finset.sum_range_add]
  have tail : ∀ q, q < 3 → ∀ i, slot3 q (δ q) (h q) (80 + 80 + 80 + i) = 0 := fun q hq i => by
    unfold slot3; rw [if_neg (by omega)]
  rw [Finset.sum_eq_zero (s := Finset.range 16) (fun i _ => by
    rw [tail 0 (by decide), tail 1 (by decide), tail 2 (by decide)]; simp), add_zero]
  have one : ∀ q, q < 3 → ∀ F : ℕ → EReal, (∀ i < 80, F i = (if c q then (if δ q ≤ i then h q (i - δ q) else 0) else 0) * B q i) →
      ∑ i ∈ Finset.range 80, F i = if c q then ∑ j : Fin 64, h q j.val * B q (δ q + j.val) else 0 := by
    intro q hq F hF
    rw [Finset.sum_congr rfl fun i hi => hF i (Finset.mem_range.mp hi)]
    by_cases hc : c q
    · simp only [if_pos hc]
      exact shift_sum _ (hδ q hq) _ _ (hz q hq)
    · simp [if_neg hc]
  refine congrArg₂ (· + ·) (congrArg₂ (· + ·) (one 0 (by decide) _ fun i hi => ?_) (one 1 (by decide) _ fun i hi => ?_)) (one 2 (by decide) _ fun i hi => ?_)
  · have s := fun q => slot3_at q 0 (δ q) (h q) i hi
    rw [show 80 * 0 + i = i by omega] at s
    simp only [s, rows3, if_pos hi]
    simp
  · have s := fun q => slot3_at q 1 (δ q) (h q) i hi
    rw [show 80 * 1 + i = 80 + i by omega] at s
    have e : rows3 B (80 + i) = B 1 i := by
      unfold rows3; rw [if_neg (by omega), if_pos (by omega)]; exact congrArg _ (by omega)
    simp only [s, e]
    simp
  · have s := fun q => slot3_at q 2 (δ q) (h q) i hi
    rw [show 80 * 2 + i = 80 + 80 + i by omega] at s
    have e : rows3 B (80 + 80 + i) = B 2 i := by
      unfold rows3; rw [if_neg (by omega), if_neg (by omega), if_pos (by omega)]; exact congrArg _ (by omega)
    simp only [s, e]
    simp

end Cert.KernelIdeal.Hand

end

end
-- ==== Proof.Tile.lean ====
/-
  The tiles a grid point writes, entry by entry: the base product plus the corrections of the five segments, and the
  activations of the five segments.
-/
module

public import proofs.«01_k».proof.Proof.LaneSum
public import proofs.«01_k».proof.Proof.SlotSum

@[expose] public section

noncomputable section

namespace Cert.KernelIdeal.Hand

open Cert.KernelIdeal Cert.KernelIdeal.Gen Cert.LoraWords Cert.Lora
open Idealize.ShloMosaic Idealize.ShloMosaic.TcCoe Idealize.ShloMosaic.Tactic

/-- Whether segment `s` has rows in the row block from row `768 b`. -/
def liveB (T : Tab Ideal) (b s : ℕ) : BitVec 1 :=
  live (BitVec.ofNat 32 (768 * b)) (T.off s) (T.off (s + 1)) (T.off (s + 1)) (T.off s)

/-- How many segments have rows in the row block. -/
def countB (T : Tab Ideal) (b : ℕ) : BitVec 32 := count (liveB T b 0) (liveB T b 1) (liveB T b 2) (liveB T b 3) (liveB T b 4)

/-- The segment slot `q` serves. -/
def segB (T : Tab Ideal) (b : ℕ) (q : BitVec 32) : BitVec 32 := slot (liveB T b 0) (liveB T b 1) (liveB T b 2) (liveB T b 3) (liveB T b 4) q

theorem row0_eq (i : grid0.Coords) : row0 i = BitVec.ofNat 32 (768 * (i 0).val) := by
  apply BitVec.eq_of_toNat_eq
  show (BitVec.ofNat 32 (i 0).val * 768#32).toNat = _
  have h : (i 0).val < 9 := (i 0).isLt
  rw [BitVec.toNat_mul, BitVec.toNat_ofNat, BitVec.toNat_ofNat, BitVec.toNat_ofNat]
  omega

theorem segAt_eq (i : grid0.Coords) (T : Tab Ideal) (q : BitVec 32) : segAt i T q = segB T (i 0).val q := by
  unfold segAt slotAt segB liveB
  rw [row0_eq]

theorem segB_lt (T : Tab Ideal) (b : ℕ) (q : BitVec 32) : (segB T b q).toNat < 5 := slot_lt _ _ _ _ _ _

theorem bit_ne : ∀ b : BitVec 1, (Scalar.cmpi .ne (Scalar.extui b : BitVec 32) 0#32 = 1#1) ↔ b = 1#1 := by decide

/-- A row of a segment lies in a row block only if the segment is live there. -/
theorem hv_dead {T : Tab Ideal} {b s : ℕ} (hb : b < 9) (h : liveB T b s ≠ 1#1) (P : Fin 3 → Fin 600 → Fin 6144 → EReal)
    (x : Fin 6144 → EReal) (r : Fin 768) (g : Fin 3) (j : ℕ) : hv T P x ((768 * b + r.val : ℕ) : ℤ) s g j = 0 := by
  unfold hv
  refine if_neg fun hr => h ?_
  have hr0 := r.isLt
  obtain ⟨h1, h2⟩ := hr.1
  have e0 : (BitVec.ofNat 32 (768 * b)).toInt = ((768 * b : ℕ) : ℤ) := toInt_small (by omega)
  unfold liveB live
  refine IntOp.andi_eq_one.mpr ⟨IntOp.andi_eq_one.mpr ⟨IntOp.cmpi_slt.mpr ?_, IntOp.cmpi_sgt.mpr ?_⟩, IntOp.cmpi_sgt.mpr ?_⟩
  · rw [show Scalar.addi (BitVec.ofNat 32 (768 * b)) 768#32 = IntOp.addi (BitVec.ofNat 32 (768 * b)) (BitVec.ofNat 32 768) from rfl,
      toInt_add_small (by omega) (by omega)]
    omega
  · rw [e0]; omega
  · omega

/-- A slot's activations at an entry. -/
theorem act_seg {T : Tab Ideal} (hf : ∀ s < 5, SegFits T s) (i : grid0.Coords) (x : Vec Ideal S768x6144 .bf16)
    (P : Vec Ideal S3x600x6144 .bf16) (q : BitVec 32) (r : Fin 768) (L : Fin 256) :
    act (row0 i) x P T (segAt i T q) (ix2 r L) = lane (lagN T (segB T (i 0).val q).toNat)
      (fun g j => hv T (pF P) (xF x r) ((768 * (i 0).val + r.val : ℕ) : ℤ) (segB T (i 0).val q).toNat g j) L.val := by
  rw [row0_eq, segAt_eq]
  exact act_apply (segB_lt _ _ _) (hf _ (segB_lt _ _ _)) (i 0).val (i 0).isLt x P r L

theorem hv_far {T : Tab Ideal} {s : ℕ} (hf : SegFits T s) (P : Fin 3 → Fin 600 → Fin 6144 → EReal)
    (x : Fin 6144 → EReal) (R : ℤ) (g : Fin 3) (j : ℕ) (h : ¬ (j < 64 ∧ lagN T s + j < 80)) : hv T P x R s g j = 0 := by
  unfold hv
  exact if_neg fun hr => h (lane_lt hf hr.2)

theorem used_eq (i : grid0.Coords) (T : Tab Ideal) :
    (k0_cond3 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) = 1#1
        ↔ used (countB T (i 0).val) 0#32 = 1#1)
    ∧ (k0_cond4 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) = 1#1
        ↔ used (countB T (i 0).val) 1#32 = 1#1)
    ∧ (k0_cond5 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4) = 1#1
        ↔ used (countB T (i 0).val) 2#32 = 1#1) := by
  unfold countB liveB
  rw [← row0_eq]
  exact ⟨bit_ne _, bit_ne _, bit_ne _⟩

theorem pay48_read (g : Fin 3) (r : Fin 768) (L : Fin 256) : (k0_pay48 (F := Ideal) (ix3 g r L) : EReal) = 0 := by
  pointwise [k0_pay48]
theorem pay49_read (r : Fin 768) (l : Fin 192) : (k0_pay49 (F := Ideal) (ix2 r l) : EReal) = 0 := by
  pointwise [k0_pay49]

theorem ite_add {c : Prop} [Decidable c] (A B : EReal) : (if c then A + B else A) = A + (if c then B else 0) := by
  split <;> simp

/-- Three steps, each taken under its own condition. -/
def chain3 {α : Type} (c0 c1 c2 : BitVec 1) (f0 f1 f2 : α → α) (z : α) : α :=
  have H1 := if c0 = 1#1 then f0 z else z
  have H2 := if c1 = 1#1 then f1 H1 else H1
  if c2 = 1#1 then f2 H2 else H2

theorem hAt_eq (i : grid0.Coords) (x : Vec Ideal S768x6144 .bf16) (P : Vec Ideal S3x600x6144 .bf16) (T : Tab Ideal) : hAt i x P T =
    chain3 (k0_cond3 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (k0_cond4 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (k0_cond5 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (slotH 0 (act (row0 i) x P T (segAt i T 0#32)))
      (slotH 1 (act (row0 i) x P T (segAt i T 1#32))) (slotH 2 (act (row0 i) x P T (segAt i T 2#32))) (k0_pay48 (F := Ideal)) := by
  unfold hAt hOf segAt chain3
  rfl

theorem gAt_eq (i : grid0.Coords) (x : Vec Ideal S768x6144 .bf16) (P : Vec Ideal S3x600x6144 .bf16) (T : Tab Ideal) : gAt i x P T =
    chain3 (k0_cond3 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (k0_cond4 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (k0_cond5 i (T.off 0) (T.off 1) (T.off 1) (T.off 0) (T.off 1) (T.off 2) (T.off 2) (T.off 1) (T.off 2) (T.off 3) (T.off 3) (T.off 2) (T.off 3) (T.off 4) (T.off 4) (T.off 3) (T.off 4) (T.off 5) (T.off 5) (T.off 4)) (slotG (lag T (segAt i T 0#32)) (act (row0 i) x P T (segAt i T 0#32)))
      (slotG (lag T (segAt i T 1#32)) (act (row0 i) x P T (segAt i T 1#32)))
      (slotG (lag T (segAt i T 2#32)) (act (row0 i) x P T (segAt i T 2#32))) (k0_pay49 (F := Ideal)) := by
  unfold gAt gOf segAt chain3
  rfl

/-- Three conditional steps, each adding a number to an entry. -/
theorem three {α : Type} {c0 c1 c2 d0 d1 d2 : BitVec 1}
    (i0 : c0 = 1#1 ↔ d0 = 1#1) (i1 : c1 = 1#1 ↔ d1 = 1#1) (i2 : c2 = 1#1 ↔ d2 = 1#1) (e : α → EReal) (f0 f1 f2 : α → α) (z : α) (v0 v1 v2 : EReal)
    (h0 : ∀ H, e (f0 H) = e H + v0) (h1 : ∀ H, e (f1 H) = e H + v1) (h2 : ∀ H, e (f2 H) = e H + v2) (hz : e z = 0) (X : EReal)
    (hX : X = e (chain3 c0 c1 c2 f0 f1 f2 z)) :
    X = (if d0 = 1#1 then v0 else 0) + (if d1 = 1#1 then v1 else 0) + (if d2 = 1#1 then v2 else 0) := by
  rw [hX]
  unfold chain3
  dsimp only
  rw [apply_ite e, h2, ite_add, apply_ite e, h1, ite_add, apply_ite e, h0, ite_add, hz, zero_add]
  simp only [i0, i1, i2]

/-- The kept activations at an entry. -/
theorem hAt_apply {T : Tab Ideal} (hf : ∀ s < 5, SegFits T s) (i : grid0.Coords) (x : Vec Ideal S768x6144 .bf16)
    (P : Vec Ideal S3x600x6144 .bf16) (g : Fin 3) (r : Fin 768) (L : Fin 256) :
    hAt i x P T (ix3 g r L) =
      ((if used (countB T (i 0).val) 0#32 = 1#1 then slot3 0 (lagN T (segB T (i 0).val 0#32).toNat)
          (fun j => hv T (pF P) (xF x r) ((768 * (i 0).val + r.val : ℕ) : ℤ) (segB T (i 0).val 0#32).toNat g j) L.val else 0)
        + (if used (countB T (i 0).val) 1#32 = 1#1 then slot3 1 (lagN T (segB T (i 0).val 1#32).toNat)
          (fun j => hv T (pF P) (xF x r) ((768 * (i 0).val + r.val : ℕ) : ℤ) (segB T (i 0).val 1#32).toNat g j) L.val else 0)
        + (if used (countB T (i 0).val) 2#32 = 1#1 then slot3 2 (lagN T (segB T (i 0).val 2#32).toNat)
          (fun j => hv T (pF P) (xF x r) ((768 * (i 0).val + r.val : ℕ) : ℤ) (segB T (i 0).val 2#32).toNat g j) L.val else 0) : EReal) := by
  have hs := fun q (p : Fin 3) H => slotH_apply (act_seg hf i x P q r) (lagN_le (hf _ (segB_lt T (i 0).val q))) p g H L
  obtain ⟨c0, c1, c2⟩ := used_eq i T
  exact three (α := _) c0 c1 c2 (fun H : Vec Ideal S3x768x256 .bf16 => H (ix3 g r L)) (slotH 0 (act (row0 i) x P T (segAt i T 0#32)))
    (slotH 1 (act (row0 i) x P T (segAt i T 1#32))) (slotH 2 (act (row0 i) x P T (segAt i T 2#32))) (k0_pay48 (F := Ideal)) _ _ _
    (hs 0#32 0) (hs 1#32 1) (hs 2#32 2) (pay48_read g r L) _ (congrFun (hAt_eq i x P T) _)

/-- The returned activations at an entry. -/
theorem gAt_apply {T : Tab Ideal} (hf : ∀ s < 5, SegFits T s) (i : grid0.Coords) (hc : (countB T (i 0).val).toNat ≤ 3)
    (x : Vec Ideal S768x6144 .bf16) (P : Vec Ideal S3x600x6144 .bf16) (r : Fin 768) (l : Fin 192) :
    gAt i x P T (ix2 r l) =
      (hv T (pF P) (xF x r) ((768 * (i 0).val + r.val : ℕ) : ℤ) 0 ⟨l.val / 64, by omega⟩ (l.val % 64)
        + hv T (pF P) (xF x r) ((768 * (i 0).val + r.val : ℕ) : ℤ) 1 ⟨l.val / 64, by omega⟩ (l.val % 64)
        + hv T (pF P) (xF x r) ((768 * (i 0).val + r.val : ℕ) : ℤ) 2 ⟨l.val / 64, by omega⟩ (l.val % 64)
        + hv T (pF P) (xF x r) ((768 * (i 0).val + r.val : ℕ) : ℤ) 3 ⟨l.val / 64, by omega⟩ (l.val % 64)
        + hv T (pF P) (xF x r) ((768 * (i 0).val + r.val : ℕ) : ℤ) 4 ⟨l.val / 64, by omega⟩ (l.val % 64) : EReal) := by
  have hs := fun q G => slotG_apply (act_seg hf i x P q r) (lagN_le (hf _ (segB_lt T (i 0).val q)))
    (fun g j h => hv_far (hf _ (segB_lt T (i 0).val q)) _ _ _ g j h) (lag T (segAt i T q))
    (by rw [segAt_eq]; exact lag_word (hf _ (segB_lt T (i 0).val q))) G l
  obtain ⟨c0, c1, c2⟩ := used_eq i T
  have hd := fun s (h : liveB T (i 0).val s ≠ 1#1) => hv_dead (i 0).isLt h (pF P) (xF x r) r ⟨l.val / 64, by omega⟩ (l.val % 64)
  rw [← slot_sum (liveB T (i 0).val 0) (liveB T (i 0).val 1) (liveB T (i 0).val 2) (liveB T (i 0).val 3) (liveB T (i 0).val 4)
    (fun s => hv T (pF P) (xF x r) ((768 * (i 0).val + r.val : ℕ) : ℤ) s ⟨l.val / 64, by omega⟩ (l.val % 64))
    (hd 0) (hd 1) (hd 2) (hd 3) (hd 4) hc]
  exact three (α := _) c0 c1 c2 (fun H : Vec Ideal S768x192 .bf16 => H (ix2 r l))
    (slotG (lag T (segAt i T 0#32)) (act (row0 i) x P T (segAt i T 0#32)))
    (slotG (lag T (segAt i T 1#32)) (act (row0 i) x P T (segAt i T 1#32)))
    (slotG (lag T (segAt i T 2#32)) (act (row0 i) x P T (segAt i T 2#32))) (k0_pay49 (F := Ideal)) _ _ _
    (hs 0#32) (hs 1#32) (hs 2#32) (pay49_read r l) _ (congrFun (gAt_eq i x P T) _)

end Cert.KernelIdeal.Hand

end

end
-- ==== Proof.TileY.lean ====
/-
  The output tile of a grid point, entry by entry: the base product plus the corrections of the five segments.
-/
module

public import proofs.«01_k».proof.Proof.Tile

@[expose] public section

noncomputable section

namespace Cert.KernelIdeal.Hand

open Cert.KernelIdeal Cert.KernelIdeal.Gen Cert.LoraWords Cert.Lora
open Idealize.ShloMosaic Idealize.ShloMosaic.TcCoe Idealize.ShloMosaic.Tactic

/-- The shift that moves field `k mod 8` of a word to the top. -/
theorem shift_word (k : ℕ) (hk : k < 6144) :
    (IntOp.subi 28#32 (IntOp.muli 4#32 (IntOp.andi (BitVec.ofNat 32 k) 7#32))).toNat = 28 - 4 * (k % 8) := by
  have e : (BitVec.ofNat 32 k &&& 7#32).toNat = k % 8 := by
    rw [BitVec.toNat_and, BitVec.toNat_ofNat, BitVec.toNat_ofNat, Nat.mod_eq_of_lt (by omega : k < 2 ^ 32),
      show 7 % 2 ^ 32 = 2 ^ 3 - 1 from rfl, Nat.and_two_pow_sub_one_eq_mod]
  show (28#32 - 4#32 * (BitVec.ofNat 32 k &&& 7#32)).toNat = _
  rw [BitVec.toNat_sub, BitVec.toNat_mul, e, BitVec.toNat_ofNat, BitVec.toNat_ofNat]
  omega

theorem code_word (w : BitVec 32) (k : ℕ) (hk : k < 6144) :
    IntOp.shrsi .vector (IntOp.shli .vector w (IntOp.subi 28#32 (IntOp.muli 4#32 (IntOp.andi (BitVec.ofNat 32 k) 7#32)))) 28#32 = nib w (k % 8) := by
  unfold IntOp.shrsi IntOp.shli nib
  rw [if_pos (show (28#32 : BitVec 32).toNat < 32 by decide), if_pos (by rw [shift_word k hk]; omega)]
  show (w <<< (IntOp.subi 28#32 (IntOp.muli 4#32 (IntOp.andi (BitVec.ofNat 32 k) 7#32))).toNat).sshiftRight 28 = _
  rw [shift_word k hk]

theorem base_read (wd : Vec Ideal S768x512 .i32) (sc : Vec Ideal S48x512 .bf16) (x : Vec Ideal S768x6144 .bf16) (r : Fin 768) (n : Fin 512) :
    k0_pay53 wd sc x (ix2 r n) = bv (fun a => wd (ix2 a n)) (fun a => sc (ix2 a n)) (xF x r) := by
  have h : k0_pay53 wd sc x (ix2 r n) = (∑ k : Fin 6144, x (ix2 r k) * (FloatOps.sitofp (F := Ideal) .bf16 (IntOp.shrsi .vector (IntOp.shli .vector (wd (ix2 ⟨k.val / 8, by omega⟩ n))
      (IntOp.subi 28#32 (IntOp.muli 4#32 (IntOp.andi (BitVec.ofNat 32 k.val) 7#32)))) 28#32) * sc (ix2 ⟨k.val / 128, by omega⟩ n)) : EReal) := by
    pointwise [k0_pay53]
  rw [h]
  unfold bv
  refine Finset.sum_congr rfl fun k _ => ?_
  rw [code_word _ k.val k.isLt]
  rfl

theorem out_read (B : FVec Ideal S768x512 .f32) (b0 b1 b2 : Vec Ideal S1x80x512 .bf16) (H : Vec Ideal S1x768x256 .bf16) (r : Fin 768) (n : Fin 512)
    (Bn : ℕ → ℕ → EReal) (h0 : ∀ j : Fin 80, b0 (ix3 0 j n) = Bn 0 j.val) (h1 : ∀ j : Fin 80, b1 (ix3 0 j n) = Bn 1 j.val)
    (h2 : ∀ j : Fin 80, b2 (ix3 0 j n) = Bn 2 j.val) :
    k0_pay1 B (k0_pay54 b0) b1 b2 H (ix2 r n) = (B (ix2 r n) + ∑ L : Fin 256, H (ix3 0 r L) * rows3 Bn L.val : EReal) := by
  pointwise [k0_pay1, k0_pay54]
  refine congrArg _ (Finset.sum_congr rfl fun L _ => ?_)
  unfold rows3
  simp only [h0, h1, h2]
  rfl

theorem tileB_read (Q : Vec Ideal S600x16384 .bf16) (T : Tab Ideal) (w : BitVec 32) (hw : w.toNat < 5) (i : grid0.Coords) (j : Fin 80) (n : Fin 512)
    (hn : (i 1).val * 512 + n.val < 16384) :
    tileB (winB Q T) w i (ix3 0 j n) = Q (ix2 (row600 ((base (T.start (ad T w.toNat))).toNat + j.val)) ⟨(i 1).val * 512 + n.val, hn⟩) := by
  have e1 : (⟨((i 1).val * 512 + n.val) % 16384, Nat.mod_lt _ (by decide)⟩ : Fin 16384) = ⟨(i 1).val * 512 + n.val, hn⟩ := Fin.ext (Nat.mod_eq_of_lt hn)
  have e2 : w.toNat % 5 = w.toNat := Nat.mod_eq_of_lt hw
  have e3 : row600 ((base (T.start (T.seg (w.toNat % 5)).toNat)).toNat + j.val) = row600 ((base (T.start (ad T w.toNat))).toNat + j.val) := by
    rw [e2]; rfl
  rw [ix3_eq_valueIdx, ix2_eq_valueIdx]
  exact congrArg₂ (fun a b => Q (ValueIdx.ix2 a b)) e3 e1

/-- The output tile at an entry. -/
theorem yAt_apply {T : Tab Ideal} (hf : ∀ s < 5, SegFits T s) (i i0 : grid0.Coords) (hi : i0 0 = i 0) (hc : (countB T (i 0).val).toNat ≤ 3)
    (wd : Vec Ideal S768x512 .i32) (sc : Vec Ideal S48x512 .bf16) (x : Vec Ideal S768x6144 .bf16)
    (P : Vec Ideal S3x600x6144 .bf16) (Q : Vec Ideal S600x16384 .bf16) (r : Fin 768) (n : Fin 512) (hn : (i 1).val * 512 + n.val < 16384) :
    yAt i wd sc x (winB Q T) (hAt i0 x P T) T (ix2 r n) =
      (bv (fun a => wd (ix2 a n)) (fun a => sc (ix2 a n)) (xF x r)
        + (dv T (pF P) (fun a => Q (ix2 a ⟨(i 1).val * 512 + n.val, hn⟩)) (xF x r) ((768 * (i 0).val + r.val : ℕ) : ℤ) 0 (colOf i)
          + dv T (pF P) (fun a => Q (ix2 a ⟨(i 1).val * 512 + n.val, hn⟩)) (xF x r) ((768 * (i 0).val + r.val : ℕ) : ℤ) 1 (colOf i)
          + dv T (pF P) (fun a => Q (ix2 a ⟨(i 1).val * 512 + n.val, hn⟩)) (xF x r) ((768 * (i 0).val + r.val : ℕ) : ℤ) 2 (colOf i)
          + dv T (pF P) (fun a => Q (ix2 a ⟨(i 1).val * 512 + n.val, hn⟩)) (xF x r) ((768 * (i 0).val + r.val : ℕ) : ℤ) 3 (colOf i)
          + dv T (pF P) (fun a => Q (ix2 a ⟨(i 1).val * 512 + n.val, hn⟩)) (xF x r) ((768 * (i 0).val + r.val : ℕ) : ℤ) 4 (colOf i)) : EReal) := by
  have hd : ∀ s, liveB T (i 0).val s ≠ 1#1 → dv T (pF P) (fun a => Q (ix2 a ⟨(i 1).val * 512 + n.val, hn⟩)) (xF x r) ((768 * (i 0).val + r.val : ℕ) : ℤ) s (colOf i) = 0 := by
    intro s h
    unfold dv
    refine Finset.sum_eq_zero fun j _ => ?_
    rw [hv_dead (i 0).isLt h, zero_mul]
  rw [← slot_sum (liveB T (i 0).val 0) (liveB T (i 0).val 1) (liveB T (i 0).val 2) (liveB T (i 0).val 3) (liveB T (i 0).val 4)
    (fun s => dv T (pF P) (fun a => Q (ix2 a ⟨(i 1).val * 512 + n.val, hn⟩)) (xF x r) ((768 * (i 0).val + r.val : ℕ) : ℤ) s (colOf i))
    (hd 0) (hd 1) (hd 2) (hd 3) (hd 4) hc]
  let sg : ℕ → ℕ := fun q => (segB T (i 0).val (BitVec.ofNat 32 q)).toNat
  have hsg : ∀ q, sg q < 5 := fun q => segB_lt _ _ _
  unfold yAt
  refine (out_read _ _ _ _ _ r n (fun q j => Q (ix2 (row600 ((base (T.start (ad T (sg q)))).toNat + j)) ⟨(i 1).val * 512 + n.val, hn⟩))
    (fun j => ?_) (fun j => ?_) (fun j => ?_)).trans ?_
  · rw [segAt_eq]; exact tileB_read Q T _ (segB_lt _ _ _) i j n hn
  · rw [segAt_eq]; exact tileB_read Q T _ (segB_lt _ _ _) i j n hn
  · rw [segAt_eq]; exact tileB_read Q T _ (segB_lt _ _ _) i j n hn
  rw [base_read]
  refine congrArg _ ?_
  have hl := lanes_sum (fun q => used (countB T (i 0).val) (BitVec.ofNat 32 q) = 1#1) (fun q => lagN T (sg q)) (fun q _ => lagN_le (hf _ (hsg q)))
    (fun q j => hv T (pF P) (xF x r) ((768 * (i 0).val + r.val : ℕ) : ℤ) (sg q) (colOf i) j)
    (fun q _ j h => hv_far (hf _ (hsg q)) _ _ _ _ j h)
    (fun q j => Q (ix2 (row600 ((base (T.start (ad T (sg q)))).toNat + j)) ⟨(i 1).val * 512 + n.val, hn⟩))
  have e : ∀ q j, (base (T.start (ad T (sg q)))).toNat + (lagN T (sg q) + j) = (T.start (ad T (sg q))).toNat + j := fun q j => by
    rw [← Nat.add_assoc, base_add_lag (hf _ (hsg q))]
  simp only [e] at hl
  refine Eq.trans (Finset.sum_congr rfl fun L _ => ?_) hl
  refine congrArg (fun a : EReal => a * _) ?_
  have hp : planeOf (colOf i) (hAt i0 x P T) (ix3 0 r L) = hAt i0 x P T (ix3 (colOf i) r L) := by
    rw [ix3_eq_valueIdx, ix3_eq_valueIdx]; rfl
  rw [hp, hAt_apply hf, hi]

end Cert.KernelIdeal.Hand

end

end
-- ==== Proof.Whole.lean ====
/-
  The two results as functions of the arrays.
-/
module

public import proofs.«01_k».proof.Proof.Spec
public import proofs.«01_k».proof.Proof.Act

@[expose] public section

noncomputable section

namespace Cert.Lora

open Idealize.ShloMosaic Cert.KernelIdeal Cert.KernelIdeal.Hand

/-- The first result: the base product plus the corrections of the five segments. -/
def yAll (T : Tab Ideal) (X : Vec Ideal S6912x6144 .bf16) (wd : Vec Ideal S768x16384 .i32) (sc : Vec Ideal S48x16384 .bf16)
    (P : Vec Ideal S3x600x6144 .bf16) (Q : Vec Ideal S600x16384 .bf16) (r : Fin 6912) (n : Fin 16384) : EReal :=
  let d := dv T (pF P) (fun a => Q (ix2 a n)) (fun k => X (ix2 r k)) ((r.val : ℕ) : ℤ)
  bv (fun a => wd (ix2 a n)) (fun a => sc (ix2 a n)) (fun k => X (ix2 r k))
    + (d 0 (colGroup n.val) + d 1 (colGroup n.val) + d 2 (colGroup n.val) + d 3 (colGroup n.val) + d 4 (colGroup n.val))

/-- The second result: the activations of the five segments. -/
def hAll (T : Tab Ideal) (X : Vec Ideal S6912x6144 .bf16) (P : Vec Ideal S3x600x6144 .bf16) (r : Fin 6912) (l : Fin 192) : EReal :=
  let v := fun s => hv T (pF P) (fun k => X (ix2 r k)) ((r.val : ℕ) : ℤ) s ⟨l.val / 64, by omega⟩ (l.val % 64)
  v 0 + v 1 + v 2 + v 3 + v 4

end Cert.Lora

end

end
-- ==== Proof.KernelValue.lean ====
/-
  The kernel's two arrays after its run.
-/
module

public import proofs.«01_k».proof.Proof.Run
public import proofs.«01_k».proof.Proof.TileY
public import proofs.«01_k».proof.Proof.Whole
public import Idealize.ShloMosaic.Lib.Pipeline.Covers
public import Idealize.ShloMosaic.Lib.Pipeline.ValueKit

@[expose] public section

noncomputable section

namespace Cert.KernelIdeal.Hand

open Cert.KernelIdeal Cert.KernelIdeal.Gen Cert.LoraWords Cert.Lora
open Idealize.ShloMosaic Idealize.ShloMosaic.TcCoe Idealize.ShloMosaic.Tactic Idealize.SL.Sem

variable (m : (ℓ : Loc nD τ sig) → Buf (Elt Ideal) ℓ)

theorem index5 : ∀ t : Fin grid0.N, win0_5.index t = ![(grid0.coords t 0).val, 0] := by decide +kernel
theorem index6 : ∀ t : Fin grid0.N, win0_6.index t = ![0, (grid0.coords t 1).val] := by decide +kernel
theorem index7 : ∀ t : Fin grid0.N, win0_7.index t = ![0, (grid0.coords t 1).val] := by decide +kernel
theorem index8 : ∀ t : Fin grid0.N, win0_8.index t = ![(grid0.coords t 0).val, (grid0.coords t 1).val] := by decide +kernel
theorem index9 : ∀ t : Fin grid0.N, win0_9.index t = ![(grid0.coords t 0).val, 0] := by decide +kernel

theorem xAt_apply (c : Dev nD) (t : Fin cfg0.N) (r : Fin 768) (k : Fin 6144) :
    xAt m c t (ix2 r k) = V m c main_v0 (ix2 ⟨768 * (t.val / 32) + r.val, by have : t.val < 288 := N_0 ▸ t.isLt; omega⟩ k) := by
  have h0 := coord0 t
  unfold xAt
  blk_ext [iblk, index5 t, h0]

theorem wAt_apply (c : Dev nD) (t : Fin cfg0.N) (a : Fin 768) (n : Fin 512) :
    wAt m c t (ix2 a n) = V m c main_arg1 (ix2 a ⟨512 * (t.val % 32) + n.val, by omega⟩) := by
  have h0 := coord1 t
  unfold wAt
  blk_ext [iblk, index6 t, h0]

theorem sAt_apply (c : Dev nD) (t : Fin cfg0.N) (a : Fin 48) (n : Fin 512) :
    sAt m c t (ix2 a n) = V m c main_arg2 (ix2 a ⟨512 * (t.val % 32) + n.val, by omega⟩) := by
  have h0 := coord1 t
  unfold sAt
  blk_ext [iblk, index7 t, h0]

theorem rowPt_val (b : ℕ) (hb : b < 9) : (rowPt b).val / 32 = b := by
  show b % 9 * 32 / 32 = b
  omega

theorem xF_xAt (c : Dev nD) (t : Fin cfg0.N) (b : ℕ) (hb : b < 9) (ht : t.val / 32 = b) (r : Fin 768) :
    xF (xAt m c t) r = fun k => V m c main_v0 (ix2 ⟨768 * b + r.val, by omega⟩ k) := by
  subst ht
  funext k
  exact xAt_apply m c t r k

variable (c : Dev nD) (hf : ∀ s < 5, SegFits (T0 m c) s) (hc : ∀ b < 9, (countB (T0 m c) b).toNat ≤ 3)
include hf hc

theorem GB_apply (b : ℕ) (hb : b < 9) (r : Fin 768) (l : Fin 192) :
    GB m c b (ix2 r l) = hAll (T0 m c) (V m c main_v0) (pA m c) ⟨768 * b + r.val, by omega⟩ l := by
  have h0 : (grid0.coords (rowPt b) 0).val = b := (coord0 _).trans (rowPt_val b hb)
  unfold GB
  rw [gAt_apply hf _ (by rw [h0]; exact hc b hb), xF_xAt m c _ b hb (rowPt_val b hb), h0]
  rfl

theorem YB_apply (t : Fin cfg0.N) (b j : ℕ) (hb : b < 9) (hj : j < 32) (ht : t.val / 32 = b) (ht1 : t.val % 32 = j) (r : Fin 768) (n : Fin 512) :
    YB m c t (ix2 r n) = yAll (T0 m c) (V m c main_v0) (V m c main_arg1) (V m c main_arg2) (pA m c) (pB m c)
      ⟨768 * b + r.val, by omega⟩ ⟨512 * j + n.val, by omega⟩ := by
  have h0 : (grid0.coords t 0).val = b := (coord0 _).trans ht
  have h1 : (grid0.coords t 1).val = j := (coord1 _).trans ht1
  have h0' : (grid0.coords (rowPt b) 0).val = b := (coord0 _).trans (rowPt_val b hb)
  have ex : xAt m c (rowPt b) = xAt m c t := by
    funext i
    rw [eq_ix2 i]
    exact (congrFun (xF_xAt m c (rowPt b) b hb (rowPt_val b hb) (i 0)) (i 1)).trans (congrFun (xF_xAt m c t b hb ht (i 0)) (i 1)).symm
  unfold YB HB BW
  rw [ht, ex, yAt_apply hf _ _ (Fin.ext (h0'.trans h0.symm)) (by rw [h0]; exact hc b hb) _ _ _ _ _ r n (by rw [h1]; omega), xF_xAt m c _ b hb ht, h0]
  have en : (⟨(grid0.coords t 1).val * 512 + n.val, by rw [h1]; omega⟩ : Fin 16384) = ⟨512 * j + n.val, by omega⟩ :=
    Fin.ext (by show (grid0.coords t 1).val * 512 + n.val = 512 * j + n.val; rw [h1]; omega)
  have ew : (fun a => wAt m c t (ix2 a n)) = fun a => V m c main_arg1 (ix2 a ⟨512 * j + n.val, by omega⟩) := by
    subst ht1; exact funext fun a => wAt_apply m c t a n
  have es : (fun a => sAt m c t (ix2 a n)) = fun a => V m c main_arg2 (ix2 a ⟨512 * j + n.val, by omega⟩) := by
    subst ht1; exact funext fun a => sAt_apply m c t a n
  have ec : colOf (grid0.coords t) = colGroup (512 * j + n.val) := by
    unfold colOf colGroup
    rw [h1]
    split_ifs <;> first | rfl | omega
  rw [en, ew, es, ec]
  rfl

/-- The returned activations after the run. -/
theorem arr9 : (dats m 0 c).arrAt 9 (cfgs 0).N
    = fun i => hAll (T0 m c) (V m c main_v0) (pA m c) (i 0) (i 1) := by
  refine (dats m 0 c).arrAt_eq_of_covers 9 _ (by decide +kernel) fun t hfl y => ?_
  have h0 := coord0 t
  have ht : t.val < 288 := N_0 ▸ t.isLt
  have e : (win0_9.blk t).view.emb y = ix2 ⟨768 * (t.val / 32) + (y 0).val, by have : (y 0).val < 768 := (y 0).isLt; omega⟩ (y 1) := by
    blk_ext [index9 t, h0]
  blk_simp [index9 t, h0]
  rw [e]
  refine Eq.trans ?_ (GB_apply m c hf hc (t.val / 32) (by omega) (y 0) (y 1))
  show GB m c (t.val / 32) y = _
  exact congrArg (GB m c (t.val / 32)) (eq_ix2 y)

/-- The output after the run. -/
theorem arr8 : (dats m 0 c).arrAt 8 (cfgs 0).N
    = fun i => yAll (T0 m c) (V m c main_v0) (V m c main_arg1) (V m c main_arg2) (pA m c) (pB m c) (i 0) (i 1) := by
  refine (dats m 0 c).arrAt_eq_of_covers 8 _ (by decide +kernel) fun t hfl y => ?_
  have h0 := coord0 t
  have h1 := coord1 t
  have ht : t.val < 288 := N_0 ▸ t.isLt
  have e : (win0_8.blk t).view.emb y = ix2 ⟨768 * (t.val / 32) + (y 0).val, by have : (y 0).val < 768 := (y 0).isLt; omega⟩
      ⟨512 * (t.val % 32) + (y 1).val, by have : (y 1).val < 512 := (y 1).isLt; omega⟩ := by
    blk_ext [index8 t, h0, h1]
  blk_simp [index8 t, h0, h1]
  rw [e]
  refine Eq.trans ?_ (YB_apply m c hf hc t _ _ (by omega) (by omega) rfl rfl (y 0) (y 1))
  show YB m c t y = _
  exact congrArg (YB m c t) (eq_ix2 y)

end Cert.KernelIdeal.Hand

end

end
-- ==== Proof.RefSeg.lean ====
/-
  One segment of the reference, entry by entry.
-/
module

public import proofs.«01_k».proof.Proof.Gen.ReferenceIdeal.Run
public import proofs.«01_k».proof.Proof.Whole
public import proofs.«01_k».proof.Proof.LaneWords
public import Idealize.ShloMosaic.Lib.Pointwise
public import Idealize.ShloMosaic.PureOps.Ideal.Laws

@[expose] public section

noncomputable section

namespace Cert.ReferenceIdeal.Hand

open Cert.ReferenceIdeal Cert.ReferenceIdeal.Gen Cert.ReferenceIdeal.Value Cert.LoraWords Cert.Lora
open Idealize.ShloMosaic Idealize.ShloMosaic.TcCoe Idealize.ShloMosaic.Tactic Idealize.SL.Sem
open Cert.KernelIdeal.Hand (Tab tabOf pF)

/-- Where the reference reads an adapter's entry of a table. -/
def at7 (sg : IVec S_ 32) : Fin 1 → ℤ := fun k => (((![select (cmpi .slt sg (constantI S_ 32 0#32)) (addi sg (constantI S_ 32 7#32)) sg] : Fin 1 → (⟨S_, .i32⟩ : BufTy).Contents (Elt Ideal))) k (Shape.Idx.first h_S_)).toInt

/-- Where the reference reads a segment's rows of the first pool. -/
def at3 (st : IVec S_ 32) : Fin 3 → ℤ := fun k => (((![constantI S_ 32 0#32, select (cmpi .slt st (constantI S_ 32 0#32)) (addi st (constantI S_ 32 600#32)) st, constantI S_ 32 0#32] : Fin 3 → (⟨S_, .i32⟩ : BufTy).Contents (Elt Ideal))) k (Shape.Idx.first h_S_)).toInt

/-- Where the reference reads an adapter's scales. -/
def at2 (sg : IVec S_ 32) : Fin 2 → ℤ := fun k => (((![select (cmpi .slt sg (constantI S_ 32 0#32)) (addi sg (constantI S_ 32 7#32)) sg, select (cmpi .slt (constantI S_ 32 0#32) (constantI S_ 32 0#32)) (addi (constantI S_ 32 0#32) (constantI S_ 32 3#32)) (constantI S_ 32 0#32)] : Fin 2 → (⟨S_, .i32⟩ : BufTy).Contents (Elt Ideal))) k (Shape.Idx.first h_S_)).toInt

/-- Where the reference reads a segment's rows of the second pool. -/
def atB (st : IVec S_ 32) : Fin 2 → ℤ := fun k => (((![select (cmpi .slt st (constantI S_ 32 0#32)) (addi st (constantI S_ 32 600#32)) st, constantI S_ 32 0#32] : Fin 2 → (⟨S_, .i32⟩ : BufTy).Contents (Elt Ideal))) k (Shape.Idx.first h_S_)).toInt

/-- The masked activations of a segment with first row `lo` and end `hi`, its adapter's entries and its
    pool rows read from `i7`, `i2` and `i3` on. -/
def maskedH (x : FVec Ideal S6912x6144 .bf16) (p : FVec Ideal S3x600x6144 .bf16) (rk : IVec S7 32) (sl : FVec Ideal S7x3 .f32)
    (lo hi : IVec S_ 32) (i7 : Fin 1 → ℤ) (i3 : Fin 3 → ℤ) (i2 : Fin 2 → ℤ) : FVec Ideal S6912x3x64 .bf16 :=
  select (broadcastInDim S6912x3x64 ![0, 1, 2] bcast_S6912x1x64_S6912x3x64_0_1_2 (andi (broadcastInDim S6912x1x64 ![0, 1, 2] bcast_S6912x1x1_S6912x1x64_0_1_2 (broadcastInDim S6912x1x1 ![0] bcast_S6912_S6912x1x1_0 (andi (cmpi .sge (iotaInDim S6912 32 0) (broadcastInDim S6912 ![] bcast_S_S6912 lo)) (cmpi .slt (iotaInDim S6912 32 0) (broadcastInDim S6912 ![] bcast_S_S6912 hi))))) (broadcastInDim S6912x1x64 ![0, 1, 2] bcast_S1x1x64_S6912x1x64_0_1_2 (cmpi .slt (broadcastInDim S1x1x64 ![2] bcast_S64_S1x1x64_2 (iotaInDim S64 32 0)) (broadcastInDim S1x1x64 ![] bcast_S_S1x1x64 (shapeCast _ (Host.dynamicSlice S1 rk i7 sliceFits_S7_S1) shapeCasts_S1_S_)))))) (truncf .bf16 (mulf (Host.dotGeneral (F := Ideal) dot_S6912x6144_S3x64x6144_S6912x3x64_1_2_0_01_n_n none x (Host.dynamicSlice S3x64x6144 p i3 sliceFits_S3x600x6144_S3x64x6144)) (broadcastInDim S6912x3x64 ![0, 1, 2] bcast_S1x3x1_S6912x3x64_0_1_2 (broadcastInDim S1x3x1 ![1] bcast_S3_S1x3x1_1 (shapeCast _ (Host.dynamicSlice S1x3 sl i2 sliceFits_S7x3_S1x3) shapeCasts_S1x3_S3)))) bitsLt_bf16_f32) (broadcastInDim S6912x3x64 ![] bcast_S_S6912x3x64 (constant (F := Ideal) S_ .bf16 0x0000#16))

/-- The 64 rows of the second pool read from `iB` on. -/
def sliceB (q : FVec Ideal S600x16384 .bf16) (iB : Fin 2 → ℤ) : FVec Ideal S64x16384 .bf16 :=
  Host.dynamicSlice S64x16384 q iB sliceFits_S600x16384_S64x16384

/-- The pool start of an adapter, read at `i7`. -/
def startOf (a : IVec S7 32) (i7 : Fin 1 → ℤ) : IVec S_ 32 :=
  shapeCast _ (Host.dynamicSlice S1 a i7 sliceFits_S7_S1) shapeCasts_S1_S_

/-- A segment's activations times its rows of the second pool, group by group. -/
def partY (h : FVec Ideal S6912x3x64 .bf16) (b : FVec Ideal S64x16384 .bf16) : FVec Ideal S6912x16384 .f32 :=
  concatenate S6912x16384 1 [⟨S6912x8192, ((Host.dotGeneral (F := Ideal) dot_S6912x64_S64x8192_S6912x8192_1_0_0_1_n_n none (shapeCast _ (extractStridedSlice S6912x1x64 ![0, 0, 0] h slices_S6912x3x64_S6912x1x64_0_0_0) shapeCasts_S6912x1x64_S6912x64) (extractStridedSlice S64x8192 ![0, 0] b slices_S64x16384_S64x8192_0_0)) : (⟨S6912x8192, .f32⟩ : BufTy).Contents (Elt Ideal))⟩, ⟨S6912x4096, ((Host.dotGeneral (F := Ideal) dot_S6912x64_S64x4096_S6912x4096_1_0_0_1_n_n none (shapeCast _ (extractStridedSlice S6912x1x64 ![0, 1, 0] h slices_S6912x3x64_S6912x1x64_0_1_0) shapeCasts_S6912x1x64_S6912x64) (extractStridedSlice S64x4096 ![0, 8192] b slices_S64x16384_S64x4096_0_8192)) : (⟨S6912x4096, .f32⟩ : BufTy).Contents (Elt Ideal))⟩, ⟨S6912x4096, ((Host.dotGeneral (F := Ideal) dot_S6912x64_S64x4096_S6912x4096_1_0_0_1_n_n none (shapeCast _ (extractStridedSlice S6912x1x64 ![0, 2, 0] h slices_S6912x3x64_S6912x1x64_0_2_0) shapeCasts_S6912x1x64_S6912x64) (extractStridedSlice S64x4096 ![0, 12288] b slices_S64x16384_S64x4096_0_12288)) : (⟨S6912x4096, .f32⟩ : BufTy).Contents (Elt Ideal))⟩] concatenates_S6912x8192_S6912x4096_S6912x4096_S6912x16384_d1

/-- A word that is no negative number is read as it is. -/
theorem wrap_word (w c : BitVec 32) (h : w.toNat < 2 ^ 30) : (Scalar.select (IntOp.cmpi .slt w 0#32) (IntOp.addi w c) w).toInt = w.toNat := by
  have h0 : w.toInt = w.toNat := by have := toInt_small h; rwa [BitVec.ofNat_toNat, BitVec.setWidth_eq] at this
  rw [select_eq_ite, if_neg, h0]
  intro hc
  have := IntOp.cmpi_slt.mp hc
  rw [h0] at this
  have h2 : (0#32 : BitVec 32).toInt = 0 := by decide
  omega

theorem at7_zero (w : BitVec 32) (h : w.toNat < 7) : at7 (fun _ => w) 0 = w.toNat := wrap_word w 7#32 (by omega)
theorem at3_zero (st : IVec S_ 32) : at3 st 0 = 0 := rfl
theorem at3_one (w : BitVec 32) (h : w.toNat ≤ 536) : at3 (fun _ => w) 1 = w.toNat := wrap_word w 600#32 (by omega)
theorem at3_two (st : IVec S_ 32) : at3 st 2 = 0 := rfl
theorem at2_zero (w : BitVec 32) (h : w.toNat < 7) : at2 (fun _ => w) 0 = w.toNat := wrap_word w 7#32 (by omega)
theorem at2_one (sg : IVec S_ 32) : at2 sg 1 = 0 := by
  show (Scalar.select (IntOp.cmpi .slt 0#32 0#32) (IntOp.addi 0#32 3#32) 0#32).toInt = 0
  decide
theorem atB_zero (w : BitVec 32) (h : w.toNat ≤ 536) : atB (fun _ => w) 0 = w.toNat := wrap_word w 600#32 (by omega)
theorem atB_one (st : IVec S_ 32) : atB st 1 = 0 := rfl

theorem maskedH_apply (x : FVec Ideal S6912x6144 .bf16) (p : FVec Ideal S3x600x6144 .bf16) (rk : IVec S7 32) (sl : FVec Ideal S7x3 .f32)
    (lo hi : IVec S_ 32) (i7 : Fin 1 → ℤ) (i3 : Fin 3 → ℤ) (i2 : Fin 2 → ℤ) (a st : ℕ) (ha : a < 7) (hst : st ≤ 536)
    (h7 : i7 0 = a) (h30 : i3 0 = 0) (h31 : i3 1 = st) (h32 : i3 2 = 0) (h20 : i2 0 = a) (h21 : i2 1 = 0)
    (r : Fin 6912) (g : Fin 3) (j : Fin 64) :
    maskedH x p rk sl lo hi i7 i3 i2 (ix3 r g j)
      = if ((lo ix0).toInt ≤ (r.val : ℤ) ∧ (r.val : ℤ) < (hi ix0).toInt) ∧ (j.val : ℤ) < (rk (ix1 ⟨a, ha⟩)).toInt then
          (∑ k : Fin 6144, x (ix2 r k) * p (ix3 g ⟨st + j.val, by omega⟩ k)) * sl (ix2 ⟨a, ha⟩ g)
        else 0 := by
  have e7 : Host.clampedStart S7 S1 rfl i7 0 = a := Host.clampedStart_of_le _ _ _ a h7 (by show a + 1 ≤ 7; omega)
  have e30 : Host.clampedStart S3x600x6144 S3x64x6144 rfl i3 0 = 0 := Host.clampedStart_of_le _ _ _ 0 h30 (by decide)
  have e31 : Host.clampedStart S3x600x6144 S3x64x6144 rfl i3 1 = st := Host.clampedStart_of_le _ _ _ st h31 (by show st + 64 ≤ 600; omega)
  have e32 : Host.clampedStart S3x600x6144 S3x64x6144 rfl i3 2 = 0 := Host.clampedStart_of_le _ _ _ 0 h32 (by decide)
  have e20 : Host.clampedStart S7x3 S1x3 rfl i2 0 = a := Host.clampedStart_of_le _ _ _ a h20 (by show a + 1 ≤ 7; omega)
  have e21 : Host.clampedStart S7x3 S1x3 rfl i2 1 = 0 := Host.clampedStart_of_le _ _ _ 0 h21 (by decide)
  pointwise [maskedH]
  simp only [e7, e30, e31, e32, e20, e21, Nat.zero_add]
  rw [select_eq_ite]
  refine if_congr ?_ rfl rfl
  rw [IntOp.andi_eq_one, IntOp.andi_eq_one, IntOp.cmpi_sge, IntOp.cmpi_slt, IntOp.cmpi_slt,
    toInt_small (a := r.val) (by omega), toInt_small (a := j.val) (by omega)]

theorem sliceB_apply (q : FVec Ideal S600x16384 .bf16) (iB : Fin 2 → ℤ) (st : ℕ) (hst : st ≤ 536) (h0 : iB 0 = st) (h1 : iB 1 = 0)
    (j : Fin 64) (n : Fin 16384) : sliceB q iB (ix2 j n) = q (ix2 ⟨st + j.val, by omega⟩ n) := by
  have e0 : Host.clampedStart S600x16384 S64x16384 rfl iB 0 = st := Host.clampedStart_of_le _ _ _ st h0 (by show st + 64 ≤ 600; omega)
  have e1 : Host.clampedStart S600x16384 S64x16384 rfl iB 1 = 0 := Host.clampedStart_of_le _ _ _ 0 h1 (by decide)
  pointwise [sliceB]
  simp only [e0, e1, Nat.zero_add]

theorem startOf_apply (a : IVec S7 32) (i7 : Fin 1 → ℤ) (k : ℕ) (hk : k < 7) (h7 : i7 0 = k) : startOf a i7 = fun _ => a (ix1 ⟨k, hk⟩) := by
  have e7 : Host.clampedStart S7 S1 rfl i7 0 = k := Host.clampedStart_of_le _ _ _ k h7 (by show k + 1 ≤ 7; omega)
  funext i
  pointwise [startOf]
  simp only [e7]

theorem partY_apply (h : FVec Ideal S6912x3x64 .bf16) (b : FVec Ideal S64x16384 .bf16) (r : Fin 6912) (n : Fin 16384) :
    partY h b (ix2 r n) = ∑ j : Fin 64, h (ix3 r (colGroup n.val) j) * b (ix2 j n) := by
  pointwise [partY]
  unfold colGroup
  by_cases h1 : n.val < 8192
  · rw [dif_pos h1, if_pos h1]
  · rw [dif_neg h1, if_neg h1]
    by_cases h2 : n.val < 12288
    · rw [dif_pos (by omega), if_pos h2]
      refine Finset.sum_congr rfl fun j _ => ?_
      rw [show (⟨8192 + (n.val - 8192), by omega⟩ : Fin 16384) = n from Fin.ext (by show 8192 + (n.val - 8192) = n.val; omega)]
    · rw [dif_neg (by omega), if_neg h2]
      refine Finset.sum_congr rfl fun j _ => ?_
      rw [show (⟨12288 + (n.val - 8192 - 4096), by omega⟩ : Fin 16384) = n from Fin.ext (by show 12288 + (n.val - 8192 - 4096) = n.val; omega)]

/-! ## A segment, over the tables -/

section

variable (d2 : IVec S6 32) (d3 : IVec S5 32) (d4 d5 : IVec S7 32) (d6 : FVec Ideal S7x3 .f32)

theorem seg_start (s : ℕ) (h7 : ((tabOf (F := Ideal) d2 d3 d4 d5 d6).seg s).toNat < 7) :
    startOf d4 (at7 (fun _ => (tabOf (F := Ideal) d2 d3 d4 d5 d6).seg s)) = fun _ => (tabOf (F := Ideal) d2 d3 d4 d5 d6).start (ad (tabOf (F := Ideal) d2 d3 d4 d5 d6) s) := by
  rw [startOf_apply d4 _ ((tabOf (F := Ideal) d2 d3 d4 d5 d6).seg s).toNat h7 (at7_zero _ h7)]
  funext _
  show d4 (ix1 ⟨ad (tabOf (F := Ideal) d2 d3 d4 d5 d6) s, h7⟩) = d4 (ix1 ⟨ad (tabOf (F := Ideal) d2 d3 d4 d5 d6) s % 7, Nat.mod_lt _ (by decide)⟩)
  exact congrArg (fun k : Fin 7 => d4 (ix1 k)) (Fin.ext (Nat.mod_eq_of_lt h7).symm)

theorem seg_h (X : FVec Ideal S6912x6144 .bf16) (P : FVec Ideal S3x600x6144 .bf16) (s : ℕ) (h7 : ((tabOf (F := Ideal) d2 d3 d4 d5 d6).seg s).toNat < 7)
    (hst : ((tabOf (F := Ideal) d2 d3 d4 d5 d6).start (ad (tabOf (F := Ideal) d2 d3 d4 d5 d6) s)).toNat ≤ 536) (r : Fin 6912) (g : Fin 3) (j : Fin 64) :
    maskedH X P d5 d6 (fun _ => (tabOf (F := Ideal) d2 d3 d4 d5 d6).off s) (fun _ => (tabOf (F := Ideal) d2 d3 d4 d5 d6).off (s + 1)) (at7 (fun _ => (tabOf (F := Ideal) d2 d3 d4 d5 d6).seg s)) (at3 (fun _ => (tabOf (F := Ideal) d2 d3 d4 d5 d6).start (ad (tabOf (F := Ideal) d2 d3 d4 d5 d6) s)))
        (at2 (fun _ => (tabOf (F := Ideal) d2 d3 d4 d5 d6).seg s)) (ix3 r g j)
      = hv (tabOf (F := Ideal) d2 d3 d4 d5 d6) (pF P) (fun k => X (ix2 r k)) ((r.val : ℕ) : ℤ) s g j.val := by
  rw [maskedH_apply X P d5 d6 _ _ _ _ _ ((tabOf (F := Ideal) d2 d3 d4 d5 d6).seg s).toNat ((tabOf (F := Ideal) d2 d3 d4 d5 d6).start (ad (tabOf (F := Ideal) d2 d3 d4 d5 d6) s)).toNat h7 hst (at7_zero _ h7) (at3_zero _) (at3_one _ hst)
    (at3_two _) (at2_zero _ h7) (at2_one _)]
  have e7 : (⟨((tabOf (F := Ideal) d2 d3 d4 d5 d6).seg s).toNat, h7⟩ : Fin 7) = ⟨ad (tabOf (F := Ideal) d2 d3 d4 d5 d6) s % 7, Nat.mod_lt _ (by decide)⟩ := Fin.ext (Nat.mod_eq_of_lt h7).symm
  have er : row600 (((tabOf (F := Ideal) d2 d3 d4 d5 d6).start (ad (tabOf (F := Ideal) d2 d3 d4 d5 d6) s)).toNat + j.val) = ⟨((tabOf (F := Ideal) d2 d3 d4 d5 d6).start (ad (tabOf (F := Ideal) d2 d3 d4 d5 d6) s)).toNat + j.val, by omega⟩ :=
    Fin.ext (Nat.mod_eq_of_lt (by omega))
  unfold hv InRow pF
  rw [er, e7]
  rfl

theorem seg_y (X : FVec Ideal S6912x6144 .bf16) (P : FVec Ideal S3x600x6144 .bf16) (Q : FVec Ideal S600x16384 .bf16) (s : ℕ)
    (h7 : ((tabOf (F := Ideal) d2 d3 d4 d5 d6).seg s).toNat < 7) (hst : ((tabOf (F := Ideal) d2 d3 d4 d5 d6).start (ad (tabOf (F := Ideal) d2 d3 d4 d5 d6) s)).toNat ≤ 536) (r : Fin 6912) (n : Fin 16384) :
    partY (maskedH X P d5 d6 (fun _ => (tabOf (F := Ideal) d2 d3 d4 d5 d6).off s) (fun _ => (tabOf (F := Ideal) d2 d3 d4 d5 d6).off (s + 1)) (at7 (fun _ => (tabOf (F := Ideal) d2 d3 d4 d5 d6).seg s)) (at3 (fun _ => (tabOf (F := Ideal) d2 d3 d4 d5 d6).start (ad (tabOf (F := Ideal) d2 d3 d4 d5 d6) s)))
        (at2 (fun _ => (tabOf (F := Ideal) d2 d3 d4 d5 d6).seg s))) (sliceB Q (atB (fun _ => (tabOf (F := Ideal) d2 d3 d4 d5 d6).start (ad (tabOf (F := Ideal) d2 d3 d4 d5 d6) s)))) (ix2 r n)
      = dv (tabOf (F := Ideal) d2 d3 d4 d5 d6) (pF P) (fun a => Q (ix2 a n)) (fun k => X (ix2 r k)) ((r.val : ℕ) : ℤ) s (colGroup n.val) := by
  rw [partY_apply]
  unfold dv
  refine Finset.sum_congr rfl fun j _ => ?_
  rw [seg_h d2 d3 d4 d5 d6 X P s h7 hst, sliceB_apply Q _ _ hst (atB_zero _ hst) (atB_one _)]
  rw [show row600 (((tabOf (F := Ideal) d2 d3 d4 d5 d6).start (ad (tabOf (F := Ideal) d2 d3 d4 d5 d6) s)).toNat + j.val) = ⟨((tabOf (F := Ideal) d2 d3 d4 d5 d6).start (ad (tabOf (F := Ideal) d2 d3 d4 d5 d6) s)).toNat + j.val, by omega⟩ from
    Fin.ext (Nat.mod_eq_of_lt (by omega))]

end

end Cert.ReferenceIdeal.Hand

end

end
-- ==== Proof.RefBase.lean ====
/-
  The reference's base product, entry by entry.
-/
module

public import proofs.«01_k».proof.Proof.RefSeg
public import Idealize.ShloMosaic.Lib.Pipeline.ValueKit.Acc

@[expose] public section

noncomputable section

namespace Cert.ReferenceIdeal.Hand

open Cert.ReferenceIdeal Cert.ReferenceIdeal.Gen Cert.ReferenceIdeal.Value Cert.LoraWords Cert.Lora
open Idealize.ShloMosaic Idealize.ShloMosaic.TcCoe Idealize.ShloMosaic.Tactic Idealize.SL.Sem

/-- The codes the reference reads off a field of the packed words. -/
def codeOf (f : IVec S768x16384 32) : IVec S768x16384 32 :=
  subi f (muli (broadcastInDim S768x16384 ![] bcast_S_S768x16384 (constantI S_ 32 16#32)) (extui 32 (cmpi .sge f (broadcastInDim S768x16384 ![] bcast_S_S768x16384 (constantI S_ 32 8#32))) natLt_1_32))

/-- Field of the packed words at a shift. -/
def fieldOf (w : IVec S768x16384 32) (sh : BitVec 32) : IVec S768x16384 32 :=
  andi (Host.shrsi w (broadcastInDim S768x16384 ![] bcast_S_S768x16384 (constantI S_ 32 sh))) (broadcastInDim S768x16384 ![] bcast_S_S768x16384 (constantI S_ 32 15#32))

/-- The product of the activations `x` with the weights of one field. -/
def fieldDot (x : FVec Ideal S6912x768 .bf16) (f : IVec S768x16384 32) (s : FVec Ideal S768x16384 .bf16) : FVec Ideal S6912x16384 .f32 :=
  Host.dotGeneral (F := Ideal) dot_S6912x768_S768x16384_S6912x16384_1_0_0_1_n_n none x (mulf (sitofp (F := Ideal) .bf16 (codeOf f)) s)

/-- The signed code of a four-bit field. -/
def sgn4 (f : BitVec 32) : BitVec 32 := IntOp.subi f (IntOp.muli 16#32 (BitVec.setWidth 32 (IntOp.cmpi .sge f 8#32)))

/-! ## The two ways of reading a signed four-bit field agree -/

theorem sgn4_small : ∀ f : Fin 16, sgn4 (BitVec.ofNat 32 f.val) = (BitVec.ofNat 32 f.val <<< 28).sshiftRight 28 := by decide

theorem top_bits (x y : BitVec 32) (h : ∀ i < 4, x.getLsbD (28 + i) = y.getLsbD (28 + i)) : x.sshiftRight 28 = y.sshiftRight 28 := by
  apply BitVec.eq_of_getLsbD_eq
  intro i hi
  have hm : x.msb = y.msb := by rw [BitVec.msb_eq_getLsbD_last, BitVec.msb_eq_getLsbD_last]; exact h 3 (by omega)
  rw [BitVec.getLsbD_sshiftRight, BitVec.getLsbD_sshiftRight, hm]
  by_cases h2 : 28 + i < 32
  · rw [if_pos h2, if_pos h2, h i (by omega)]
  · rw [if_neg h2, if_neg h2]

theorem field_word (w : BitVec 32) (j : ℕ) (hj : j < 8) :
    sgn4 (IntOp.andi (IntOp.shrsi .host w (BitVec.ofNat 32 (4 * j))) 15#32) = nib w j := by
  have e : IntOp.shrsi .host w (BitVec.ofNat 32 (4 * j)) = w.sshiftRight (4 * j) := by
    have h1 : (BitVec.ofNat 32 (4 * j)).toNat = 4 * j := by rw [BitVec.toNat_ofNat]; omega
    unfold IntOp.shrsi
    rw [if_pos (by rw [h1]; omega)]
    show w.sshiftRight (BitVec.ofNat 32 (4 * j)).toNat = _
    rw [h1]
  rw [e]
  show sgn4 (w.sshiftRight (4 * j) &&& 15#32) = _
  have hlt : (w.sshiftRight (4 * j) &&& 15#32).toNat < 16 := by
    rw [BitVec.toNat_and, BitVec.toNat_ofNat, show 15 % 2 ^ 32 = 2 ^ 4 - 1 from rfl, Nat.and_two_pow_sub_one_eq_mod]
    exact Nat.mod_lt _ (by decide)
  have h := sgn4_small ⟨_, hlt⟩
  rw [BitVec.ofNat_toNat, BitVec.setWidth_eq] at h
  rw [h]
  unfold nib
  apply top_bits
  intro i hi
  have hb : (15#32).getLsbD i = true := by interval_cases i <;> rfl
  rw [BitVec.getLsbD_shiftLeft, BitVec.getLsbD_shiftLeft, show 28 + i - 28 = i by omega, BitVec.getLsbD_and, hb, BitVec.getLsbD_sshiftRight,
    if_pos (by omega), show 28 + i - (28 - 4 * j) = 4 * j + i by omega]
  have a1 : decide (28 + i < 32) = true := decide_eq_true (by omega)
  have a2 : decide (28 + i < 28) = false := decide_eq_false (by omega)
  have a3 : decide (28 + i < 28 - 4 * j) = false := decide_eq_false (by omega)
  have a4 : decide (32 ≤ i) = false := decide_eq_false (by omega)
  rw [a1, a2, a3, a4]
  simp

/-! ## The sum over the rows, field by field -/

/-- What field `j` of the words adds to the base product. -/
def bj (wd : Fin 768 → BitVec 32) (sc : Fin 48 → EReal) (x : Fin 6144 → EReal) (j : Fin 8) : EReal :=
  ∑ a : Fin 768, x ⟨j.val + 8 * a.val, by omega⟩ * (((nib (wd a) j.val).toInt : ℝ) * sc ⟨a.val / 16, by omega⟩)

theorem bv_fields (wd : Fin 768 → BitVec 32) (sc : Fin 48 → EReal) (x : Fin 6144 → EReal) :
    bv wd sc x = bj wd sc x 0 + bj wd sc x 1 + bj wd sc x 2 + bj wd sc x 3 + bj wd sc x 4 + bj wd sc x 5 + bj wd sc x 6 + bj wd sc x 7 := by
  have h : bv wd sc x = ∑ a : Fin 768, ∑ j : Fin 8,
      x ⟨j.val + 8 * a.val, by omega⟩ * (((nib (wd a) j.val).toInt : ℝ) * sc ⟨a.val / 16, by omega⟩) := by
    unfold bv
    refine Fin.sum_divmod_congr fun k ha hj => ?_
    have e1 : k = ⟨k.val % 8 + 8 * (k.val / 8), by omega⟩ := Fin.ext (by show k.val = k.val % 8 + 8 * (k.val / 8); omega)
    have e2 : (⟨k.val / 128, by omega⟩ : Fin 48) = ⟨k.val / 8 / 16, by omega⟩ := Fin.ext (by show k.val / 128 = k.val / 8 / 16; omega)
    rw [e2]
    exact congrArg (fun q : Fin 6144 => x q * _) e1
  rw [h, Finset.sum_comm, Fin.sum_univ_eight]
  rfl

theorem fieldDot_apply (X : FVec Ideal S6912x6144 .bf16) (w : IVec S768x16384 32) (sc : FVec Ideal S48x16384 .bf16)
    (x : FVec Ideal S6912x768 .bf16) (s : FVec Ideal S768x16384 .bf16) (sh : BitVec 32) (j : Fin 8) (hsh : sh = BitVec.ofNat 32 (4 * j.val))
    (hx : ∀ r a, x (ix2 r a) = X (ix2 r ⟨j.val + 8 * a.val, by omega⟩)) (hs : ∀ a n, s (ix2 a n) = sc (ix2 ⟨a.val / 16, by omega⟩ n))
    (r : Fin 6912) (n : Fin 16384) :
    fieldDot x (fieldOf w sh) s (ix2 r n) = bj (fun a => w (ix2 a n)) (fun a => sc (ix2 a n)) (fun k => X (ix2 r k)) j := by
  subst hsh
  pointwise [fieldDot, codeOf, fieldOf]
  unfold bj
  refine Finset.sum_congr rfl fun a _ => ?_
  rw [hx, hs, ← field_word _ _ j.isLt]
  rfl

theorem scales_apply (V0 : Valuation τ sig (Elt Ideal)) (a : Fin 768) (n : Fin 16384) :
    (show FVec Ideal S768x16384 .bf16 from res_main_v2 V0) (ix2 a n) = (show FVec Ideal S48x16384 .bf16 from V0 (Proc.devRef .tc main_arg2)) (ix2 ⟨a.val / 16, by omega⟩ n) := by
  show res_main_v2 V0 (ix2 a n) = _
  pointwise [res_main_v2]

/-- The base product. -/
def baseOf (X : FVec Ideal S6912x6144 .bf16) (w : IVec S768x16384 32) (s : FVec Ideal S768x16384 .bf16) : FVec Ideal S6912x16384 .f32 :=
  addf (addf (addf (addf (addf (addf (addf (fieldDot (Host.slice S6912x768 ![0, 0] ![1, 8] X slicesBy_S6912x6144_S6912x768_0s1_0s8) (fieldOf w 0#32) s)
    (fieldDot (Host.slice S6912x768 ![0, 1] ![1, 8] X slicesBy_S6912x6144_S6912x768_0s1_1s8) (fieldOf w 4#32) s))
    (fieldDot (Host.slice S6912x768 ![0, 2] ![1, 8] X slicesBy_S6912x6144_S6912x768_0s1_2s8) (fieldOf w 8#32) s))
    (fieldDot (Host.slice S6912x768 ![0, 3] ![1, 8] X slicesBy_S6912x6144_S6912x768_0s1_3s8) (fieldOf w 12#32) s))
    (fieldDot (Host.slice S6912x768 ![0, 4] ![1, 8] X slicesBy_S6912x6144_S6912x768_0s1_4s8) (fieldOf w 16#32) s))
    (fieldDot (Host.slice S6912x768 ![0, 5] ![1, 8] X slicesBy_S6912x6144_S6912x768_0s1_5s8) (fieldOf w 20#32) s))
    (fieldDot (Host.slice S6912x768 ![0, 6] ![1, 8] X slicesBy_S6912x6144_S6912x768_0s1_6s8) (fieldOf w 24#32) s))
    (fieldDot (Host.slice S6912x768 ![0, 7] ![1, 8] X slicesBy_S6912x6144_S6912x768_0s1_7s8) (fieldOf w 28#32) s)

theorem baseOf_apply (X : FVec Ideal S6912x6144 .bf16) (w : IVec S768x16384 32) (sc : FVec Ideal S48x16384 .bf16) (s : FVec Ideal S768x16384 .bf16)
    (hs : ∀ a n, s (ix2 a n) = sc (ix2 ⟨a.val / 16, by omega⟩ n)) (r : Fin 6912) (n : Fin 16384) :
    baseOf X w s (ix2 r n) = bv (fun a => w (ix2 a n)) (fun a => sc (ix2 a n)) (fun k => X (ix2 r k)) := by
  rw [bv_fields,
    ← fieldDot_apply X w sc (Host.slice S6912x768 ![0, 0] ![1, 8] X slicesBy_S6912x6144_S6912x768_0s1_0s8) s 0#32 0 rfl (fun r a => by pointwise []) hs r n,
    ← fieldDot_apply X w sc (Host.slice S6912x768 ![0, 1] ![1, 8] X slicesBy_S6912x6144_S6912x768_0s1_1s8) s 4#32 1 rfl (fun r a => by pointwise []) hs r n,
    ← fieldDot_apply X w sc (Host.slice S6912x768 ![0, 2] ![1, 8] X slicesBy_S6912x6144_S6912x768_0s1_2s8) s 8#32 2 rfl (fun r a => by pointwise []) hs r n,
    ← fieldDot_apply X w sc (Host.slice S6912x768 ![0, 3] ![1, 8] X slicesBy_S6912x6144_S6912x768_0s1_3s8) s 12#32 3 rfl (fun r a => by pointwise []) hs r n,
    ← fieldDot_apply X w sc (Host.slice S6912x768 ![0, 4] ![1, 8] X slicesBy_S6912x6144_S6912x768_0s1_4s8) s 16#32 4 rfl (fun r a => by pointwise []) hs r n,
    ← fieldDot_apply X w sc (Host.slice S6912x768 ![0, 5] ![1, 8] X slicesBy_S6912x6144_S6912x768_0s1_5s8) s 20#32 5 rfl (fun r a => by pointwise []) hs r n,
    ← fieldDot_apply X w sc (Host.slice S6912x768 ![0, 6] ![1, 8] X slicesBy_S6912x6144_S6912x768_0s1_6s8) s 24#32 6 rfl (fun r a => by pointwise []) hs r n,
    ← fieldDot_apply X w sc (Host.slice S6912x768 ![0, 7] ![1, 8] X slicesBy_S6912x6144_S6912x768_0s1_7s8) s 28#32 7 rfl (fun r a => by pointwise []) hs r n]
  rfl

end Cert.ReferenceIdeal.Hand

end

end
-- ==== Proof.RefOut.lean ====
/-
  The reference's two results as functions of the arrays.
-/
module

public import proofs.«01_k».proof.Proof.RefBase

@[expose] public section

noncomputable section

namespace Cert.ReferenceIdeal.Hand

open Cert.ReferenceIdeal Cert.ReferenceIdeal.Gen Cert.ReferenceIdeal.Value Cert.LoraWords Cert.Lora
open Idealize.ShloMosaic Idealize.ShloMosaic.TcCoe Idealize.ShloMosaic.Tactic Idealize.SL.Sem
open Cert.KernelIdeal.Hand (Tab tabOf pF)

variable (V0 : Valuation τ sig (Elt Ideal))

/-- The tables the reference reads. -/
def TR : Tab Ideal := tabOf (F := Ideal) (V0 (Proc.devRef .tc main_arg8)) (V0 (Proc.devRef .tc main_arg9)) (V0 (Proc.devRef .tc main_arg5))
  (V0 (Proc.devRef .tc main_arg6)) (V0 (Proc.devRef .tc main_arg7))

/-- The masked activations of segment `s`. -/
def segH (s : ℕ) : FVec Ideal S6912x3x64 .bf16 :=
  maskedH (res_main_v0 V0) (V0 (Proc.devRef .tc main_arg3)) (V0 (Proc.devRef .tc main_arg6)) (V0 (Proc.devRef .tc main_arg7))
    (fun _ => (TR V0).off s) (fun _ => (TR V0).off (s + 1)) (at7 (fun _ => (TR V0).seg s)) (at3 (fun _ => (TR V0).start (ad (TR V0) s)))
    (at2 (fun _ => (TR V0).seg s))

/-- The rows of the second pool of segment `s`. -/
def segB (s : ℕ) : FVec Ideal S64x16384 .bf16 := sliceB (V0 (Proc.devRef .tc main_arg4)) (atB (fun _ => (TR V0).start (ad (TR V0) s)))

/-! ## The words of the tables -/

theorem off0 : (shapeCast S_ (extractStridedSlice S1 ![0] (V0 (Proc.devRef .tc main_arg8)) slices_S6_S1_0) shapeCasts_S1_S_ : IVec S_ 32) = fun _ => (TR V0).off 0 := by
  funext i
  pointwise []
  rfl
theorem off1 : (shapeCast S_ (extractStridedSlice S1 ![1] (V0 (Proc.devRef .tc main_arg8)) slices_S6_S1_1) shapeCasts_S1_S_ : IVec S_ 32) = fun _ => (TR V0).off 1 := by
  funext i
  pointwise []
  rfl
theorem off2 : (shapeCast S_ (extractStridedSlice S1 ![2] (V0 (Proc.devRef .tc main_arg8)) slices_S6_S1_2) shapeCasts_S1_S_ : IVec S_ 32) = fun _ => (TR V0).off 2 := by
  funext i
  pointwise []
  rfl
theorem off3 : (shapeCast S_ (extractStridedSlice S1 ![3] (V0 (Proc.devRef .tc main_arg8)) slices_S6_S1_3) shapeCasts_S1_S_ : IVec S_ 32) = fun _ => (TR V0).off 3 := by
  funext i
  pointwise []
  rfl
theorem off4 : (shapeCast S_ (extractStridedSlice S1 ![4] (V0 (Proc.devRef .tc main_arg8)) slices_S6_S1_4) shapeCasts_S1_S_ : IVec S_ 32) = fun _ => (TR V0).off 4 := by
  funext i
  pointwise []
  rfl
theorem off5 : (shapeCast S_ (extractStridedSlice S1 ![5] (V0 (Proc.devRef .tc main_arg8)) slices_S6_S1_5) shapeCasts_S1_S_ : IVec S_ 32) = fun _ => (TR V0).off 5 := by
  funext i
  pointwise []
  rfl
theorem word0 : res_main_v127 V0 = fun _ => (TR V0).seg 0 := by
  funext i
  pointwise [res_main_v127]
  rfl
theorem word1 : res_main_v192 V0 = fun _ => (TR V0).seg 1 := by
  funext i
  pointwise [res_main_v192]
  rfl
theorem word2 : res_main_v257 V0 = fun _ => (TR V0).seg 2 := by
  funext i
  pointwise [res_main_v257]
  rfl
theorem word3 : res_main_v322 V0 = fun _ => (TR V0).seg 3 := by
  funext i
  pointwise [res_main_v322]
  rfl
theorem word4 : res_main_v387 V0 = fun _ => (TR V0).seg 4 := by
  funext i
  pointwise [res_main_v387]
  rfl

/-! ## The five segments -/

variable (h7 : ∀ s < 5, ((TR V0).seg s).toNat < 7)
include h7

theorem first0 : res_main_v132 V0 = fun _ => (TR V0).start (ad (TR V0) 0) := by
  have h : res_main_v132 V0 = startOf (V0 (Proc.devRef .tc main_arg5)) (at7 (res_main_v127 V0)) := rfl
  rw [h, word0]
  exact seg_start _ _ _ _ _ 0 (h7 0 (by decide))
theorem masked0 : res_main_v175 V0 = segH V0 0 := by
  have h : res_main_v175 V0 = maskedH (res_main_v0 V0) (V0 (Proc.devRef .tc main_arg3)) (V0 (Proc.devRef .tc main_arg6)) (V0 (Proc.devRef .tc main_arg7))
    (shapeCast _ (extractStridedSlice S1 ![0] (V0 (Proc.devRef .tc main_arg8)) slices_S6_S1_0) shapeCasts_S1_S_)
    (shapeCast _ (extractStridedSlice S1 ![1] (V0 (Proc.devRef .tc main_arg8)) slices_S6_S1_1) shapeCasts_S1_S_)
    (at7 (res_main_v127 V0)) (at3 (res_main_v132 V0)) (at2 (res_main_v127 V0)) := rfl
  rw [h, off0, off1, word0, first0 V0 h7]
  rfl
theorem rows0 : res_main_v145 V0 = segB V0 0 := by
  have h : res_main_v145 V0 = sliceB (V0 (Proc.devRef .tc main_arg4)) (atB (res_main_v132 V0)) := rfl
  rw [h, first0 V0 h7]
  rfl
theorem first1 : res_main_v197 V0 = fun _ => (TR V0).start (ad (TR V0) 1) := by
  have h : res_main_v197 V0 = startOf (V0 (Proc.devRef .tc main_arg5)) (at7 (res_main_v192 V0)) := rfl
  rw [h, word1]
  exact seg_start _ _ _ _ _ 1 (h7 1 (by decide))
theorem masked1 : res_main_v240 V0 = segH V0 1 := by
  have h : res_main_v240 V0 = maskedH (res_main_v0 V0) (V0 (Proc.devRef .tc main_arg3)) (V0 (Proc.devRef .tc main_arg6)) (V0 (Proc.devRef .tc main_arg7))
    (shapeCast _ (extractStridedSlice S1 ![1] (V0 (Proc.devRef .tc main_arg8)) slices_S6_S1_1) shapeCasts_S1_S_)
    (shapeCast _ (extractStridedSlice S1 ![2] (V0 (Proc.devRef .tc main_arg8)) slices_S6_S1_2) shapeCasts_S1_S_)
    (at7 (res_main_v192 V0)) (at3 (res_main_v197 V0)) (at2 (res_main_v192 V0)) := rfl
  rw [h, off1, off2, word1, first1 V0 h7]
  rfl
theorem rows1 : res_main_v210 V0 = segB V0 1 := by
  have h : res_main_v210 V0 = sliceB (V0 (Proc.devRef .tc main_arg4)) (atB (res_main_v197 V0)) := rfl
  rw [h, first1 V0 h7]
  rfl
theorem first2 : res_main_v262 V0 = fun _ => (TR V0).start (ad (TR V0) 2) := by
  have h : res_main_v262 V0 = startOf (V0 (Proc.devRef .tc main_arg5)) (at7 (res_main_v257 V0)) := rfl
  rw [h, word2]
  exact seg_start _ _ _ _ _ 2 (h7 2 (by decide))
theorem masked2 : res_main_v305 V0 = segH V0 2 := by
  have h : res_main_v305 V0 = maskedH (res_main_v0 V0) (V0 (Proc.devRef .tc main_arg3)) (V0 (Proc.devRef .tc main_arg6)) (V0 (Proc.devRef .tc main_arg7))
    (shapeCast _ (extractStridedSlice S1 ![2] (V0 (Proc.devRef .tc main_arg8)) slices_S6_S1_2) shapeCasts_S1_S_)
    (shapeCast _ (extractStridedSlice S1 ![3] (V0 (Proc.devRef .tc main_arg8)) slices_S6_S1_3) shapeCasts_S1_S_)
    (at7 (res_main_v257 V0)) (at3 (res_main_v262 V0)) (at2 (res_main_v257 V0)) := rfl
  rw [h, off2, off3, word2, first2 V0 h7]
  rfl
theorem rows2 : res_main_v275 V0 = segB V0 2 := by
  have h : res_main_v275 V0 = sliceB (V0 (Proc.devRef .tc main_arg4)) (atB (res_main_v262 V0)) := rfl
  rw [h, first2 V0 h7]
  rfl
theorem first3 : res_main_v327 V0 = fun _ => (TR V0).start (ad (TR V0) 3) := by
  have h : res_main_v327 V0 = startOf (V0 (Proc.devRef .tc main_arg5)) (at7 (res_main_v322 V0)) := rfl
  rw [h, word3]
  exact seg_start _ _ _ _ _ 3 (h7 3 (by decide))
theorem masked3 : res_main_v370 V0 = segH V0 3 := by
  have h : res_main_v370 V0 = maskedH (res_main_v0 V0) (V0 (Proc.devRef .tc main_arg3)) (V0 (Proc.devRef .tc main_arg6)) (V0 (Proc.devRef .tc main_arg7))
    (shapeCast _ (extractStridedSlice S1 ![3] (V0 (Proc.devRef .tc main_arg8)) slices_S6_S1_3) shapeCasts_S1_S_)
    (shapeCast _ (extractStridedSlice S1 ![4] (V0 (Proc.devRef .tc main_arg8)) slices_S6_S1_4) shapeCasts_S1_S_)
    (at7 (res_main_v322 V0)) (at3 (res_main_v327 V0)) (at2 (res_main_v322 V0)) := rfl
  rw [h, off3, off4, word3, first3 V0 h7]
  rfl
theorem rows3 : res_main_v340 V0 = segB V0 3 := by
  have h : res_main_v340 V0 = sliceB (V0 (Proc.devRef .tc main_arg4)) (atB (res_main_v327 V0)) := rfl
  rw [h, first3 V0 h7]
  rfl
theorem first4 : res_main_v392 V0 = fun _ => (TR V0).start (ad (TR V0) 4) := by
  have h : res_main_v392 V0 = startOf (V0 (Proc.devRef .tc main_arg5)) (at7 (res_main_v387 V0)) := rfl
  rw [h, word4]
  exact seg_start _ _ _ _ _ 4 (h7 4 (by decide))
theorem masked4 : res_main_v435 V0 = segH V0 4 := by
  have h : res_main_v435 V0 = maskedH (res_main_v0 V0) (V0 (Proc.devRef .tc main_arg3)) (V0 (Proc.devRef .tc main_arg6)) (V0 (Proc.devRef .tc main_arg7))
    (shapeCast _ (extractStridedSlice S1 ![4] (V0 (Proc.devRef .tc main_arg8)) slices_S6_S1_4) shapeCasts_S1_S_)
    (shapeCast _ (extractStridedSlice S1 ![5] (V0 (Proc.devRef .tc main_arg8)) slices_S6_S1_5) shapeCasts_S1_S_)
    (at7 (res_main_v387 V0)) (at3 (res_main_v392 V0)) (at2 (res_main_v387 V0)) := rfl
  rw [h, off4, off5, word4, first4 V0 h7]
  rfl
theorem rows4 : res_main_v405 V0 = segB V0 4 := by
  have h : res_main_v405 V0 = sliceB (V0 (Proc.devRef .tc main_arg4)) (atB (res_main_v392 V0)) := rfl
  rw [h, first4 V0 h7]
  rfl

/-! ## The results -/

variable (hst : ∀ s < 5, ((TR V0).start (ad (TR V0) s)).toNat ≤ 536)
include hst

theorem segH_apply (s : ℕ) (hs : s < 5) (r : Fin 6912) (g : Fin 3) (j : Fin 64) :
    segH V0 s (ix3 r g j) = hv (TR V0) (pF (V0 (Proc.devRef .tc main_arg3))) (fun k => (show FVec Ideal S6912x6144 .bf16 from res_main_v0 V0) (ix2 r k)) ((r.val : ℕ) : ℤ) s g j.val :=
  seg_h _ _ _ _ _ _ _ s (h7 s hs) (hst s hs) r g j

theorem part_apply (s : ℕ) (hs : s < 5) (r : Fin 6912) (n : Fin 16384) :
    partY (segH V0 s) (segB V0 s) (ix2 r n) = dv (TR V0) (pF (V0 (Proc.devRef .tc main_arg3)))
      (fun a => (show FVec Ideal S600x16384 .bf16 from V0 (Proc.devRef .tc main_arg4)) (ix2 a n))
      (fun k => (show FVec Ideal S6912x6144 .bf16 from res_main_v0 V0) (ix2 r k)) ((r.val : ℕ) : ℤ) s (colGroup n.val) :=
  seg_y _ _ _ _ _ _ _ _ s (h7 s hs) (hst s hs) r n

/-- The second result. -/
theorem ref_h :
    shapeCast S6912x192 (addf (F := Ideal) (φ := .bf16) (addf (F := Ideal) (φ := .bf16) (addf (F := Ideal) (φ := .bf16) (addf (F := Ideal) (φ := .bf16) (addf (F := Ideal) (φ := .bf16) (broadcastInDim S6912x3x64 ![] bcast_S_S6912x3x64 (constant (F := Ideal) S_ .bf16 0x0000#16)) (res_main_v175 V0)) (res_main_v240 V0)) (res_main_v305 V0)) (res_main_v370 V0)) (res_main_v435 V0)) shapeCasts_S6912x3x64_S6912x192
      = fun i => hAll (TR V0) (res_main_v0 V0) (V0 (Proc.devRef .tc main_arg3)) (i 0) (i 1) := by
  rw [masked0 V0 h7, masked1 V0 h7, masked2 V0 h7, masked3 V0 h7, masked4 V0 h7]
  have e := segH_apply V0 h7 hst
  generalize segH V0 = H at e
  funext i
  rw [eq_ix2 i]
  suffices key : ∀ (r : Fin 6912) (l : Fin 192), shapeCast S6912x192 (addf (F := Ideal) (φ := .bf16) (addf (F := Ideal) (φ := .bf16) (addf (F := Ideal) (φ := .bf16) (addf (F := Ideal) (φ := .bf16) (addf (F := Ideal) (φ := .bf16) (broadcastInDim S6912x3x64 ![] bcast_S_S6912x3x64 (constant (F := Ideal) S_ .bf16 0x0000#16)) (H 0)) (H 1)) (H 2)) (H 3)) (H 4)) shapeCasts_S6912x3x64_S6912x192 (ix2 r l)
      = hAll (TR V0) (res_main_v0 V0) (V0 (Proc.devRef .tc main_arg3)) r l from key (i 0) (i 1)
  intro r l
  pointwise []
  rw [e 0 (by decide), e 1 (by decide), e 2 (by decide), e 3 (by decide), e 4 (by decide)]
  rfl

/-- The first result. -/
theorem ref_y : truncf (F := Ideal) .bf16 (show FVec Ideal S6912x16384 .f32 from res_main_v451 V0) bitsLt_bf16_f32
      = fun i => yAll (TR V0) (res_main_v0 V0) (V0 (Proc.devRef .tc main_arg1)) (V0 (Proc.devRef .tc main_arg2)) (V0 (Proc.devRef .tc main_arg3))
          (V0 (Proc.devRef .tc main_arg4)) (i 0) (i 1) := by
  have h : res_main_v451 V0 = addf (F := Ideal) (φ := .f32) (baseOf (res_main_v0 V0) (V0 (Proc.devRef .tc main_arg1)) (res_main_v2 V0))
      (addf (F := Ideal) (φ := .f32) (addf (F := Ideal) (φ := .f32) (addf (F := Ideal) (φ := .f32) (addf (F := Ideal) (φ := .f32) (addf (F := Ideal) (φ := .f32) (broadcastInDim S6912x16384 ![] bcast_S_S6912x16384 (constant (F := Ideal) S_ .f32 0x00000000#32))
        (partY (res_main_v175 V0) (res_main_v145 V0))) (partY (res_main_v240 V0) (res_main_v210 V0))) (partY (res_main_v305 V0) (res_main_v275 V0)))
        (partY (res_main_v370 V0) (res_main_v340 V0))) (partY (res_main_v435 V0) (res_main_v405 V0))) := rfl
  rw [h, masked0 V0 h7, masked1 V0 h7, masked2 V0 h7, masked3 V0 h7, masked4 V0 h7, rows0 V0 h7, rows1 V0 h7, rows2 V0 h7, rows3 V0 h7, rows4 V0 h7]
  have e := part_apply V0 h7 hst
  generalize segH V0 = H at e
  generalize segB V0 = B at e
  generalize hb : baseOf (res_main_v0 V0) (V0 (Proc.devRef .tc main_arg1)) (res_main_v2 V0) = bb
  generalize hp0 : partY (H 0) (B 0) = p0
  generalize hp1 : partY (H 1) (B 1) = p1
  generalize hp2 : partY (H 2) (B 2) = p2
  generalize hp3 : partY (H 3) (B 3) = p3
  generalize hp4 : partY (H 4) (B 4) = p4
  funext i
  rw [eq_ix2 i]
  suffices key : ∀ (r : Fin 6912) (n : Fin 16384), truncf (F := Ideal) .bf16 (addf (F := Ideal) (φ := .f32) bb
      (addf (F := Ideal) (φ := .f32) (addf (F := Ideal) (φ := .f32) (addf (F := Ideal) (φ := .f32) (addf (F := Ideal) (φ := .f32) (addf (F := Ideal) (φ := .f32)
        (broadcastInDim S6912x16384 ![] bcast_S_S6912x16384 (constant (F := Ideal) S_ .f32 0x00000000#32)) p0) p1) p2) p3) p4)) bitsLt_bf16_f32 (ix2 r n)
      = yAll (TR V0) (res_main_v0 V0) (V0 (Proc.devRef .tc main_arg1)) (V0 (Proc.devRef .tc main_arg2)) (V0 (Proc.devRef .tc main_arg3))
          (V0 (Proc.devRef .tc main_arg4)) r n from key (i 0) (i 1)
  intro r n
  have eb := baseOf_apply (res_main_v0 V0) (V0 (Proc.devRef .tc main_arg1)) (V0 (Proc.devRef .tc main_arg2)) (res_main_v2 V0) (scales_apply V0) r n
  rw [hb] at eb
  pointwise []
  subst hp0 hp1 hp2 hp3 hp4
  rw [eb, e 0 (by decide), e 1 (by decide), e 2 (by decide), e 3 (by decide), e 4 (by decide)]
  rfl

end Cert.ReferenceIdeal.Hand

end

end
-- ==== Proof.Values.lean ====
/-
  The two programs end with the same two arrays.
-/
module

public import proofs.«01_k».proof.Defs
public import proofs.«01_k».proof.Proof.Fits
public import proofs.«01_k».proof.Proof.KernelValue
public import proofs.«01_k».proof.Proof.RefOut
public import Idealize.ShloMosaic.Lib.Claim

@[expose] public section

noncomputable section

namespace Cert.Proof

open Idealize.ShloMosaic Idealize.ShloMosaic.TcCoe Idealize.SL.Sem Cert.Lora Cert.LoraWords
open Cert.KernelIdeal.Hand (Tab tabOf SegFits countB liveB dats)

/-- The tables a memory of the kernel holds. -/
def TM (m : (ℓ : Loc Cert.KernelIdeal.nD Cert.KernelIdeal.τ Cert.KernelIdeal.sig) → Buf (Elt Ideal) ℓ) (c : Dev Cert.KernelIdeal.nD) : Tab Ideal :=
  tabOf (F := Ideal) (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

variable (m : (ℓ : Loc Cert.KernelIdeal.nD Cert.KernelIdeal.τ Cert.KernelIdeal.sig) → Buf (Elt Ideal) ℓ) (c : Dev Cert.KernelIdeal.nD)

theorem T0_eq : Cert.KernelIdeal.Hand.T0 m c = TM m c := by
  unfold Cert.KernelIdeal.Hand.T0 TM
  rw [Cert.KernelIdeal.Gen.V_main_arg5 m c, Cert.KernelIdeal.Gen.V_main_arg6 m c, Cert.KernelIdeal.Gen.V_main_arg7 m c,
    Cert.KernelIdeal.Gen.V_main_arg8 m c, Cert.KernelIdeal.Gen.V_main_arg9 m c]

/-- The activations with the rows of the batches one below the other. -/
def XM : FVec Ideal Cert.KernelIdeal.S6912x6144 .bf16 :=
  shapeCast _ (show FVec Ideal Cert.KernelIdeal.S6x1152x6144 .bf16 from m ((c.tc : Thread Cert.KernelIdeal.nD Cert.KernelIdeal.τ).loc Cert.KernelIdeal.main_arg0)) (by decide)

theorem V_x : Cert.KernelIdeal.Gen.V m c Cert.KernelIdeal.main_v0 = XM m c := by
  entry_read
  rfl

variable (hfit : Cert.Pre_KernelIdeal_fits (hPre_fits := Cert.Pre_fits.facts) m)
include hfit

theorem segs (s : ℕ) : SegFits (TM m c) s := by
  obtain ⟨-, h5, h6, h56, -⟩ := Cert.Pre_fits.decode _ _ _ _ _ _ _ _ _ _ (hfit c)
  exact ⟨h5 _, h6 _, h56 _⟩

theorem seg7 (s : ℕ) : ((TM m c).seg s).toNat < 7 := (Cert.Pre_fits.decode _ _ _ _ _ _ _ _ _ _ (hfit c)).1 _

theorem count3 (b : ℕ) (hb : b < 9) : (countB (TM m c) b).toNat ≤ 3 := by
  obtain ⟨-, -, -, -, h⟩ := Cert.Pre_fits.decode _ _ _ _ _ _ _ _ _ _ (hfit c)
  have h := h ⟨b, hb⟩
  have e : IntOp.muli 768#32 (BitVec.ofNat 32 b) = BitVec.ofNat 32 (768 * b) := by
    apply BitVec.eq_of_toNat_eq
    show (768#32 * BitVec.ofNat 32 b).toNat = _
    rw [BitVec.toNat_mul, BitVec.toNat_ofNat, BitVec.toNat_ofNat, BitVec.toNat_ofNat]
    omega
  rw [show (⟨b, hb⟩ : Fin 9).val = b from rfl, e] at h
  exact h

/-- The kernel's first array after its run. -/
theorem kernel_y : (dats m 0 c).arrAt 8 (Cert.KernelIdeal.cfgs 0).N
    = fun i => yAll (TM m c) (XM m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1) := by
  have h := Cert.KernelIdeal.Hand.arr8 m c (by rw [T0_eq m c]; exact fun s _ => segs m c hfit s) (by rw [T0_eq m c]; exact count3 m c hfit)
  unfold Cert.KernelIdeal.Hand.pA Cert.KernelIdeal.Hand.pB at h
  rw [T0_eq m c, V_x m c, Cert.KernelIdeal.Gen.V_main_arg1 m c, Cert.KernelIdeal.Gen.V_main_arg2 m c, Cert.KernelIdeal.Gen.V_main_arg3 m c, Cert.KernelIdeal.Gen.V_main_arg4 m c] at h
  exact h

/-- The kernel's second array after its run. -/
theorem kernel_h : (dats m 0 c).arrAt 9 (Cert.KernelIdeal.cfgs 0).N
    = fun i => hAll (TM m c) (XM m c) (m ((c.tc : Thread Cert.KernelIdeal.nD Cert.KernelIdeal.τ).loc Cert.KernelIdeal.main_arg3)) (i 0) (i 1) := by
  have h := Cert.KernelIdeal.Hand.arr9 m c (by rw [T0_eq m c]; exact fun s _ => segs m c hfit s) (by rw [T0_eq m c]; exact count3 m c hfit)
  unfold Cert.KernelIdeal.Hand.pA at h
  rw [T0_eq m c, V_x m c, Cert.KernelIdeal.Gen.V_main_arg3 m c] at h
  exact h

omit hfit in
/-- Two memories that agree on the arguments hold the same tables. -/
theorem TR_eq (m' : (ℓ : Loc Cert.ReferenceIdeal.nD Cert.ReferenceIdeal.τ Cert.ReferenceIdeal.sig) → Buf (Elt Ideal) ℓ)
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Hand.TR (StableHlo.launchContents m' c) = TM m c := by
  unfold TM
  rw [← h5, ← h6, ← h7, ← h8, ← h9]
  rfl

omit hfit in
theorem x_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.res_main_v0 (StableHlo.launchContents m' c) = XM m c := by
  unfold XM
  rw [← h0]
  rfl

omit hfit in
/-- From memories that agree on the arguments, the two programs end with equal results. -/
theorem algebraic : Cert.algebraic_KernelIdeal_ReferenceIdeal_pre_fits (hKernelIdeal := Cert.KernelIdeal.Gen.facts)
    (hReferenceIdeal := Cert.ReferenceIdeal.Gen.facts) (hPre_fits := Cert.Pre_fits.facts) := by
  intro m g m' g' hfit heq
  refine ⟨fun c => (dats m 0 c).arrAt 8 (Cert.KernelIdeal.cfgs 0).N, fun c => (dats m 0 c).arrAt 9 (Cert.KernelIdeal.cfgs 0).N, ?_, ?_⟩
  · exact Cert.KernelIdeal.Hand.value_main m g
      (fun c j => by rw [Cert.KernelIdeal.Gen.V_main_arg9 m c]; exact (Cert.Pre_fits.decode _ _ _ _ _ _ _ _ _ _ (hfit c)).1 j)
      (fun c j => by
        rw [Cert.KernelIdeal.Gen.V_main_arg5 m c]
        exact lt_of_le_of_lt ((Cert.Pre_fits.decode _ _ _ _ _ _ _ _ _ _ (hfit c)).2.1 j) (by decide))
  · refine (θ_run Cert.ReferenceIdeal.defs _ _).mono (fun r h c => ?_) (Cert.ReferenceIdeal.Value.run (F := Ideal) m' g')
    obtain ⟨e0, e1, e2, e3, e4, e5, e6, e7, e8, e9⟩ := heq c
    have et := TR_eq m c m' e5 e6 e7 e8 e9
    have ex := x_eq m c m' e0
    have s7 : ∀ s < 5, ((Cert.ReferenceIdeal.Hand.TR (StableHlo.launchContents m' c)).seg s).toNat < 7 := by
      rw [et]; exact fun s _ => seg7 m c hfit s
    have st : ∀ s < 5, ((Cert.ReferenceIdeal.Hand.TR (StableHlo.launchContents m' c)).start
        (ad (Cert.ReferenceIdeal.Hand.TR (StableHlo.launchContents m' c)) s)).toNat ≤ 536 := by
      rw [et]; exact fun s _ => (segs m c hfit s).start_le
    have hy := Cert.ReferenceIdeal.Hand.ref_y (StableHlo.launchContents m' c) s7 st
    have hh := Cert.ReferenceIdeal.Hand.ref_h (StableHlo.launchContents m' c) s7 st
    rw [et, ex] at hy hh
    obtain ⟨hv0, hv1, hargs⟩ := h c
    refine ⟨hv0.trans (hy.trans ?_), hv1.trans (hh.trans ?_), hargs⟩
    · refine Eq.trans ?_ (kernel_y m c hfit).symm
      rw [← e1, ← e2, ← e3, ← e4]
      rfl
    · refine Eq.trans ?_ (kernel_h m c hfit).symm
      rw [← e3]
      rfl

end Cert.Proof

end

end
-- ==== Proof.lean ====
/-
  The certificate: the frames of the kernel, of its idealization and of the reference (Proof/Frames.lean), and the
  equality of the two programs' results (Proof/Values.lean). The idealization applies no rewrite, so that it keeps the
  kernel's meaning is immediate.
-/
module

public import proofs.«01_k».proof.Defs
public import proofs.«01_k».proof.Proof.Frames
public import proofs.«01_k».proof.Proof.Values

@[expose] public section

noncomputable section

namespace Cert.Proof

theorem claim : Cert.Claim :=
  ⟨Cert.Kernel.Gen.facts, Cert.KernelIdeal.Gen.facts, Cert.ReferenceIdeal.Gen.facts, Cert.Pre_in_pool.facts, Cert.Pre_fits.facts,
    frame_Kernel, frame_KernelIdeal, frame_KernelIdeal_fits, frame_ReferenceIdeal, frame_ReferenceIdeal_fits, trivial, algebraic⟩

end Cert.Proof

end
